-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x256x64 : S_.BroadcastsInDim S2x512x256x64 (![] : Fin 0 → Fin S2x512x256x64.rank)

variable [Facts]

def fn {F : FTy → Type} [FloatOps F] (main_arg0 : FVec F S2x512x768 .f32) (main_arg1 : FVec F S768x512 .f32) (main_arg2 : FVec F S2x512x256x64 .f32) (main_arg3 : FVec F S2x512x256x64 .f32) (main_arg4 : FVec F S512x768 .f32) : IVec S2x512x768 1 × IVec S768x512 1 × IVec S2x512x256x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x256x64 .f32 := Host.absf main_arg2
  let main_cst_1 : FVec F S_ .f32 := constant S_ .f32 0x7F800000#32
  let main_v7 : FVec F S2x512x256x64 .f32 := broadcastInDim S2x512x256x64 ![] bcast_S_S2x512x256x64 main_cst_1
  let main_v8 : IVec S2x512x256x64 1 := cmpf .olt main_v6 main_v7
  (main_v2, main_v5, main_v8)
-- ==== Pre_finite_ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S_ : Shape := ⟨0, ![]⟩

class Facts : Prop where
  bcast_S_S2x512x768 : S_.BroadcastsInDim S2x512x768 (![] : Fin 0 → Fin S2x512x768.rank)
  bcast_S_S768x16384 : S_.BroadcastsInDim S768x16384 (![] : Fin 0 → Fin S768x16384.rank)
  bcast_S_S2x512x256x64 : S_.BroadcastsInDim S2x512x256x64 (![] : Fin 0 → Fin S2x512x256x64.rank)

variable [Facts]

def fn {F : FTy → Type} [FloatOps F] (main_arg0 : FVec F S2x512x768 .f32) (main_arg1 : FVec F S768x16384 .f32) (main_arg2 : FVec F S2x512x256x64 .f32) (main_arg3 : FVec F S2x512x256x64 .f32) (main_arg4 : FVec F S16384x768 .f32) : IVec S2x512x768 1 × IVec S768x16384 1 × IVec S2x512x256x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x16384 .f32 := Host.absf main_arg1
  let main_cst_0 : FVec F S_ .f32 := constant S_ .f32 0x7F800000#32
  let main_v4 : FVec F S768x16384 .f32 := broadcastInDim S768x16384 ![] bcast_S_S768x16384 main_cst_0
  let main_v5 : IVec S768x16384 1 := cmpf .olt main_v3 main_v4
  let main_v6 : FVec F S2x512x256x64 .f32 := Host.absf main_arg2
  let main_cst_1 : FVec F S_ .f32 := constant S_ .f32 0x7F800000#32
  let main_v7 : FVec F S2x512x256x64 .f32 := broadcastInDim S2x512x256x64 ![] bcast_S_S2x512x256x64 main_cst_1
  let main_v8 : IVec S2x512x256x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S1024x768 : Shape := ⟨2, ![1024, 768]⟩
abbrev S2x8x512x64 : Shape := ⟨4, ![2, 8, 512, 64]⟩
abbrev S32x32x768 : Shape := ⟨3, ![32, 32, 768]⟩
abbrev S2x2x8 : Shape := ⟨3, ![2, 2, 8]⟩
abbrev S32 : Shape := ⟨1, ![32]⟩
abbrev S_ : Shape := ⟨0, ![]⟩
abbrev S1x1x1 : Shape := ⟨3, ![1, 1, 1]⟩
abbrev S1x1x512x64 : Shape := ⟨4, ![1, 1, 512, 64]⟩
abbrev S512x64 : Shape := ⟨2, ![512, 64]⟩
abbrev S1x512x1x64 : Shape := ⟨4, ![1, 512, 1, 64]⟩
abbrev S512x512 : Shape := ⟨2, ![512, 512]⟩
abbrev S768x64 : Shape := ⟨2, ![768, 64]⟩
abbrev S512 : Shape := ⟨1, ![512]⟩
abbrev S512x1 : Shape := ⟨2, ![512, 1]⟩
abbrev S64x768 : Shape := ⟨2, ![64, 768]⟩
abbrev S1 : Shape := ⟨1, ![1]⟩
abbrev S1x32x768 : Shape := ⟨3, ![1, 32, 768]⟩
abbrev S32x768 : Shape := ⟨2, ![32, 768]⟩
abbrev S31x32x768 : Shape := ⟨3, ![31, 32, 768]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x256x64, .f32⟩
  | .hbm, ⟨3, _⟩ => ⟨S2x512x256x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S1024x768, .bf16⟩
  | .local _ .vmem, ⟨5, _⟩ => ⟨S2x8x512x64, .f32⟩
  | .local _ .vmem, ⟨6, _⟩ => ⟨S2x8x512x64, .f32⟩
  | .local _ .vmem, ⟨7, _⟩ => ⟨S32x32x768, .bf16⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 164 → Bool
  | ⟨i, _⟩ => dmaSemScopedAt i

abbrev sig : RefSig :=
  (ofTc nBuf bufTy 1 164 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_125 : BitVec 32) : Fin 4 → Nat :=
  let c0_i32_126 : BitVec 32 := 0#32
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_124 : BitVec 32 := 8#32
  let v128 : BitVec 32 := Scalar.muli v2 c8_i32_124
  let v129 : BitVec 32 := Scalar.addi v128 c0_i32_125
  let c0_i32_135 : BitVec 32 := 0#32
  ![0, 0, v129.toNat, 0]
def k0_off2 (d0 : Dev nD) (c0_i32_221 : BitVec 32) : Fin 4 → Nat :=
  let c1_i32_222 : BitVec 32 := 1#32
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_220 : BitVec 32 := 8#32
  let v192 : BitVec 32 := Scalar.muli v2 c8_i32_220
  let v193 : BitVec 32 := Scalar.addi v192 c0_i32_221
  let c0_i32_231 : BitVec 32 := 0#32
  ![1, 0, v193.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_962 : BitVec 32 := 0#32
  let v839 : BitVec 1 := Scalar.cmpi .ne v2 c0_i32_962
  let v840 : BitVec 32 := Scalar.extui v839
  let c0_i32_963 : BitVec 32 := 0#32
  let v841 : BitVec 1 := Scalar.cmpi .ne v840 c0_i32_963
  v841

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1669 : BitVec 32 := 0#32
  let v1725 : BitVec 32 := Scalar.subi v2 c0_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1669 : BitVec 32 := 0#32
  let v1725 : BitVec 32 := Scalar.subi v2 c0_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev32 : Nat :=
  let c0_i32_1675 : BitVec 32 := 0#32
  let c0_i32_1673 : BitVec 32 := 0#32
  let c1_i32_1674 : BitVec 32 := 1#32
  let v1728 : BitVec 32 := Scalar.muli c0_i32_1673 c1_i32_1674
  let v1729 : BitVec 32 := Scalar.addi c0_i32_1675 v1728
  v1729.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_964 : BitVec 32 := 1#32
  let v842 : BitVec 1 := Scalar.cmpi .ne v2 c1_i32_964
  let v843 : BitVec 32 := Scalar.extui v842
  let c0_i32_965 : BitVec 32 := 0#32
  let v844 : BitVec 1 := Scalar.cmpi .ne v843 c0_i32_965
  v844

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1669 : BitVec 32 := 1#32
  let v1725 : BitVec 32 := Scalar.subi v2 c1_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1669 : BitVec 32 := 1#32
  let v1725 : BitVec 32 := Scalar.subi v2 c1_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev33 : Nat :=
  let c0_i32_1675 : BitVec 32 := 0#32
  let c1_i32_1673 : BitVec 32 := 1#32
  let c1_i32_1674 : BitVec 32 := 1#32
  let v1728 : BitVec 32 := Scalar.muli c1_i32_1673 c1_i32_1674
  let v1729 : BitVec 32 := Scalar.addi c0_i32_1675 v1728
  v1729.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_966 : BitVec 32 := 2#32
  let v845 : BitVec 1 := Scalar.cmpi .ne v2 c2_i32_966
  let v846 : BitVec 32 := Scalar.extui v845
  let c0_i32_967 : BitVec 32 := 0#32
  let v847 : BitVec 1 := Scalar.cmpi .ne v846 c0_i32_967
  v847

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1669 : BitVec 32 := 2#32
  let v1725 : BitVec 32 := Scalar.subi v2 c2_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1669 : BitVec 32 := 2#32
  let v1725 : BitVec 32 := Scalar.subi v2 c2_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev34 : Nat :=
  let c0_i32_1675 : BitVec 32 := 0#32
  let c2_i32_1673 : BitVec 32 := 2#32
  let c1_i32_1674 : BitVec 32 := 1#32
  let v1728 : BitVec 32 := Scalar.muli c2_i32_1673 c1_i32_1674
  let v1729 : BitVec 32 := Scalar.addi c0_i32_1675 v1728
  v1729.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_968 : BitVec 32 := 3#32
  let v848 : BitVec 1 := Scalar.cmpi .ne v2 c3_i32_968
  let v849 : BitVec 32 := Scalar.extui v848
  let c0_i32_969 : BitVec 32 := 0#32
  let v850 : BitVec 1 := Scalar.cmpi .ne v849 c0_i32_969
  v850

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1669 : BitVec 32 := 3#32
  let v1725 : BitVec 32 := Scalar.subi v2 c3_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1669 : BitVec 32 := 3#32
  let v1725 : BitVec 32 := Scalar.subi v2 c3_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev35 : Nat :=
  let c0_i32_1675 : BitVec 32 := 0#32
  let c3_i32_1673 : BitVec 32 := 3#32
  let c1_i32_1674 : BitVec 32 := 1#32
  let v1728 : BitVec 32 := Scalar.muli c3_i32_1673 c1_i32_1674
  let v1729 : BitVec 32 := Scalar.addi c0_i32_1675 v1728
  v1729.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_970 : BitVec 32 := 4#32
  let v851 : BitVec 1 := Scalar.cmpi .ne v2 c4_i32_970
  let v852 : BitVec 32 := Scalar.extui v851
  let c0_i32_971 : BitVec 32 := 0#32
  let v853 : BitVec 1 := Scalar.cmpi .ne v852 c0_i32_971
  v853

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1669 : BitVec 32 := 4#32
  let v1725 : BitVec 32 := Scalar.subi v2 c4_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1669 : BitVec 32 := 4#32
  let v1725 : BitVec 32 := Scalar.subi v2 c4_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev36 : Nat :=
  let c0_i32_1675 : BitVec 32 := 0#32
  let c4_i32_1673 : BitVec 32 := 4#32
  let c1_i32_1674 : BitVec 32 := 1#32
  let v1728 : BitVec 32 := Scalar.muli c4_i32_1673 c1_i32_1674
  let v1729 : BitVec 32 := Scalar.addi c0_i32_1675 v1728
  v1729.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_972 : BitVec 32 := 5#32
  let v854 : BitVec 1 := Scalar.cmpi .ne v2 c5_i32_972
  let v855 : BitVec 32 := Scalar.extui v854
  let c0_i32_973 : BitVec 32 := 0#32
  let v856 : BitVec 1 := Scalar.cmpi .ne v855 c0_i32_973
  v856

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1669 : BitVec 32 := 5#32
  let v1725 : BitVec 32 := Scalar.subi v2 c5_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1669 : BitVec 32 := 5#32
  let v1725 : BitVec 32 := Scalar.subi v2 c5_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev37 : Nat :=
  let c0_i32_1675 : BitVec 32 := 0#32
  let c5_i32_1673 : BitVec 32 := 5#32
  let c1_i32_1674 : BitVec 32 := 1#32
  let v1728 : BitVec 32 := Scalar.muli c5_i32_1673 c1_i32_1674
  let v1729 : BitVec 32 := Scalar.addi c0_i32_1675 v1728
  v1729.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_974 : BitVec 32 := 6#32
  let v857 : BitVec 1 := Scalar.cmpi .ne v2 c6_i32_974
  let v858 : BitVec 32 := Scalar.extui v857
  let c0_i32_975 : BitVec 32 := 0#32
  let v859 : BitVec 1 := Scalar.cmpi .ne v858 c0_i32_975
  v859

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1669 : BitVec 32 := 6#32
  let v1725 : BitVec 32 := Scalar.subi v2 c6_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1669 : BitVec 32 := 6#32
  let v1725 : BitVec 32 := Scalar.subi v2 c6_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev38 : Nat :=
  let c0_i32_1675 : BitVec 32 := 0#32
  let c6_i32_1673 : BitVec 32 := 6#32
  let c1_i32_1674 : BitVec 32 := 1#32
  let v1728 : BitVec 32 := Scalar.muli c6_i32_1673 c1_i32_1674
  let v1729 : BitVec 32 := Scalar.addi c0_i32_1675 v1728
  v1729.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_976 : BitVec 32 := 7#32
  let v860 : BitVec 1 := Scalar.cmpi .ne v2 c7_i32_976
  let v861 : BitVec 32 := Scalar.extui v860
  let c0_i32_977 : BitVec 32 := 0#32
  let v862 : BitVec 1 := Scalar.cmpi .ne v861 c0_i32_977
  v862

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1669 : BitVec 32 := 7#32
  let v1725 : BitVec 32 := Scalar.subi v2 c7_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1669 : BitVec 32 := 7#32
  let v1725 : BitVec 32 := Scalar.subi v2 c7_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev39 : Nat :=
  let c0_i32_1675 : BitVec 32 := 0#32
  let c7_i32_1673 : BitVec 32 := 7#32
  let c1_i32_1674 : BitVec 32 := 1#32
  let v1728 : BitVec 32 := Scalar.muli c7_i32_1673 c1_i32_1674
  let v1729 : BitVec 32 := Scalar.addi c0_i32_1675 v1728
  v1729.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_978 : BitVec 32 := 8#32
  let v863 : BitVec 1 := Scalar.cmpi .ne v2 c8_i32_978
  let v864 : BitVec 32 := Scalar.extui v863
  let c0_i32_979 : BitVec 32 := 0#32
  let v865 : BitVec 1 := Scalar.cmpi .ne v864 c0_i32_979
  v865

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1669 : BitVec 32 := 8#32
  let v1725 : BitVec 32 := Scalar.subi v2 c8_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1669 : BitVec 32 := 8#32
  let v1725 : BitVec 32 := Scalar.subi v2 c8_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev40 : Nat :=
  let c0_i32_1675 : BitVec 32 := 0#32
  let c8_i32_1673 : BitVec 32 := 8#32
  let c1_i32_1674 : BitVec 32 := 1#32
  let v1728 : BitVec 32 := Scalar.muli c8_i32_1673 c1_i32_1674
  let v1729 : BitVec 32 := Scalar.addi c0_i32_1675 v1728
  v1729.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_980 : BitVec 32 := 9#32
  let v866 : BitVec 1 := Scalar.cmpi .ne v2 c9_i32_980
  let v867 : BitVec 32 := Scalar.extui v866
  let c0_i32_981 : BitVec 32 := 0#32
  let v868 : BitVec 1 := Scalar.cmpi .ne v867 c0_i32_981
  v868

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1669 : BitVec 32 := 9#32
  let v1725 : BitVec 32 := Scalar.subi v2 c9_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1669 : BitVec 32 := 9#32
  let v1725 : BitVec 32 := Scalar.subi v2 c9_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev41 : Nat :=
  let c0_i32_1675 : BitVec 32 := 0#32
  let c9_i32_1673 : BitVec 32 := 9#32
  let c1_i32_1674 : BitVec 32 := 1#32
  let v1728 : BitVec 32 := Scalar.muli c9_i32_1673 c1_i32_1674
  let v1729 : BitVec 32 := Scalar.addi c0_i32_1675 v1728
  v1729.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_982 : BitVec 32 := 10#32
  let v869 : BitVec 1 := Scalar.cmpi .ne v2 c10_i32_982
  let v870 : BitVec 32 := Scalar.extui v869
  let c0_i32_983 : BitVec 32 := 0#32
  let v871 : BitVec 1 := Scalar.cmpi .ne v870 c0_i32_983
  v871

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1669 : BitVec 32 := 10#32
  let v1725 : BitVec 32 := Scalar.subi v2 c10_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1669 : BitVec 32 := 10#32
  let v1725 : BitVec 32 := Scalar.subi v2 c10_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev42 : Nat :=
  let c0_i32_1675 : BitVec 32 := 0#32
  let c10_i32_1673 : BitVec 32 := 10#32
  let c1_i32_1674 : BitVec 32 := 1#32
  let v1728 : BitVec 32 := Scalar.muli c10_i32_1673 c1_i32_1674
  let v1729 : BitVec 32 := Scalar.addi c0_i32_1675 v1728
  v1729.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_984 : BitVec 32 := 11#32
  let v872 : BitVec 1 := Scalar.cmpi .ne v2 c11_i32_984
  let v873 : BitVec 32 := Scalar.extui v872
  let c0_i32_985 : BitVec 32 := 0#32
  let v874 : BitVec 1 := Scalar.cmpi .ne v873 c0_i32_985
  v874

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1669 : BitVec 32 := 11#32
  let v1725 : BitVec 32 := Scalar.subi v2 c11_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1669 : BitVec 32 := 11#32
  let v1725 : BitVec 32 := Scalar.subi v2 c11_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev43 : Nat :=
  let c0_i32_1675 : BitVec 32 := 0#32
  let c11_i32_1673 : BitVec 32 := 11#32
  let c1_i32_1674 : BitVec 32 := 1#32
  let v1728 : BitVec 32 := Scalar.muli c11_i32_1673 c1_i32_1674
  let v1729 : BitVec 32 := Scalar.addi c0_i32_1675 v1728
  v1729.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_986 : BitVec 32 := 12#32
  let v875 : BitVec 1 := Scalar.cmpi .ne v2 c12_i32_986
  let v876 : BitVec 32 := Scalar.extui v875
  let c0_i32_987 : BitVec 32 := 0#32
  let v877 : BitVec 1 := Scalar.cmpi .ne v876 c0_i32_987
  v877

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1669 : BitVec 32 := 12#32
  let v1725 : BitVec 32 := Scalar.subi v2 c12_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1669 : BitVec 32 := 12#32
  let v1725 : BitVec 32 := Scalar.subi v2 c12_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev44 : Nat :=
  let c0_i32_1675 : BitVec 32 := 0#32
  let c12_i32_1673 : BitVec 32 := 12#32
  let c1_i32_1674 : BitVec 32 := 1#32
  let v1728 : BitVec 32 := Scalar.muli c12_i32_1673 c1_i32_1674
  let v1729 : BitVec 32 := Scalar.addi c0_i32_1675 v1728
  v1729.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_988 : BitVec 32 := 13#32
  let v878 : BitVec 1 := Scalar.cmpi .ne v2 c13_i32_988
  let v879 : BitVec 32 := Scalar.extui v878
  let c0_i32_989 : BitVec 32 := 0#32
  let v880 : BitVec 1 := Scalar.cmpi .ne v879 c0_i32_989
  v880

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1669 : BitVec 32 := 13#32
  let v1725 : BitVec 32 := Scalar.subi v2 c13_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1669 : BitVec 32 := 13#32
  let v1725 : BitVec 32 := Scalar.subi v2 c13_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev45 : Nat :=
  let c0_i32_1675 : BitVec 32 := 0#32
  let c13_i32_1673 : BitVec 32 := 13#32
  let c1_i32_1674 : BitVec 32 := 1#32
  let v1728 : BitVec 32 := Scalar.muli c13_i32_1673 c1_i32_1674
  let v1729 : BitVec 32 := Scalar.addi c0_i32_1675 v1728
  v1729.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_990 : BitVec 32 := 14#32
  let v881 : BitVec 1 := Scalar.cmpi .ne v2 c14_i32_990
  let v882 : BitVec 32 := Scalar.extui v881
  let c0_i32_991 : BitVec 32 := 0#32
  let v883 : BitVec 1 := Scalar.cmpi .ne v882 c0_i32_991
  v883

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1669 : BitVec 32 := 14#32
  let v1725 : BitVec 32 := Scalar.subi v2 c14_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1669 : BitVec 32 := 14#32
  let v1725 : BitVec 32 := Scalar.subi v2 c14_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev46 : Nat :=
  let c0_i32_1675 : BitVec 32 := 0#32
  let c14_i32_1673 : BitVec 32 := 14#32
  let c1_i32_1674 : BitVec 32 := 1#32
  let v1728 : BitVec 32 := Scalar.muli c14_i32_1673 c1_i32_1674
  let v1729 : BitVec 32 := Scalar.addi c0_i32_1675 v1728
  v1729.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_992 : BitVec 32 := 15#32
  let v884 : BitVec 1 := Scalar.cmpi .ne v2 c15_i32_992
  let v885 : BitVec 32 := Scalar.extui v884
  let c0_i32_993 : BitVec 32 := 0#32
  let v886 : BitVec 1 := Scalar.cmpi .ne v885 c0_i32_993
  v886

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1669 : BitVec 32 := 15#32
  let v1725 : BitVec 32 := Scalar.subi v2 c15_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1669 : BitVec 32 := 15#32
  let v1725 : BitVec 32 := Scalar.subi v2 c15_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev47 : Nat :=
  let c0_i32_1675 : BitVec 32 := 0#32
  let c15_i32_1673 : BitVec 32 := 15#32
  let c1_i32_1674 : BitVec 32 := 1#32
  let v1728 : BitVec 32 := Scalar.muli c15_i32_1673 c1_i32_1674
  let v1729 : BitVec 32 := Scalar.addi c0_i32_1675 v1728
  v1729.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1124 : BitVec 32 := 16#32
  let v1125 : BitVec 1 := Scalar.cmpi .ne v2 c16_i32_1124
  let v1126 : BitVec 32 := Scalar.extui v1125
  let c0_i32_1125 : BitVec 32 := 0#32
  let v1127 : BitVec 1 := Scalar.cmpi .ne v1126 c0_i32_1125
  v1127

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1669 : BitVec 32 := 16#32
  let v1725 : BitVec 32 := Scalar.subi v2 c16_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1669 : BitVec 32 := 16#32
  let v1725 : BitVec 32 := Scalar.subi v2 c16_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev48 : Nat :=
  let c0_i32_1675 : BitVec 32 := 0#32
  let c16_i32_1673 : BitVec 32 := 16#32
  let c1_i32_1674 : BitVec 32 := 1#32
  let v1728 : BitVec 32 := Scalar.muli c16_i32_1673 c1_i32_1674
  let v1729 : BitVec 32 := Scalar.addi c0_i32_1675 v1728
  v1729.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1126 : BitVec 32 := 17#32
  let v1128 : BitVec 1 := Scalar.cmpi .ne v2 c17_i32_1126
  let v1129 : BitVec 32 := Scalar.extui v1128
  let c0_i32_1127 : BitVec 32 := 0#32
  let v1130 : BitVec 1 := Scalar.cmpi .ne v1129 c0_i32_1127
  v1130

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1669 : BitVec 32 := 17#32
  let v1725 : BitVec 32 := Scalar.subi v2 c17_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1669 : BitVec 32 := 17#32
  let v1725 : BitVec 32 := Scalar.subi v2 c17_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev49 : Nat :=
  let c0_i32_1675 : BitVec 32 := 0#32
  let c17_i32_1673 : BitVec 32 := 17#32
  let c1_i32_1674 : BitVec 32 := 1#32
  let v1728 : BitVec 32 := Scalar.muli c17_i32_1673 c1_i32_1674
  let v1729 : BitVec 32 := Scalar.addi c0_i32_1675 v1728
  v1729.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1128 : BitVec 32 := 18#32
  let v1131 : BitVec 1 := Scalar.cmpi .ne v2 c18_i32_1128
  let v1132 : BitVec 32 := Scalar.extui v1131
  let c0_i32_1129 : BitVec 32 := 0#32
  let v1133 : BitVec 1 := Scalar.cmpi .ne v1132 c0_i32_1129
  v1133

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1669 : BitVec 32 := 18#32
  let v1725 : BitVec 32 := Scalar.subi v2 c18_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1669 : BitVec 32 := 18#32
  let v1725 : BitVec 32 := Scalar.subi v2 c18_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev50 : Nat :=
  let c0_i32_1675 : BitVec 32 := 0#32
  let c18_i32_1673 : BitVec 32 := 18#32
  let c1_i32_1674 : BitVec 32 := 1#32
  let v1728 : BitVec 32 := Scalar.muli c18_i32_1673 c1_i32_1674
  let v1729 : BitVec 32 := Scalar.addi c0_i32_1675 v1728
  v1729.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1130 : BitVec 32 := 19#32
  let v1134 : BitVec 1 := Scalar.cmpi .ne v2 c19_i32_1130
  let v1135 : BitVec 32 := Scalar.extui v1134
  let c0_i32_1131 : BitVec 32 := 0#32
  let v1136 : BitVec 1 := Scalar.cmpi .ne v1135 c0_i32_1131
  v1136

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1669 : BitVec 32 := 19#32
  let v1725 : BitVec 32 := Scalar.subi v2 c19_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1669 : BitVec 32 := 19#32
  let v1725 : BitVec 32 := Scalar.subi v2 c19_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev51 : Nat :=
  let c0_i32_1675 : BitVec 32 := 0#32
  let c19_i32_1673 : BitVec 32 := 19#32
  let c1_i32_1674 : BitVec 32 := 1#32
  let v1728 : BitVec 32 := Scalar.muli c19_i32_1673 c1_i32_1674
  let v1729 : BitVec 32 := Scalar.addi c0_i32_1675 v1728
  v1729.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1132 : BitVec 32 := 20#32
  let v1137 : BitVec 1 := Scalar.cmpi .ne v2 c20_i32_1132
  let v1138 : BitVec 32 := Scalar.extui v1137
  let c0_i32_1133 : BitVec 32 := 0#32
  let v1139 : BitVec 1 := Scalar.cmpi .ne v1138 c0_i32_1133
  v1139

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1669 : BitVec 32 := 20#32
  let v1725 : BitVec 32 := Scalar.subi v2 c20_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1669 : BitVec 32 := 20#32
  let v1725 : BitVec 32 := Scalar.subi v2 c20_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev52 : Nat :=
  let c0_i32_1675 : BitVec 32 := 0#32
  let c20_i32_1673 : BitVec 32 := 20#32
  let c1_i32_1674 : BitVec 32 := 1#32
  let v1728 : BitVec 32 := Scalar.muli c20_i32_1673 c1_i32_1674
  let v1729 : BitVec 32 := Scalar.addi c0_i32_1675 v1728
  v1729.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1134 : BitVec 32 := 21#32
  let v1140 : BitVec 1 := Scalar.cmpi .ne v2 c21_i32_1134
  let v1141 : BitVec 32 := Scalar.extui v1140
  let c0_i32_1135 : BitVec 32 := 0#32
  let v1142 : BitVec 1 := Scalar.cmpi .ne v1141 c0_i32_1135
  v1142

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1669 : BitVec 32 := 21#32
  let v1725 : BitVec 32 := Scalar.subi v2 c21_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1669 : BitVec 32 := 21#32
  let v1725 : BitVec 32 := Scalar.subi v2 c21_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev53 : Nat :=
  let c0_i32_1675 : BitVec 32 := 0#32
  let c21_i32_1673 : BitVec 32 := 21#32
  let c1_i32_1674 : BitVec 32 := 1#32
  let v1728 : BitVec 32 := Scalar.muli c21_i32_1673 c1_i32_1674
  let v1729 : BitVec 32 := Scalar.addi c0_i32_1675 v1728
  v1729.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1136 : BitVec 32 := 22#32
  let v1143 : BitVec 1 := Scalar.cmpi .ne v2 c22_i32_1136
  let v1144 : BitVec 32 := Scalar.extui v1143
  let c0_i32_1137 : BitVec 32 := 0#32
  let v1145 : BitVec 1 := Scalar.cmpi .ne v1144 c0_i32_1137
  v1145

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1669 : BitVec 32 := 22#32
  let v1725 : BitVec 32 := Scalar.subi v2 c22_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1669 : BitVec 32 := 22#32
  let v1725 : BitVec 32 := Scalar.subi v2 c22_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev54 : Nat :=
  let c0_i32_1675 : BitVec 32 := 0#32
  let c22_i32_1673 : BitVec 32 := 22#32
  let c1_i32_1674 : BitVec 32 := 1#32
  let v1728 : BitVec 32 := Scalar.muli c22_i32_1673 c1_i32_1674
  let v1729 : BitVec 32 := Scalar.addi c0_i32_1675 v1728
  v1729.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1138 : BitVec 32 := 23#32
  let v1146 : BitVec 1 := Scalar.cmpi .ne v2 c23_i32_1138
  let v1147 : BitVec 32 := Scalar.extui v1146
  let c0_i32_1139 : BitVec 32 := 0#32
  let v1148 : BitVec 1 := Scalar.cmpi .ne v1147 c0_i32_1139
  v1148

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1669 : BitVec 32 := 23#32
  let v1725 : BitVec 32 := Scalar.subi v2 c23_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1669 : BitVec 32 := 23#32
  let v1725 : BitVec 32 := Scalar.subi v2 c23_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev55 : Nat :=
  let c0_i32_1675 : BitVec 32 := 0#32
  let c23_i32_1673 : BitVec 32 := 23#32
  let c1_i32_1674 : BitVec 32 := 1#32
  let v1728 : BitVec 32 := Scalar.muli c23_i32_1673 c1_i32_1674
  let v1729 : BitVec 32 := Scalar.addi c0_i32_1675 v1728
  v1729.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1140 : BitVec 32 := 24#32
  let v1149 : BitVec 1 := Scalar.cmpi .ne v2 c24_i32_1140
  let v1150 : BitVec 32 := Scalar.extui v1149
  let c0_i32_1141 : BitVec 32 := 0#32
  let v1151 : BitVec 1 := Scalar.cmpi .ne v1150 c0_i32_1141
  v1151

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1669 : BitVec 32 := 24#32
  let v1725 : BitVec 32 := Scalar.subi v2 c24_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1669 : BitVec 32 := 24#32
  let v1725 : BitVec 32 := Scalar.subi v2 c24_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev56 : Nat :=
  let c0_i32_1675 : BitVec 32 := 0#32
  let c24_i32_1673 : BitVec 32 := 24#32
  let c1_i32_1674 : BitVec 32 := 1#32
  let v1728 : BitVec 32 := Scalar.muli c24_i32_1673 c1_i32_1674
  let v1729 : BitVec 32 := Scalar.addi c0_i32_1675 v1728
  v1729.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1142 : BitVec 32 := 25#32
  let v1152 : BitVec 1 := Scalar.cmpi .ne v2 c25_i32_1142
  let v1153 : BitVec 32 := Scalar.extui v1152
  let c0_i32_1143 : BitVec 32 := 0#32
  let v1154 : BitVec 1 := Scalar.cmpi .ne v1153 c0_i32_1143
  v1154

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1669 : BitVec 32 := 25#32
  let v1725 : BitVec 32 := Scalar.subi v2 c25_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1669 : BitVec 32 := 25#32
  let v1725 : BitVec 32 := Scalar.subi v2 c25_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev57 : Nat :=
  let c0_i32_1675 : BitVec 32 := 0#32
  let c25_i32_1673 : BitVec 32 := 25#32
  let c1_i32_1674 : BitVec 32 := 1#32
  let v1728 : BitVec 32 := Scalar.muli c25_i32_1673 c1_i32_1674
  let v1729 : BitVec 32 := Scalar.addi c0_i32_1675 v1728
  v1729.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1144 : BitVec 32 := 26#32
  let v1155 : BitVec 1 := Scalar.cmpi .ne v2 c26_i32_1144
  let v1156 : BitVec 32 := Scalar.extui v1155
  let c0_i32_1145 : BitVec 32 := 0#32
  let v1157 : BitVec 1 := Scalar.cmpi .ne v1156 c0_i32_1145
  v1157

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1669 : BitVec 32 := 26#32
  let v1725 : BitVec 32 := Scalar.subi v2 c26_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1669 : BitVec 32 := 26#32
  let v1725 : BitVec 32 := Scalar.subi v2 c26_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev58 : Nat :=
  let c0_i32_1675 : BitVec 32 := 0#32
  let c26_i32_1673 : BitVec 32 := 26#32
  let c1_i32_1674 : BitVec 32 := 1#32
  let v1728 : BitVec 32 := Scalar.muli c26_i32_1673 c1_i32_1674
  let v1729 : BitVec 32 := Scalar.addi c0_i32_1675 v1728
  v1729.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1146 : BitVec 32 := 27#32
  let v1158 : BitVec 1 := Scalar.cmpi .ne v2 c27_i32_1146
  let v1159 : BitVec 32 := Scalar.extui v1158
  let c0_i32_1147 : BitVec 32 := 0#32
  let v1160 : BitVec 1 := Scalar.cmpi .ne v1159 c0_i32_1147
  v1160

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1669 : BitVec 32 := 27#32
  let v1725 : BitVec 32 := Scalar.subi v2 c27_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1669 : BitVec 32 := 27#32
  let v1725 : BitVec 32 := Scalar.subi v2 c27_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev59 : Nat :=
  let c0_i32_1675 : BitVec 32 := 0#32
  let c27_i32_1673 : BitVec 32 := 27#32
  let c1_i32_1674 : BitVec 32 := 1#32
  let v1728 : BitVec 32 := Scalar.muli c27_i32_1673 c1_i32_1674
  let v1729 : BitVec 32 := Scalar.addi c0_i32_1675 v1728
  v1729.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1148 : BitVec 32 := 28#32
  let v1161 : BitVec 1 := Scalar.cmpi .ne v2 c28_i32_1148
  let v1162 : BitVec 32 := Scalar.extui v1161
  let c0_i32_1149 : BitVec 32 := 0#32
  let v1163 : BitVec 1 := Scalar.cmpi .ne v1162 c0_i32_1149
  v1163

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1669 : BitVec 32 := 28#32
  let v1725 : BitVec 32 := Scalar.subi v2 c28_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1669 : BitVec 32 := 28#32
  let v1725 : BitVec 32 := Scalar.subi v2 c28_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev60 : Nat :=
  let c0_i32_1675 : BitVec 32 := 0#32
  let c28_i32_1673 : BitVec 32 := 28#32
  let c1_i32_1674 : BitVec 32 := 1#32
  let v1728 : BitVec 32 := Scalar.muli c28_i32_1673 c1_i32_1674
  let v1729 : BitVec 32 := Scalar.addi c0_i32_1675 v1728
  v1729.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1150 : BitVec 32 := 29#32
  let v1164 : BitVec 1 := Scalar.cmpi .ne v2 c29_i32_1150
  let v1165 : BitVec 32 := Scalar.extui v1164
  let c0_i32_1151 : BitVec 32 := 0#32
  let v1166 : BitVec 1 := Scalar.cmpi .ne v1165 c0_i32_1151
  v1166

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1669 : BitVec 32 := 29#32
  let v1725 : BitVec 32 := Scalar.subi v2 c29_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1669 : BitVec 32 := 29#32
  let v1725 : BitVec 32 := Scalar.subi v2 c29_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev61 : Nat :=
  let c0_i32_1675 : BitVec 32 := 0#32
  let c29_i32_1673 : BitVec 32 := 29#32
  let c1_i32_1674 : BitVec 32 := 1#32
  let v1728 : BitVec 32 := Scalar.muli c29_i32_1673 c1_i32_1674
  let v1729 : BitVec 32 := Scalar.addi c0_i32_1675 v1728
  v1729.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1152 : BitVec 32 := 30#32
  let v1167 : BitVec 1 := Scalar.cmpi .ne v2 c30_i32_1152
  let v1168 : BitVec 32 := Scalar.extui v1167
  let c0_i32_1153 : BitVec 32 := 0#32
  let v1169 : BitVec 1 := Scalar.cmpi .ne v1168 c0_i32_1153
  v1169

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1669 : BitVec 32 := 30#32
  let v1725 : BitVec 32 := Scalar.subi v2 c30_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1669 : BitVec 32 := 30#32
  let v1725 : BitVec 32 := Scalar.subi v2 c30_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev62 : Nat :=
  let c0_i32_1675 : BitVec 32 := 0#32
  let c30_i32_1673 : BitVec 32 := 30#32
  let c1_i32_1674 : BitVec 32 := 1#32
  let v1728 : BitVec 32 := Scalar.muli c30_i32_1673 c1_i32_1674
  let v1729 : BitVec 32 := Scalar.addi c0_i32_1675 v1728
  v1729.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1154 : BitVec 32 := 31#32
  let v1170 : BitVec 1 := Scalar.cmpi .ne v2 c31_i32_1154
  let v1171 : BitVec 32 := Scalar.extui v1170
  let c0_i32_1155 : BitVec 32 := 0#32
  let v1172 : BitVec 1 := Scalar.cmpi .ne v1171 c0_i32_1155
  v1172

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1669 : BitVec 32 := 31#32
  let v1725 : BitVec 32 := Scalar.subi v2 c31_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  ![v1727.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1669 : BitVec 32 := 31#32
  let v1725 : BitVec 32 := Scalar.subi v2 c31_i32_1669
  let c32_i32_1670 : BitVec 32 := 32#32
  let v1726 : BitVec 32 := Scalar.addi v1725 c32_i32_1670
  let c32_i32_1671 : BitVec 32 := 32#32
  let v1727 : BitVec 32 := Scalar.remsi v1726 c32_i32_1671
  let c0_i32_1676 : BitVec 32 := 0#32
  let c0_i32_1677 : BitVec 32 := 0#32
  ![v1727.toNat, 0, 0]
def k0_dev63 : Nat :=
  let c0_i32_1675 : BitVec 32 := 0#32
  let c31_i32_1673 : BitVec 32 := 31#32
  let c1_i32_1674 : BitVec 32 := 1#32
  let v1728 : BitVec 32 := Scalar.muli c31_i32_1673 c1_i32_1674
  let v1729 : BitVec 32 := Scalar.addi c0_i32_1675 v1728
  v1729.toNat
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let v1421 : Index := Scalar.indexCast v600
  let c0_1466 : Index := 0#32
  ![v1421.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1472 : BitVec 32 := 0#32
  let v1433 : BitVec 1 := Scalar.cmpi .ne v2 c0_i32_1472
  let v1434 : BitVec 32 := Scalar.extui v1433
  let c0_i32_1473 : BitVec 32 := 0#32
  let v1435 : BitVec 1 := Scalar.cmpi .ne v1434 c0_i32_1473
  v1435

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev64 : Nat :=
  let c0_i32_1672 : BitVec 32 := 0#32
  let c0_i32_1670 : BitVec 32 := 0#32
  let c1_i32_1671 : BitVec 32 := 1#32
  let v1725 : BitVec 32 := Scalar.muli c0_i32_1670 c1_i32_1671
  let v1726 : BitVec 32 := Scalar.addi c0_i32_1672 v1725
  v1726.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1474 : BitVec 32 := 1#32
  let v1436 : BitVec 1 := Scalar.cmpi .ne v2 c1_i32_1474
  let v1437 : BitVec 32 := Scalar.extui v1436
  let c0_i32_1475 : BitVec 32 := 0#32
  let v1438 : BitVec 1 := Scalar.cmpi .ne v1437 c0_i32_1475
  v1438

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev65 : Nat :=
  let c0_i32_1672 : BitVec 32 := 0#32
  let c1_i32_1670 : BitVec 32 := 1#32
  let c1_i32_1671 : BitVec 32 := 1#32
  let v1725 : BitVec 32 := Scalar.muli c1_i32_1670 c1_i32_1671
  let v1726 : BitVec 32 := Scalar.addi c0_i32_1672 v1725
  v1726.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1476 : BitVec 32 := 2#32
  let v1439 : BitVec 1 := Scalar.cmpi .ne v2 c2_i32_1476
  let v1440 : BitVec 32 := Scalar.extui v1439
  let c0_i32_1477 : BitVec 32 := 0#32
  let v1441 : BitVec 1 := Scalar.cmpi .ne v1440 c0_i32_1477
  v1441

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev66 : Nat :=
  let c0_i32_1672 : BitVec 32 := 0#32
  let c2_i32_1670 : BitVec 32 := 2#32
  let c1_i32_1671 : BitVec 32 := 1#32
  let v1725 : BitVec 32 := Scalar.muli c2_i32_1670 c1_i32_1671
  let v1726 : BitVec 32 := Scalar.addi c0_i32_1672 v1725
  v1726.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1478 : BitVec 32 := 3#32
  let v1442 : BitVec 1 := Scalar.cmpi .ne v2 c3_i32_1478
  let v1443 : BitVec 32 := Scalar.extui v1442
  let c0_i32_1479 : BitVec 32 := 0#32
  let v1444 : BitVec 1 := Scalar.cmpi .ne v1443 c0_i32_1479
  v1444

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev67 : Nat :=
  let c0_i32_1672 : BitVec 32 := 0#32
  let c3_i32_1670 : BitVec 32 := 3#32
  let c1_i32_1671 : BitVec 32 := 1#32
  let v1725 : BitVec 32 := Scalar.muli c3_i32_1670 c1_i32_1671
  let v1726 : BitVec 32 := Scalar.addi c0_i32_1672 v1725
  v1726.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1480 : BitVec 32 := 4#32
  let v1445 : BitVec 1 := Scalar.cmpi .ne v2 c4_i32_1480
  let v1446 : BitVec 32 := Scalar.extui v1445
  let c0_i32_1481 : BitVec 32 := 0#32
  let v1447 : BitVec 1 := Scalar.cmpi .ne v1446 c0_i32_1481
  v1447

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev68 : Nat :=
  let c0_i32_1672 : BitVec 32 := 0#32
  let c4_i32_1670 : BitVec 32 := 4#32
  let c1_i32_1671 : BitVec 32 := 1#32
  let v1725 : BitVec 32 := Scalar.muli c4_i32_1670 c1_i32_1671
  let v1726 : BitVec 32 := Scalar.addi c0_i32_1672 v1725
  v1726.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1482 : BitVec 32 := 5#32
  let v1448 : BitVec 1 := Scalar.cmpi .ne v2 c5_i32_1482
  let v1449 : BitVec 32 := Scalar.extui v1448
  let c0_i32_1483 : BitVec 32 := 0#32
  let v1450 : BitVec 1 := Scalar.cmpi .ne v1449 c0_i32_1483
  v1450

def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev69 : Nat :=
  let c0_i32_1672 : BitVec 32 := 0#32
  let c5_i32_1670 : BitVec 32 := 5#32
  let c1_i32_1671 : BitVec 32 := 1#32
  let v1725 : BitVec 32 := Scalar.muli c5_i32_1670 c1_i32_1671
  let v1726 : BitVec 32 := Scalar.addi c0_i32_1672 v1725
  v1726.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1484 : BitVec 32 := 6#32
  let v1451 : BitVec 1 := Scalar.cmpi .ne v2 c6_i32_1484
  let v1452 : BitVec 32 := Scalar.extui v1451
  let c0_i32_1485 : BitVec 32 := 0#32
  let v1453 : BitVec 1 := Scalar.cmpi .ne v1452 c0_i32_1485
  v1453

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev70 : Nat :=
  let c0_i32_1672 : BitVec 32 := 0#32
  let c6_i32_1670 : BitVec 32 := 6#32
  let c1_i32_1671 : BitVec 32 := 1#32
  let v1725 : BitVec 32 := Scalar.muli c6_i32_1670 c1_i32_1671
  let v1726 : BitVec 32 := Scalar.addi c0_i32_1672 v1725
  v1726.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1486 : BitVec 32 := 7#32
  let v1454 : BitVec 1 := Scalar.cmpi .ne v2 c7_i32_1486
  let v1455 : BitVec 32 := Scalar.extui v1454
  let c0_i32_1487 : BitVec 32 := 0#32
  let v1456 : BitVec 1 := Scalar.cmpi .ne v1455 c0_i32_1487
  v1456

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev71 : Nat :=
  let c0_i32_1672 : BitVec 32 := 0#32
  let c7_i32_1670 : BitVec 32 := 7#32
  let c1_i32_1671 : BitVec 32 := 1#32
  let v1725 : BitVec 32 := Scalar.muli c7_i32_1670 c1_i32_1671
  let v1726 : BitVec 32 := Scalar.addi c0_i32_1672 v1725
  v1726.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1488 : BitVec 32 := 8#32
  let v1457 : BitVec 1 := Scalar.cmpi .ne v2 c8_i32_1488
  let v1458 : BitVec 32 := Scalar.extui v1457
  let c0_i32_1489 : BitVec 32 := 0#32
  let v1459 : BitVec 1 := Scalar.cmpi .ne v1458 c0_i32_1489
  v1459

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev72 : Nat :=
  let c0_i32_1672 : BitVec 32 := 0#32
  let c8_i32_1670 : BitVec 32 := 8#32
  let c1_i32_1671 : BitVec 32 := 1#32
  let v1725 : BitVec 32 := Scalar.muli c8_i32_1670 c1_i32_1671
  let v1726 : BitVec 32 := Scalar.addi c0_i32_1672 v1725
  v1726.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1490 : BitVec 32 := 9#32
  let v1460 : BitVec 1 := Scalar.cmpi .ne v2 c9_i32_1490
  let v1461 : BitVec 32 := Scalar.extui v1460
  let c0_i32_1491 : BitVec 32 := 0#32
  let v1462 : BitVec 1 := Scalar.cmpi .ne v1461 c0_i32_1491
  v1462

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev73 : Nat :=
  let c0_i32_1672 : BitVec 32 := 0#32
  let c9_i32_1670 : BitVec 32 := 9#32
  let c1_i32_1671 : BitVec 32 := 1#32
  let v1725 : BitVec 32 := Scalar.muli c9_i32_1670 c1_i32_1671
  let v1726 : BitVec 32 := Scalar.addi c0_i32_1672 v1725
  v1726.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1492 : BitVec 32 := 10#32
  let v1463 : BitVec 1 := Scalar.cmpi .ne v2 c10_i32_1492
  let v1464 : BitVec 32 := Scalar.extui v1463
  let c0_i32_1493 : BitVec 32 := 0#32
  let v1465 : BitVec 1 := Scalar.cmpi .ne v1464 c0_i32_1493
  v1465

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev74 : Nat :=
  let c0_i32_1672 : BitVec 32 := 0#32
  let c10_i32_1670 : BitVec 32 := 10#32
  let c1_i32_1671 : BitVec 32 := 1#32
  let v1725 : BitVec 32 := Scalar.muli c10_i32_1670 c1_i32_1671
  let v1726 : BitVec 32 := Scalar.addi c0_i32_1672 v1725
  v1726.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1494 : BitVec 32 := 11#32
  let v1466 : BitVec 1 := Scalar.cmpi .ne v2 c11_i32_1494
  let v1467 : BitVec 32 := Scalar.extui v1466
  let c0_i32_1495 : BitVec 32 := 0#32
  let v1468 : BitVec 1 := Scalar.cmpi .ne v1467 c0_i32_1495
  v1468

def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev75 : Nat :=
  let c0_i32_1672 : BitVec 32 := 0#32
  let c11_i32_1670 : BitVec 32 := 11#32
  let c1_i32_1671 : BitVec 32 := 1#32
  let v1725 : BitVec 32 := Scalar.muli c11_i32_1670 c1_i32_1671
  let v1726 : BitVec 32 := Scalar.addi c0_i32_1672 v1725
  v1726.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1496 : BitVec 32 := 12#32
  let v1469 : BitVec 1 := Scalar.cmpi .ne v2 c12_i32_1496
  let v1470 : BitVec 32 := Scalar.extui v1469
  let c0_i32_1497 : BitVec 32 := 0#32
  let v1471 : BitVec 1 := Scalar.cmpi .ne v1470 c0_i32_1497
  v1471

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev76 : Nat :=
  let c0_i32_1672 : BitVec 32 := 0#32
  let c12_i32_1670 : BitVec 32 := 12#32
  let c1_i32_1671 : BitVec 32 := 1#32
  let v1725 : BitVec 32 := Scalar.muli c12_i32_1670 c1_i32_1671
  let v1726 : BitVec 32 := Scalar.addi c0_i32_1672 v1725
  v1726.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1498 : BitVec 32 := 13#32
  let v1472 : BitVec 1 := Scalar.cmpi .ne v2 c13_i32_1498
  let v1473 : BitVec 32 := Scalar.extui v1472
  let c0_i32_1499 : BitVec 32 := 0#32
  let v1474 : BitVec 1 := Scalar.cmpi .ne v1473 c0_i32_1499
  v1474

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev77 : Nat :=
  let c0_i32_1672 : BitVec 32 := 0#32
  let c13_i32_1670 : BitVec 32 := 13#32
  let c1_i32_1671 : BitVec 32 := 1#32
  let v1725 : BitVec 32 := Scalar.muli c13_i32_1670 c1_i32_1671
  let v1726 : BitVec 32 := Scalar.addi c0_i32_1672 v1725
  v1726.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1500 : BitVec 32 := 14#32
  let v1475 : BitVec 1 := Scalar.cmpi .ne v2 c14_i32_1500
  let v1476 : BitVec 32 := Scalar.extui v1475
  let c0_i32_1501 : BitVec 32 := 0#32
  let v1477 : BitVec 1 := Scalar.cmpi .ne v1476 c0_i32_1501
  v1477

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev78 : Nat :=
  let c0_i32_1672 : BitVec 32 := 0#32
  let c14_i32_1670 : BitVec 32 := 14#32
  let c1_i32_1671 : BitVec 32 := 1#32
  let v1725 : BitVec 32 := Scalar.muli c14_i32_1670 c1_i32_1671
  let v1726 : BitVec 32 := Scalar.addi c0_i32_1672 v1725
  v1726.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1502 : BitVec 32 := 15#32
  let v1478 : BitVec 1 := Scalar.cmpi .ne v2 c15_i32_1502
  let v1479 : BitVec 32 := Scalar.extui v1478
  let c0_i32_1503 : BitVec 32 := 0#32
  let v1480 : BitVec 1 := Scalar.cmpi .ne v1479 c0_i32_1503
  v1480

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev79 : Nat :=
  let c0_i32_1672 : BitVec 32 := 0#32
  let c15_i32_1670 : BitVec 32 := 15#32
  let c1_i32_1671 : BitVec 32 := 1#32
  let v1725 : BitVec 32 := Scalar.muli c15_i32_1670 c1_i32_1671
  let v1726 : BitVec 32 := Scalar.addi c0_i32_1672 v1725
  v1726.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1504 : BitVec 32 := 16#32
  let v1481 : BitVec 1 := Scalar.cmpi .ne v2 c16_i32_1504
  let v1482 : BitVec 32 := Scalar.extui v1481
  let c0_i32_1505 : BitVec 32 := 0#32
  let v1483 : BitVec 1 := Scalar.cmpi .ne v1482 c0_i32_1505
  v1483

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev80 : Nat :=
  let c0_i32_1672 : BitVec 32 := 0#32
  let c16_i32_1670 : BitVec 32 := 16#32
  let c1_i32_1671 : BitVec 32 := 1#32
  let v1725 : BitVec 32 := Scalar.muli c16_i32_1670 c1_i32_1671
  let v1726 : BitVec 32 := Scalar.addi c0_i32_1672 v1725
  v1726.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1506 : BitVec 32 := 17#32
  let v1484 : BitVec 1 := Scalar.cmpi .ne v2 c17_i32_1506
  let v1485 : BitVec 32 := Scalar.extui v1484
  let c0_i32_1507 : BitVec 32 := 0#32
  let v1486 : BitVec 1 := Scalar.cmpi .ne v1485 c0_i32_1507
  v1486

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev81 : Nat :=
  let c0_i32_1672 : BitVec 32 := 0#32
  let c17_i32_1670 : BitVec 32 := 17#32
  let c1_i32_1671 : BitVec 32 := 1#32
  let v1725 : BitVec 32 := Scalar.muli c17_i32_1670 c1_i32_1671
  let v1726 : BitVec 32 := Scalar.addi c0_i32_1672 v1725
  v1726.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1508 : BitVec 32 := 18#32
  let v1487 : BitVec 1 := Scalar.cmpi .ne v2 c18_i32_1508
  let v1488 : BitVec 32 := Scalar.extui v1487
  let c0_i32_1509 : BitVec 32 := 0#32
  let v1489 : BitVec 1 := Scalar.cmpi .ne v1488 c0_i32_1509
  v1489

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev82 : Nat :=
  let c0_i32_1672 : BitVec 32 := 0#32
  let c18_i32_1670 : BitVec 32 := 18#32
  let c1_i32_1671 : BitVec 32 := 1#32
  let v1725 : BitVec 32 := Scalar.muli c18_i32_1670 c1_i32_1671
  let v1726 : BitVec 32 := Scalar.addi c0_i32_1672 v1725
  v1726.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1510 : BitVec 32 := 19#32
  let v1490 : BitVec 1 := Scalar.cmpi .ne v2 c19_i32_1510
  let v1491 : BitVec 32 := Scalar.extui v1490
  let c0_i32_1511 : BitVec 32 := 0#32
  let v1492 : BitVec 1 := Scalar.cmpi .ne v1491 c0_i32_1511
  v1492

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev83 : Nat :=
  let c0_i32_1672 : BitVec 32 := 0#32
  let c19_i32_1670 : BitVec 32 := 19#32
  let c1_i32_1671 : BitVec 32 := 1#32
  let v1725 : BitVec 32 := Scalar.muli c19_i32_1670 c1_i32_1671
  let v1726 : BitVec 32 := Scalar.addi c0_i32_1672 v1725
  v1726.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1512 : BitVec 32 := 20#32
  let v1493 : BitVec 1 := Scalar.cmpi .ne v2 c20_i32_1512
  let v1494 : BitVec 32 := Scalar.extui v1493
  let c0_i32_1513 : BitVec 32 := 0#32
  let v1495 : BitVec 1 := Scalar.cmpi .ne v1494 c0_i32_1513
  v1495

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev84 : Nat :=
  let c0_i32_1672 : BitVec 32 := 0#32
  let c20_i32_1670 : BitVec 32 := 20#32
  let c1_i32_1671 : BitVec 32 := 1#32
  let v1725 : BitVec 32 := Scalar.muli c20_i32_1670 c1_i32_1671
  let v1726 : BitVec 32 := Scalar.addi c0_i32_1672 v1725
  v1726.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1514 : BitVec 32 := 21#32
  let v1496 : BitVec 1 := Scalar.cmpi .ne v2 c21_i32_1514
  let v1497 : BitVec 32 := Scalar.extui v1496
  let c0_i32_1515 : BitVec 32 := 0#32
  let v1498 : BitVec 1 := Scalar.cmpi .ne v1497 c0_i32_1515
  v1498

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev85 : Nat :=
  let c0_i32_1672 : BitVec 32 := 0#32
  let c21_i32_1670 : BitVec 32 := 21#32
  let c1_i32_1671 : BitVec 32 := 1#32
  let v1725 : BitVec 32 := Scalar.muli c21_i32_1670 c1_i32_1671
  let v1726 : BitVec 32 := Scalar.addi c0_i32_1672 v1725
  v1726.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1516 : BitVec 32 := 22#32
  let v1499 : BitVec 1 := Scalar.cmpi .ne v2 c22_i32_1516
  let v1500 : BitVec 32 := Scalar.extui v1499
  let c0_i32_1517 : BitVec 32 := 0#32
  let v1501 : BitVec 1 := Scalar.cmpi .ne v1500 c0_i32_1517
  v1501

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev86 : Nat :=
  let c0_i32_1672 : BitVec 32 := 0#32
  let c22_i32_1670 : BitVec 32 := 22#32
  let c1_i32_1671 : BitVec 32 := 1#32
  let v1725 : BitVec 32 := Scalar.muli c22_i32_1670 c1_i32_1671
  let v1726 : BitVec 32 := Scalar.addi c0_i32_1672 v1725
  v1726.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1518 : BitVec 32 := 23#32
  let v1502 : BitVec 1 := Scalar.cmpi .ne v2 c23_i32_1518
  let v1503 : BitVec 32 := Scalar.extui v1502
  let c0_i32_1519 : BitVec 32 := 0#32
  let v1504 : BitVec 1 := Scalar.cmpi .ne v1503 c0_i32_1519
  v1504

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev87 : Nat :=
  let c0_i32_1672 : BitVec 32 := 0#32
  let c23_i32_1670 : BitVec 32 := 23#32
  let c1_i32_1671 : BitVec 32 := 1#32
  let v1725 : BitVec 32 := Scalar.muli c23_i32_1670 c1_i32_1671
  let v1726 : BitVec 32 := Scalar.addi c0_i32_1672 v1725
  v1726.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1520 : BitVec 32 := 24#32
  let v1505 : BitVec 1 := Scalar.cmpi .ne v2 c24_i32_1520
  let v1506 : BitVec 32 := Scalar.extui v1505
  let c0_i32_1521 : BitVec 32 := 0#32
  let v1507 : BitVec 1 := Scalar.cmpi .ne v1506 c0_i32_1521
  v1507

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev88 : Nat :=
  let c0_i32_1672 : BitVec 32 := 0#32
  let c24_i32_1670 : BitVec 32 := 24#32
  let c1_i32_1671 : BitVec 32 := 1#32
  let v1725 : BitVec 32 := Scalar.muli c24_i32_1670 c1_i32_1671
  let v1726 : BitVec 32 := Scalar.addi c0_i32_1672 v1725
  v1726.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1522 : BitVec 32 := 25#32
  let v1508 : BitVec 1 := Scalar.cmpi .ne v2 c25_i32_1522
  let v1509 : BitVec 32 := Scalar.extui v1508
  let c0_i32_1523 : BitVec 32 := 0#32
  let v1510 : BitVec 1 := Scalar.cmpi .ne v1509 c0_i32_1523
  v1510

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev89 : Nat :=
  let c0_i32_1672 : BitVec 32 := 0#32
  let c25_i32_1670 : BitVec 32 := 25#32
  let c1_i32_1671 : BitVec 32 := 1#32
  let v1725 : BitVec 32 := Scalar.muli c25_i32_1670 c1_i32_1671
  let v1726 : BitVec 32 := Scalar.addi c0_i32_1672 v1725
  v1726.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1524 : BitVec 32 := 26#32
  let v1511 : BitVec 1 := Scalar.cmpi .ne v2 c26_i32_1524
  let v1512 : BitVec 32 := Scalar.extui v1511
  let c0_i32_1525 : BitVec 32 := 0#32
  let v1513 : BitVec 1 := Scalar.cmpi .ne v1512 c0_i32_1525
  v1513

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev90 : Nat :=
  let c0_i32_1672 : BitVec 32 := 0#32
  let c26_i32_1670 : BitVec 32 := 26#32
  let c1_i32_1671 : BitVec 32 := 1#32
  let v1725 : BitVec 32 := Scalar.muli c26_i32_1670 c1_i32_1671
  let v1726 : BitVec 32 := Scalar.addi c0_i32_1672 v1725
  v1726.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1526 : BitVec 32 := 27#32
  let v1514 : BitVec 1 := Scalar.cmpi .ne v2 c27_i32_1526
  let v1515 : BitVec 32 := Scalar.extui v1514
  let c0_i32_1527 : BitVec 32 := 0#32
  let v1516 : BitVec 1 := Scalar.cmpi .ne v1515 c0_i32_1527
  v1516

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev91 : Nat :=
  let c0_i32_1672 : BitVec 32 := 0#32
  let c27_i32_1670 : BitVec 32 := 27#32
  let c1_i32_1671 : BitVec 32 := 1#32
  let v1725 : BitVec 32 := Scalar.muli c27_i32_1670 c1_i32_1671
  let v1726 : BitVec 32 := Scalar.addi c0_i32_1672 v1725
  v1726.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1528 : BitVec 32 := 28#32
  let v1517 : BitVec 1 := Scalar.cmpi .ne v2 c28_i32_1528
  let v1518 : BitVec 32 := Scalar.extui v1517
  let c0_i32_1529 : BitVec 32 := 0#32
  let v1519 : BitVec 1 := Scalar.cmpi .ne v1518 c0_i32_1529
  v1519

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev92 : Nat :=
  let c0_i32_1672 : BitVec 32 := 0#32
  let c28_i32_1670 : BitVec 32 := 28#32
  let c1_i32_1671 : BitVec 32 := 1#32
  let v1725 : BitVec 32 := Scalar.muli c28_i32_1670 c1_i32_1671
  let v1726 : BitVec 32 := Scalar.addi c0_i32_1672 v1725
  v1726.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1530 : BitVec 32 := 29#32
  let v1520 : BitVec 1 := Scalar.cmpi .ne v2 c29_i32_1530
  let v1521 : BitVec 32 := Scalar.extui v1520
  let c0_i32_1531 : BitVec 32 := 0#32
  let v1522 : BitVec 1 := Scalar.cmpi .ne v1521 c0_i32_1531
  v1522

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev93 : Nat :=
  let c0_i32_1672 : BitVec 32 := 0#32
  let c29_i32_1670 : BitVec 32 := 29#32
  let c1_i32_1671 : BitVec 32 := 1#32
  let v1725 : BitVec 32 := Scalar.muli c29_i32_1670 c1_i32_1671
  let v1726 : BitVec 32 := Scalar.addi c0_i32_1672 v1725
  v1726.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1532 : BitVec 32 := 30#32
  let v1523 : BitVec 1 := Scalar.cmpi .ne v2 c30_i32_1532
  let v1524 : BitVec 32 := Scalar.extui v1523
  let c0_i32_1533 : BitVec 32 := 0#32
  let v1525 : BitVec 1 := Scalar.cmpi .ne v1524 c0_i32_1533
  v1525

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev94 : Nat :=
  let c0_i32_1672 : BitVec 32 := 0#32
  let c30_i32_1670 : BitVec 32 := 30#32
  let c1_i32_1671 : BitVec 32 := 1#32
  let v1725 : BitVec 32 := Scalar.muli c30_i32_1670 c1_i32_1671
  let v1726 : BitVec 32 := Scalar.addi c0_i32_1672 v1725
  v1726.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1534 : BitVec 32 := 31#32
  let v1526 : BitVec 1 := Scalar.cmpi .ne v2 c31_i32_1534
  let v1527 : BitVec 32 := Scalar.extui v1526
  let c0_i32_1535 : BitVec 32 := 0#32
  let v1528 : BitVec 1 := Scalar.cmpi .ne v1527 c0_i32_1535
  v1528

def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1673 : BitVec 32 := 0#32
  ![v600.toNat, 0]
def k0_dev95 : Nat :=
  let c0_i32_1672 : BitVec 32 := 0#32
  let c31_i32_1670 : BitVec 32 := 31#32
  let c1_i32_1671 : BitVec 32 := 1#32
  let v1725 : BitVec 32 := Scalar.muli c31_i32_1670 c1_i32_1671
  let v1726 : BitVec 32 := Scalar.addi c0_i32_1672 v1725
  v1726.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1605 : BitVec 32 := 0#32
  let v1629 : BitVec 1 := Scalar.cmpi .ne v2 c0_i32_1605
  let v1630 : BitVec 32 := Scalar.extui v1629
  let c0_i32_1606 : BitVec 32 := 0#32
  let v1631 : BitVec 1 := Scalar.cmpi .ne v1630 c0_i32_1606
  v1631

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1683 : BitVec 32 := 0#32
  ![v600.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1607 : BitVec 32 := 1#32
  let v1632 : BitVec 1 := Scalar.cmpi .ne v2 c1_i32_1607
  let v1633 : BitVec 32 := Scalar.extui v1632
  let c0_i32_1608 : BitVec 32 := 0#32
  let v1634 : BitVec 1 := Scalar.cmpi .ne v1633 c0_i32_1608
  v1634

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1683 : BitVec 32 := 0#32
  ![v600.toNat, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1609 : BitVec 32 := 2#32
  let v1635 : BitVec 1 := Scalar.cmpi .ne v2 c2_i32_1609
  let v1636 : BitVec 32 := Scalar.extui v1635
  let c0_i32_1610 : BitVec 32 := 0#32
  let v1637 : BitVec 1 := Scalar.cmpi .ne v1636 c0_i32_1610
  v1637

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1611 : BitVec 32 := 3#32
  let v1638 : BitVec 1 := Scalar.cmpi .ne v2 c3_i32_1611
  let v1639 : BitVec 32 := Scalar.extui v1638
  let c0_i32_1612 : BitVec 32 := 0#32
  let v1640 : BitVec 1 := Scalar.cmpi .ne v1639 c0_i32_1612
  v1640

def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1613 : BitVec 32 := 4#32
  let v1641 : BitVec 1 := Scalar.cmpi .ne v2 c4_i32_1613
  let v1642 : BitVec 32 := Scalar.extui v1641
  let c0_i32_1614 : BitVec 32 := 0#32
  let v1643 : BitVec 1 := Scalar.cmpi .ne v1642 c0_i32_1614
  v1643

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1683 : BitVec 32 := 0#32
  ![v600.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1615 : BitVec 32 := 5#32
  let v1644 : BitVec 1 := Scalar.cmpi .ne v2 c5_i32_1615
  let v1645 : BitVec 32 := Scalar.extui v1644
  let c0_i32_1616 : BitVec 32 := 0#32
  let v1646 : BitVec 1 := Scalar.cmpi .ne v1645 c0_i32_1616
  v1646

def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1617 : BitVec 32 := 6#32
  let v1647 : BitVec 1 := Scalar.cmpi .ne v2 c6_i32_1617
  let v1648 : BitVec 32 := Scalar.extui v1647
  let c0_i32_1618 : BitVec 32 := 0#32
  let v1649 : BitVec 1 := Scalar.cmpi .ne v1648 c0_i32_1618
  v1649

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1619 : BitVec 32 := 7#32
  let v1650 : BitVec 1 := Scalar.cmpi .ne v2 c7_i32_1619
  let v1651 : BitVec 32 := Scalar.extui v1650
  let c0_i32_1620 : BitVec 32 := 0#32
  let v1652 : BitVec 1 := Scalar.cmpi .ne v1651 c0_i32_1620
  v1652

def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1621 : BitVec 32 := 8#32
  let v1653 : BitVec 1 := Scalar.cmpi .ne v2 c8_i32_1621
  let v1654 : BitVec 32 := Scalar.extui v1653
  let c0_i32_1622 : BitVec 32 := 0#32
  let v1655 : BitVec 1 := Scalar.cmpi .ne v1654 c0_i32_1622
  v1655

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1623 : BitVec 32 := 9#32
  let v1656 : BitVec 1 := Scalar.cmpi .ne v2 c9_i32_1623
  let v1657 : BitVec 32 := Scalar.extui v1656
  let c0_i32_1624 : BitVec 32 := 0#32
  let v1658 : BitVec 1 := Scalar.cmpi .ne v1657 c0_i32_1624
  v1658

def k0_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1625 : BitVec 32 := 10#32
  let v1659 : BitVec 1 := Scalar.cmpi .ne v2 c10_i32_1625
  let v1660 : BitVec 32 := Scalar.extui v1659
  let c0_i32_1626 : BitVec 32 := 0#32
  let v1661 : BitVec 1 := Scalar.cmpi .ne v1660 c0_i32_1626
  v1661

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1627 : BitVec 32 := 11#32
  let v1662 : BitVec 1 := Scalar.cmpi .ne v2 c11_i32_1627
  let v1663 : BitVec 32 := Scalar.extui v1662
  let c0_i32_1628 : BitVec 32 := 0#32
  let v1664 : BitVec 1 := Scalar.cmpi .ne v1663 c0_i32_1628
  v1664

def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1629 : BitVec 32 := 12#32
  let v1665 : BitVec 1 := Scalar.cmpi .ne v2 c12_i32_1629
  let v1666 : BitVec 32 := Scalar.extui v1665
  let c0_i32_1630 : BitVec 32 := 0#32
  let v1667 : BitVec 1 := Scalar.cmpi .ne v1666 c0_i32_1630
  v1667

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1631 : BitVec 32 := 13#32
  let v1668 : BitVec 1 := Scalar.cmpi .ne v2 c13_i32_1631
  let v1669 : BitVec 32 := Scalar.extui v1668
  let c0_i32_1632 : BitVec 32 := 0#32
  let v1670 : BitVec 1 := Scalar.cmpi .ne v1669 c0_i32_1632
  v1670

def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1633 : BitVec 32 := 14#32
  let v1671 : BitVec 1 := Scalar.cmpi .ne v2 c14_i32_1633
  let v1672 : BitVec 32 := Scalar.extui v1671
  let c0_i32_1634 : BitVec 32 := 0#32
  let v1673 : BitVec 1 := Scalar.cmpi .ne v1672 c0_i32_1634
  v1673

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1635 : BitVec 32 := 15#32
  let v1674 : BitVec 1 := Scalar.cmpi .ne v2 c15_i32_1635
  let v1675 : BitVec 32 := Scalar.extui v1674
  let c0_i32_1636 : BitVec 32 := 0#32
  let v1676 : BitVec 1 := Scalar.cmpi .ne v1675 c0_i32_1636
  v1676

def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1637 : BitVec 32 := 16#32
  let v1677 : BitVec 1 := Scalar.cmpi .ne v2 c16_i32_1637
  let v1678 : BitVec 32 := Scalar.extui v1677
  let c0_i32_1638 : BitVec 32 := 0#32
  let v1679 : BitVec 1 := Scalar.cmpi .ne v1678 c0_i32_1638
  v1679

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1639 : BitVec 32 := 17#32
  let v1680 : BitVec 1 := Scalar.cmpi .ne v2 c17_i32_1639
  let v1681 : BitVec 32 := Scalar.extui v1680
  let c0_i32_1640 : BitVec 32 := 0#32
  let v1682 : BitVec 1 := Scalar.cmpi .ne v1681 c0_i32_1640
  v1682

def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1641 : BitVec 32 := 18#32
  let v1683 : BitVec 1 := Scalar.cmpi .ne v2 c18_i32_1641
  let v1684 : BitVec 32 := Scalar.extui v1683
  let c0_i32_1642 : BitVec 32 := 0#32
  let v1685 : BitVec 1 := Scalar.cmpi .ne v1684 c0_i32_1642
  v1685

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1643 : BitVec 32 := 19#32
  let v1686 : BitVec 1 := Scalar.cmpi .ne v2 c19_i32_1643
  let v1687 : BitVec 32 := Scalar.extui v1686
  let c0_i32_1644 : BitVec 32 := 0#32
  let v1688 : BitVec 1 := Scalar.cmpi .ne v1687 c0_i32_1644
  v1688

def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1645 : BitVec 32 := 20#32
  let v1689 : BitVec 1 := Scalar.cmpi .ne v2 c20_i32_1645
  let v1690 : BitVec 32 := Scalar.extui v1689
  let c0_i32_1646 : BitVec 32 := 0#32
  let v1691 : BitVec 1 := Scalar.cmpi .ne v1690 c0_i32_1646
  v1691

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1647 : BitVec 32 := 21#32
  let v1692 : BitVec 1 := Scalar.cmpi .ne v2 c21_i32_1647
  let v1693 : BitVec 32 := Scalar.extui v1692
  let c0_i32_1648 : BitVec 32 := 0#32
  let v1694 : BitVec 1 := Scalar.cmpi .ne v1693 c0_i32_1648
  v1694

def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1649 : BitVec 32 := 22#32
  let v1695 : BitVec 1 := Scalar.cmpi .ne v2 c22_i32_1649
  let v1696 : BitVec 32 := Scalar.extui v1695
  let c0_i32_1650 : BitVec 32 := 0#32
  let v1697 : BitVec 1 := Scalar.cmpi .ne v1696 c0_i32_1650
  v1697

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1651 : BitVec 32 := 23#32
  let v1698 : BitVec 1 := Scalar.cmpi .ne v2 c23_i32_1651
  let v1699 : BitVec 32 := Scalar.extui v1698
  let c0_i32_1652 : BitVec 32 := 0#32
  let v1700 : BitVec 1 := Scalar.cmpi .ne v1699 c0_i32_1652
  v1700

def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1653 : BitVec 32 := 24#32
  let v1701 : BitVec 1 := Scalar.cmpi .ne v2 c24_i32_1653
  let v1702 : BitVec 32 := Scalar.extui v1701
  let c0_i32_1654 : BitVec 32 := 0#32
  let v1703 : BitVec 1 := Scalar.cmpi .ne v1702 c0_i32_1654
  v1703

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1655 : BitVec 32 := 25#32
  let v1704 : BitVec 1 := Scalar.cmpi .ne v2 c25_i32_1655
  let v1705 : BitVec 32 := Scalar.extui v1704
  let c0_i32_1656 : BitVec 32 := 0#32
  let v1706 : BitVec 1 := Scalar.cmpi .ne v1705 c0_i32_1656
  v1706

def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1657 : BitVec 32 := 26#32
  let v1707 : BitVec 1 := Scalar.cmpi .ne v2 c26_i32_1657
  let v1708 : BitVec 32 := Scalar.extui v1707
  let c0_i32_1658 : BitVec 32 := 0#32
  let v1709 : BitVec 1 := Scalar.cmpi .ne v1708 c0_i32_1658
  v1709

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1659 : BitVec 32 := 27#32
  let v1710 : BitVec 1 := Scalar.cmpi .ne v2 c27_i32_1659
  let v1711 : BitVec 32 := Scalar.extui v1710
  let c0_i32_1660 : BitVec 32 := 0#32
  let v1712 : BitVec 1 := Scalar.cmpi .ne v1711 c0_i32_1660
  v1712

def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1661 : BitVec 32 := 28#32
  let v1713 : BitVec 1 := Scalar.cmpi .ne v2 c28_i32_1661
  let v1714 : BitVec 32 := Scalar.extui v1713
  let c0_i32_1662 : BitVec 32 := 0#32
  let v1715 : BitVec 1 := Scalar.cmpi .ne v1714 c0_i32_1662
  v1715

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1663 : BitVec 32 := 29#32
  let v1716 : BitVec 1 := Scalar.cmpi .ne v2 c29_i32_1663
  let v1717 : BitVec 32 := Scalar.extui v1716
  let c0_i32_1664 : BitVec 32 := 0#32
  let v1718 : BitVec 1 := Scalar.cmpi .ne v1717 c0_i32_1664
  v1718

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1665 : BitVec 32 := 30#32
  let v1719 : BitVec 1 := Scalar.cmpi .ne v2 c30_i32_1665
  let v1720 : BitVec 32 := Scalar.extui v1719
  let c0_i32_1666 : BitVec 32 := 0#32
  let v1721 : BitVec 1 := Scalar.cmpi .ne v1720 c0_i32_1666
  v1721

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1667 : BitVec 32 := 31#32
  let v1722 : BitVec 1 := Scalar.cmpi .ne v2 c31_i32_1667
  let v1723 : BitVec 32 := Scalar.extui v1722
  let c0_i32_1668 : BitVec 32 := 0#32
  let v1724 : BitVec 1 := Scalar.cmpi .ne v1723 c0_i32_1668
  v1724

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_837 : BitVec 32 := 32#32
  let v600 : BitVec 32 := Scalar.muli v2 c32_i32_837
  let c0_i32_1682 : BitVec 32 := 0#32
  ![v600.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x256x64, .f32⟩
  | .hbm, ⟨3, _⟩ => ⟨S2x512x256x64, .f32⟩
  | .hbm, ⟨4, _⟩ => ⟨S16384x768, .f32⟩
  | .hbm, ⟨5, _⟩ => ⟨S2x512x16384, .f32⟩
  | .hbm, ⟨6, _⟩ => ⟨S2x512x256x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S2x256x512x512, .f32⟩
  | .hbm, ⟨29, _⟩ => ⟨S_, .f32⟩
  | .hbm, ⟨30, _⟩ => ⟨S2x256x512x512, .f32⟩
  | .hbm, ⟨31, _⟩ => ⟨S2x256x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S2x256x512x512, .i1⟩
  | .hbm, ⟨36, _⟩ => ⟨S2x256x512x512, .f32⟩
  | .hbm, ⟨37, _⟩ => ⟨S2x256x512x512, .f32⟩
  | .hbm, ⟨38, _⟩ => ⟨S_, .f32⟩
  | .hbm, ⟨39, _⟩ => ⟨S2x256x512, .f32⟩
  | .hbm, ⟨40, _⟩ => ⟨S2x256x512x1, .f32⟩
  | .hbm, ⟨41, _⟩ => ⟨S2x256x512x512, .f32⟩
  | .hbm, ⟨42, _⟩ => ⟨S2x256x512x512, .f32⟩
  | .hbm, ⟨43, _⟩ => ⟨S2x256x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S2x256x512, .f32⟩
  | .hbm, ⟨49, _⟩ => ⟨S2x256x512x1, .f32⟩
  | .hbm, ⟨50, _⟩ => ⟨S_, .f32⟩
  | .hbm, ⟨51, _⟩ => ⟨S_, .f32⟩
  | .hbm, ⟨52, _⟩ => ⟨S2x256x512x1, .i1⟩
  | .hbm, ⟨53, _⟩ => ⟨S2x256x512x1, .f32⟩
  | .hbm, ⟨54, _⟩ => ⟨S2x256x512x1, .f32⟩
  | .hbm, ⟨55, _⟩ => ⟨S2x256x512x512, .f32⟩
  | .hbm, ⟨56, _⟩ => ⟨S2x256x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S2x256x512x512, .i1⟩
  | .hbm, ⟨61, _⟩ => ⟨S2x256x512x512, .f32⟩
  | .hbm, ⟨62, _⟩ => ⟨S2x256x512x512, .f32⟩
  | .hbm, ⟨63, _⟩ => ⟨S2x256x64x512, .f32⟩
  | .hbm, ⟨64, _⟩ => ⟨S2x512x256x64, .f32⟩
  | .hbm, ⟨65, _⟩ => ⟨S2x512x16384, .f32⟩
  | .hbm, ⟨66, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Math.lean ====
module

public import Idealize.ShloMosaic.Lib.Pointwise
public import Idealize.ShloMosaic.Lib.IdealHost

/-! # Arithmetic of the extended reals that the value proof uses

The kernel scales the query weights by 1/8 and divides a head's context by the sum of its weights; the
reference scales the scores and divides the weights. On finite scores the two orders agree. -/

@[expose] public section

noncomputable section

namespace Cert.K01

open Idealize.ShloMosaic

/-- A value that is neither infinity. -/
def IsReal (a : EReal) : Prop := ∃ r : ℝ, a = (r : EReal)

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem isReal_of_lt {a : EReal} (h : max a (-a) < ⊤) : IsReal a := by
  induction a with
  | bot => simp at h
  | top => simp at h
  | coe r => exact ⟨r, rfl⟩

/-- A factor that is nonnegative and not infinite comes out of a sum. -/
theorem sum_mul_of_nonneg {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

/-- The pattern of 0.125 denotes 1/8. -/
theorem ofBits_eighth : Ideal.ofBits .f32 0x3E000000#32 = (((1 : ℝ) / 8 : ℝ) : EReal) := by
  simp [Ideal.ofBits, Ideal.ieee, -EReal.coe_mul]; norm_num

/-- The pattern of −10⁹ denotes a finite value. -/
theorem ofBits_masked : IsReal (Ideal.ofBits .f32 0xCE6E6B28#32) := by
  simp [Ideal.ofBits, Ideal.ieee]
  exact ⟨_, rfl⟩

/-- The pattern of −∞ denotes the least value. -/
theorem ofBits_neg_inf : Ideal.ofBits .f32 0xFF800000#32 = ⊥ := by
  simp [Ideal.ofBits, Ideal.ieee]

/-- A row of scores turned into unnormalised weights. -/
def wts (s : Fin 512 → EReal) (j : Fin 512) : EReal :=
  Ideal.exp (s j - Finset.univ.fold max (Ideal.ofBits .f32 0xFF800000#32) s)

/-- The greatest of finitely many finite scores is finite. -/
theorem isReal_fold {s : Fin 512 → EReal} (h : ∀ j, IsReal (s j)) :
    IsReal (Finset.univ.fold max (Ideal.ofBits .f32 0xFF800000#32) s) := by
  rw [ofBits_neg_inf]
  have hlt : Finset.univ.fold max ⊥ s < ⊤ := by
    rw [Finset.fold_max_lt]
    exact ⟨bot_lt_top, fun j _ => by obtain ⟨r, hr⟩ := h j; rw [hr]; exact EReal.coe_lt_top r⟩
  have hgt : ⊥ < Finset.univ.fold max ⊥ s := by
    rw [Finset.lt_fold_max]
    exact .inr ⟨0, Finset.mem_univ _, by obtain ⟨r, hr⟩ := h 0; rw [hr]; exact EReal.bot_lt_coe r⟩
  generalize Finset.univ.fold max ⊥ s = a at hlt hgt
  induction a with
  | bot => exact absurd hgt (lt_irrefl _)
  | top => exact absurd hlt (lt_irrefl _)
  | coe r => exact ⟨r, rfl⟩

/-- The weights of finite scores are finite and positive. -/
theorem wts_pos {s : Fin 512 → EReal} (h : ∀ j, IsReal (s j)) (j : Fin 512) : ∃ r : ℝ, 0 < r ∧ wts s j = (r : EReal) := by
  obtain ⟨a, ha⟩ := h j
  obtain ⟨b, hb⟩ := isReal_fold h
  refine ⟨Real.exp (a - b), Real.exp_pos _, ?_⟩
  unfold wts
  rw [ha, hb, ← EReal.coe_sub]
  rfl

/-- The sum of the weights of finite scores is finite and positive. -/
theorem sum_wts {s : Fin 512 → EReal} (h : ∀ j, IsReal (s j)) : ∃ r : ℝ, 0 < r ∧ ∑ j, wts s j = (r : EReal) := by
  choose w hw hs using wts_pos h
  refine ⟨∑ j, w j, Finset.sum_pos (fun j _ => hw j) ⟨0, Finset.mem_univ _⟩, ?_⟩
  rw [Finset.sum_congr rfl fun j _ => hs j]
  exact (map_sum (⟨⟨Real.toEReal, EReal.coe_zero⟩, EReal.coe_add⟩ : ℝ →+ EReal) w Finset.univ).symm

/-- Dividing the weighted sum of the values by the weights' sum is weighting by the divided weights. -/
theorem att_eq {s : Fin 512 → EReal} (h : ∀ j, IsReal (s j)) (v : Fin 512 → EReal) :
    (∑ j, wts s j * v j) * Ideal.div 1 (∑ j, wts s j) = ∑ j, v j * Ideal.div (wts s j) (∑ j, wts s j) := by
  obtain ⟨r, hr, hs⟩ := sum_wts h
  rw [hs]
  have hne : ((r : ℝ) : EReal) ≠ 0 := by
    rw [← EReal.coe_zero]; exact fun e => hr.ne' (EReal.coe_injective e)
  have hinv : ((r : ℝ) : EReal)⁻¹ = ((r⁻¹ : ℝ) : EReal) := (EReal.coe_inv r).symm
  unfold Ideal.div
  rw [if_neg hne, one_mul, hinv, sum_mul_of_nonneg _ _ (by exact_mod_cast inv_nonneg.2 hr.le) (EReal.coe_ne_top _)]
  refine Finset.sum_congr rfl fun j _ => ?_
  rw [if_neg hne, mul_assoc, mul_comm (wts s j), mul_assoc, mul_comm (wts s j)]

/-- Scaling the query weights by 1/8 scales the scores by 1/8. -/
theorem scale_eq {m n : ℕ} (x : Fin m → EReal) (w : Fin m → Fin n → EReal) (k : Fin n → EReal) :
    (∑ d, (∑ e, x e * (w e d * Ideal.ofBits .f32 0x3E000000#32)) * k d)
      = (∑ d, (∑ e, x e * w e d) * k d) * Ideal.ofBits .f32 0x3E000000#32 := by
  have h0 : (0 : EReal) ≤ Ideal.ofBits .f32 0x3E000000#32 := by rw [ofBits_eighth]; exact_mod_cast (by norm_num : (0 : ℝ) ≤ 1 / 8)
  have h1 : Ideal.ofBits .f32 0x3E000000#32 ≠ ⊤ := by rw [ofBits_eighth]; exact EReal.coe_ne_top _
  rw [sum_mul_of_nonneg _ _ h0 h1]
  refine Finset.sum_congr rfl fun d _ => ?_
  rw [Finset.sum_congr rfl fun e _ => (mul_assoc (x e) (w e d) _).symm, ← sum_mul_of_nonneg _ _ h0 h1,
    mul_assoc, mul_assoc, mul_comm (k d)]

end Cert.K01
-- ==== Proof.Values.lean ====
module

public import proofs.«01_k».proof.Proof.Gen.KernelIdeal
public import proofs.«01_k».proof.Proof.Gen.KernelIdeal.Skeleton
public import Idealize.ShloMosaic.Lib.ValueIdxCore

/-! # The values one device computes before any exchange

`In F` collects what a device reads: its three staged inputs and its slices of the key and value arrays.
The definitions `zN` follow the program text, one per value that crosses from one printed part of the
kernel to the next; `out0` and `out1` are the two blocks of partial results it stores. -/

@[expose] public section

noncomputable section

namespace Cert.K01

open Cert.KernelIdeal Cert.KernelIdeal.Gen
open Idealize.ShloMosaic
open Idealize.ShloMosaic.ValueIdx

variable {F : FTy → Type} [FloatOps F]

/-- What one device reads: its inputs `x`, `Wq`, `Wo` and its heads of `K` and `V`, by batch and head. -/
structure In (F : FTy → Type) where
  x : Vec F S2x512x768 .f32
  wq : Vec F S768x512 .f32
  wo : Vec F S512x768 .f32
  kb : Vec F S2x8x512x64 .f32
  vb : Vec F S2x8x512x64 .f32

omit [FloatOps F] in
/-- One head's block of a key or value buffer, as a load of that block returns it. -/
def slot (kb : Vec F S2x8x512x64 .f32) (b : Fin 2) (h : Fin 8) : Vec F S1x1x512x64 .f32 :=
  fun i => kb (ix4 b h (i 2) (i 3))

def z387 (I : In F) : FVec F S1024x768 .bf16 := k0_pay1 I.x
def z392 (I : In F) : FVec F S768x512 .bf16 := k0_pay2 I.wq
def z395 (I : In F) : FVec F S512x768 .bf16 := k0_pay3 I.wo
def z407 (I : In F) : IVec S512x512 1 := k0_pay5 (iota .tc S512x512 32 [0] iota_S512x512_d0_w32) (k0_pay4)
def z601 (I : In F) : FVec F S512x768 .bf16 := k0_pay6 (z387 I)
def z602 (I : In F) : FVec F S512x768 .f32 := k0_pay7
def z630 (I : In F) : FVec F S512x768 .f32 := k0_pay8 (z387 I) (z392 I) (z395 I) (z407 I) (slot I.kb 0 0) (slot I.vb 0 0)
def z660 (I : In F) : FVec F S512x768 .f32 := k0_pay9 (z392 I) (z395 I) (z407 I) (z601 I) (z602 I) (z630 I) (slot I.kb 0 1) (slot I.vb 0 1)
def z667 (I : In F) : FVec F S512x512 .f32 := k0_pay10 (z392 I) (z601 I) (slot I.kb 0 2)
def z689 (I : In F) : FVec F S512x768 .f32 := k0_pay11 (z395 I) (z407 I) (z660 I) (z667 I) (Scalar.ofBits .f32 0xCE6E6B28#32) (slot I.vb 0 2)
def z707 (I : In F) : FVec F S512x1 .f32 := k0_pay13 (z392 I) (z407 I) (z601 I) (slot I.kb 0 3)
def z708 (I : In F) : FVec F S512x512 .bf16 := k0_pay14 (z392 I) (z407 I) (z601 I) (slot I.kb 0 3)
def z718 (I : In F) : FVec F S512x768 .f32 := k0_pay15 (z395 I) (z689 I) (z707 I) (z708 I) (slot I.vb 0 3)
def z746 (I : In F) : FVec F S512x768 .f32 := k0_pay16 (z392 I) (z395 I) (z407 I) (z601 I) (slot I.kb 0 4) (slot I.vb 0 4)
def z776 (I : In F) : FVec F S512x768 .f32 := k0_pay17 (z392 I) (z395 I) (z407 I) (z601 I) (z718 I) (z746 I) (slot I.kb 0 5) (slot I.vb 0 5)
def z783 (I : In F) : FVec F S512x512 .f32 := k0_pay18 (z392 I) (z601 I) (slot I.kb 0 6)
def z805 (I : In F) : FVec F S512x768 .f32 := k0_pay19 (z395 I) (z407 I) (z776 I) (z783 I) (Scalar.ofBits .f32 0xCE6E6B28#32) (slot I.vb 0 6)
def z823 (I : In F) : FVec F S512x1 .f32 := k0_pay21 (z392 I) (z407 I) (z601 I) (slot I.kb 0 7)
def z824 (I : In F) : FVec F S512x512 .bf16 := k0_pay22 (z392 I) (z407 I) (z601 I) (slot I.kb 0 7)
/-- The partial result of rows 0..511 (batch 0): what the kernel stores into its scratch rows. -/
def out0 (I : In F) : FVec F S512x768 .bf16 := k0_pay23 (z395 I) (z805 I) (z823 I) (z824 I) (slot I.vb 0 7)
def z887 (I : In F) : FVec F S512x768 .bf16 := k0_pay24 (z387 I)
def z917 (I : In F) : FVec F S512x768 .f32 := k0_pay25 (z392 I) (z395 I) (z407 I) (z887 I) (slot I.kb 1 0) (slot I.vb 1 0)
def z924 (I : In F) : FVec F S512x512 .f32 := k0_pay26 (z392 I) (z887 I) (slot I.kb 1 1)
def z946 (I : In F) : FVec F S512x768 .f32 := k0_pay27 (z395 I) (z407 I) (z917 I) (z924 I) (slot I.vb 1 1)
def z960 (I : In F) : FVec F S512x512 .f32 := k0_pay28 (z392 I) (z407 I) (z887 I) (slot I.kb 1 2)
def z964 (I : In F) : FVec F S512x1 .f32 := k0_pay29 (z392 I) (z407 I) (z887 I) (slot I.kb 1 2)
def z975 (I : In F) : FVec F S512x768 .f32 := k0_pay30 (z395 I) (z946 I) (z960 I) (z964 I) (slot I.vb 1 2)
def z1001 (I : In F) : FVec F S512x64 .bf16 := k0_pay31 (z392 I) (z407 I) (z887 I) (slot I.kb 1 3) (slot I.vb 1 3)
def z1002 (I : In F) : FVec F S64x768 .bf16 := k0_pay32 (z395 I)
def z1033 (I : In F) : FVec F S512x768 .f32 := k0_pay33 (z392 I) (z395 I) (z407 I) (z887 I) (z975 I) (z1001 I) (z1002 I) (constant S512x768 .f32 0x00000000#32) (slot I.kb 1 4) (slot I.vb 1 4)
def z1040 (I : In F) : FVec F S512x512 .f32 := k0_pay34 (z392 I) (z887 I) (slot I.kb 1 5)
def z1062 (I : In F) : FVec F S512x768 .f32 := k0_pay35 (z395 I) (z407 I) (z1033 I) (z1040 I) (slot I.vb 1 5)
def z1076 (I : In F) : FVec F S512x512 .f32 := k0_pay36 (z392 I) (z407 I) (z887 I) (slot I.kb 1 6)
def z1080 (I : In F) : FVec F S512x1 .f32 := k0_pay37 (z392 I) (z407 I) (z887 I) (slot I.kb 1 6)
def z1091 (I : In F) : FVec F S512x768 .f32 := k0_pay38 (z395 I) (z1062 I) (z1076 I) (z1080 I) (slot I.vb 1 6)
def z1117 (I : In F) : FVec F S512x64 .bf16 := k0_pay39 (z392 I) (z407 I) (z887 I) (slot I.kb 1 7) (slot I.vb 1 7)
def z1118 (I : In F) : FVec F S64x768 .bf16 := k0_pay40 (z395 I)
/-- The partial result of rows 512..1023 (batch 1). -/
def out1 (I : In F) : FVec F S512x768 .bf16 := k0_pay41 (z1091 I) (z1117 I) (z1118 I) (constant S512x768 .f32 0x00000000#32)

end Cert.K01
-- ==== Proof.Head.lean ====
module

public import proofs.«01_k».proof.Proof.Values
public import Idealize.ShloMosaic.Lib.Pointwise
public import Idealize.ShloMosaic.Lib.Pipeline.Value

/-! # One attention head as the kernel computes it

`scoreV`, `weightV` and `headV` are the vector operations the kernel prints for one batch row block and one
head; every head of the two blocks of partial results is `headV` at its own slices. -/

@[expose] public section

noncomputable section

namespace Cert.K01

open Cert.KernelIdeal Cert.KernelIdeal.Gen
open Idealize.ShloMosaic

variable {F : FTy → Type} [FloatOps F]

/-- The masked scores of one head. -/
def scoreV (xb : FVec F S512x768 .bf16) (w : FVec F S768x64 .bf16) (mask : IVec S512x512 1) (k : Vec F S1x1x512x64 .f32) :
    FVec F S512x512 .f32 :=
  select mask
    (matmul dot_S512x64_S512x64_S512x512_1_1_0_0_n_n none
      (truncf .bf16 (matmul dot_S512x768_S768x64_S512x64_1_0_0_1_n_n none xb w (constant S512x64 .f32 0x00000000#32)) bitsLt_bf16_f32)
      (truncf .bf16 (shapeCast S512x64 k shapeCasts_S1x1x512x64_S512x64) bitsLt_bf16_f32)
      (constant S512x512 .f32 0x00000000#32))
    (broadcast S512x512 (Scalar.ofBits .f32 0xCE6E6B28#32))

/-- The unnormalised weights of one head: the exponentials of the scores less their row's maximum. -/
def weightV (s : FVec F S512x512 .f32) : FVec F S512x512 .f32 :=
  exp (subf s (broadcastTo S512x512 (shapeCast S512x1
    (multiReduction .maximumf [1] S512 s 0xFF800000#32 reduces_S512x512_S512 (.inl rfl) rfl) shapeCasts_S512_S512x1)
    broadcasts_S512x1_S512x512))

/-- The context rows of one head, from its weights and values. -/
def ctxV (w : FVec F S512x512 .f32) (v : Vec F S1x1x512x64 .f32) : FVec F S512x64 .f32 :=
  mulf
    (matmul dot_S512x512_S512x64_S512x64_1_0_0_1_n_n none (truncf .bf16 w bitsLt_bf16_f32)
      (truncf .bf16 (shapeCast S512x64 v shapeCasts_S1x1x512x64_S512x64) bitsLt_bf16_f32) (constant S512x64 .f32 0x00000000#32))
    (broadcastTo S512x64
      (divf (broadcast S512x1 (Scalar.ofBits .f32 0x3F800000#32))
        (shapeCast S512x1 (multiReduction .add [1] S512 w 0x00000000#32 reduces_S512x512_S512 (.inl rfl) rfl) shapeCasts_S512_S512x1))
      broadcasts_S512x1_S512x64)

/-- One head's contribution to a block of partial results. -/
def headV (xb : FVec F S512x768 .bf16) (mask : IVec S512x512 1) (w : FVec F S768x64 .bf16) (o : FVec F S64x768 .bf16)
    (k v : Vec F S1x1x512x64 .f32) : FVec F S512x768 .f32 :=
  matmul dot_S512x64_S64x768_S512x768_1_0_0_1_n_n none
    (truncf .bf16 (ctxV (weightV (scoreV xb w mask k)) v) bitsLt_bf16_f32) o (constant S512x768 .f32 0x00000000#32)

/-- Head `h`'s columns of the query weights. -/
def wqS (wq : FVec F S768x512 .bf16) (h : ℕ) (hs : S768x512.Slices ![0, 64 * h] S768x64) : FVec F S768x64 .bf16 :=
  extractStridedSlice S768x64 ![0, 64 * h] wq hs

/-- Head `h`'s rows of the output weights. -/
def woS (wo : FVec F S512x768 .bf16) (h : ℕ) (hs : S512x768.Slices ![64 * h, 0] S64x768) : FVec F S64x768 .bf16 :=
  extractStridedSlice S64x768 ![64 * h, 0] wo hs

theorem slices_wq (h : Fin 8) : S768x512.Slices ![0, 64 * h.val] S768x64 := by revert h; decide

theorem slices_wo (h : Fin 8) : S512x768.Slices ![64 * h.val, 0] S64x768 := by revert h; decide

/-- Head `h` of the block whose rows of `x` are `xb` and whose batch is `b`. -/
def headOf (I : In F) (xb : FVec F S512x768 .bf16) (b : Fin 2) (h : Fin 8) : FVec F S512x768 .f32 :=
  headV xb (z407 I) (wqS (z392 I) h (slices_wq h)) (woS (z395 I) h (slices_wo h)) (slot I.kb b h) (slot I.vb b h)

/-- The sum of the eight heads in the order the kernel adds them. -/
def sum8 (z : FVec F S512x768 .f32) (f : Fin 8 → FVec F S512x768 .f32) : FVec F S512x768 .f32 :=
  addf (addf (addf (addf (addf (addf (addf (addf z (f 0)) (f 1)) (f 2)) (f 3)) (f 4)) (f 5)) (f 6)) (f 7)

/-- The kernel's block of partial results of batch 0 is the sum of its eight heads. -/
theorem out0_eq (I : In F) : out0 I = truncf .bf16 (sum8 k0_pay7 fun h => headOf I (z601 I) 0 h) bitsLt_bf16_f32 :=
  (show out0 I = shapeCast S512x768 (truncf .bf16 (sum8 k0_pay7 fun h => headOf I (z601 I) 0 h) bitsLt_bf16_f32)
    shapeCasts_S512x768_S512x768 from rfl).trans (shapeCast_self _ _)

/-- The kernel's block of partial results of batch 1 is the sum of its eight heads. -/
theorem out1_eq (I : In F) : out1 I = truncf .bf16 (sum8 k0_pay7 fun h => headOf I (z887 I) 1 h) bitsLt_bf16_f32 :=
  (show out1 I = shapeCast S512x768 (truncf .bf16 (sum8 k0_pay7 fun h => headOf I (z887 I) 1 h) bitsLt_bf16_f32)
    shapeCasts_S512x768_S512x768 from rfl).trans (shapeCast_self _ _)

end Cert.K01
-- ==== Proof.Refer.lean ====
module

public import proofs.«01_k».proof.Proof.Gen.ReferenceIdeal.Run
public import Idealize.ShloMosaic.Lib.Pointwise

/-! # The reference's result, stage by stage -/

@[expose] public section

noncomputable section

namespace Cert.K01.Ref

open Cert.ReferenceIdeal Cert.ReferenceIdeal.Gen
open Idealize.ShloMosaic

variable {F : FTy → Type} [FloatOps F]

/-- Which pairs of a query row and a key row attend: the local band, the first keys and the first queries. -/
def mask : IVec S512x512 1 :=
  ori (cmpi .sle (absi (subi (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))
      (broadcastInDim S512x512 ![] bcast_S_S512x512 (constantI S_ 32 128#32)))
    (ori (broadcastInDim S512x512 ![0, 1] bcast_S1x512_S512x512_0_1 (cmpi .slt (broadcastInDim S1x512 ![1] bcast_S512_S1x512_1 (iotaInDim S512 32 0)) (broadcastInDim S1x512 ![] bcast_S_S1x512 (constantI S_ 32 32#32))))
      (broadcastInDim S512x512 ![0, 1] bcast_S512x1_S512x512_0_1 (cmpi .slt (broadcastInDim S512x1 ![0] bcast_S512_S512x1_0 (iotaInDim S512 32 0)) (broadcastInDim S512x1 ![] bcast_S_S512x1 (constantI S_ 32 32#32)))))

/-- Which query rows attend to anything. -/
def keep : IVec S512 1 := Host.reduce IntOp.ori mask (constantI S_ 1 0#1) reducesTo_S512x512_S512_d1 h_S_

/-- The masked scores of every batch and head. -/
def score (x : FVec F S2x512x768 .f32) (wq : FVec F S768x16384 .f32) (k : FVec F S2x512x256x64 .f32) : FVec F S2x256x512x512 .f32 :=
  select (broadcastInDim S2x256x512x512 ![0, 1, 2, 3] bcast_S1x1x512x512_S2x256x512x512_0_1_2_3 (broadcastInDim S1x1x512x512 ![2, 3] bcast_S512x512_S1x1x512x512_2_3 mask))
    (mulf (Host.dotGeneral dot_S2x512x256x64_S2x512x256x64_S2x256x512x512_3_3_1_1_02_02 none
        (shapeCast _ (Host.dotGeneral dot_S2x512x768_S768x16384_S2x512x16384_2_0_01_1_n_n none x wq) shapeCasts_S2x512x16384_S2x512x256x64) k)
      (broadcastInDim S2x256x512x512 ![] bcast_S_S2x256x512x512 (constant S_ .f32 0x3E000000#32)))
    (broadcastInDim S2x256x512x512 ![] bcast_S_S2x256x512x512 (id (constant S_ .f32 0xCE6E6B28#32)))

/-- The exponentials of the scores less their row's maximum. -/
def expo (s : FVec F S2x256x512x512 .f32) : FVec F S2x256x512x512 .f32 :=
  Host.exp (subf s (broadcastInDim S2x256x512x512 ![0, 1, 2, 3] bcast_S2x256x512x1_S2x256x512x512_0_1_2_3
    (broadcastInDim S2x256x512x1 ![0, 1, 2] bcast_S2x256x512_S2x256x512x1_0_1_2
      (Host.reduce FloatOps.maximumf s (constant S_ .f32 0xFF800000#32) reducesTo_S2x256x512x512_S2x256x512_d3 h_S_))))

/-- The weights: each row of exponentials over its sum, zero in a row that attends to nothing. -/
def weight (e : FVec F S2x256x512x512 .f32) : FVec F S2x256x512x512 .f32 :=
  select (broadcastInDim S2x256x512x512 ![0, 1, 2, 3] bcast_S1x1x512x1_S2x256x512x512_0_1_2_3 (broadcastInDim S1x1x512x1 ![2] bcast_S512_S1x1x512x1_2 keep))
    (Host.divf e (broadcastInDim S2x256x512x512 ![0, 1, 2, 3] bcast_S2x256x512x1_S2x256x512x512_0_1_2_3
      (select (broadcastInDim S2x256x512x1 ![0, 1, 2, 3] bcast_S1x1x512x1_S2x256x512x1_0_1_2_3 (broadcastInDim S1x1x512x1 ![2] bcast_S512_S1x1x512x1_2 keep))
        (broadcastInDim S2x256x512x1 ![0, 1, 2] bcast_S2x256x512_S2x256x512x1_0_1_2
          (Host.reduceAdd e (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))

/-- The result from the weights, the values and the output weights. -/
def out (w : FVec F S2x256x512x512 .f32) (v : FVec F S2x512x256x64 .f32) (wo : FVec F S16384x768 .f32) : FVec F S2x512x768 .f32 :=
  Host.dotGeneral dot_S2x512x16384_S16384x768_S2x512x768_2_0_01_1_n_n none
    (shapeCast _ (transpose S2x512x256x64 [0, 3, 1, 2]
      (Host.dotGeneral dot_S2x512x256x64_S2x256x512x512_S2x256x64x512_1_3_3_2_02_01 none v w)
      transposes_S2x256x64x512_S2x512x256x64_0_3_1_2) shapeCasts_S2x512x256x64_S2x512x16384) wo

set_option maxRecDepth 16384 in
/-- The reference's result is these stages, one after another. -/
theorem res_eq (m : (ℓ : Loc nD τ sig) → Buf (Elt F) ℓ) (c : Dev nD) :
    Value.res_main_v42 m c = out (weight (expo (score (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := rfl

end Cert.K01.Ref
-- ==== Proof.Attention.lean ====
module

public import proofs.«01_k».proof.Proof.Math
public import proofs.«01_k».proof.Proof.Head
public import proofs.«01_k».proof.Proof.Refer

/-! # The result as one formula of the whole arrays

`Whole.out` is the attention block written out over the extended reals. The reference's result is it at every
index, and so is each head of the kernel when the scores are finite. -/

@[expose] public section

noncomputable section

namespace Cert.K01

open Idealize.ShloMosaic

/-- The whole argument arrays. -/
structure Whole where
  x : (⟨3, ![2, 512, 768]⟩ : Shape).Idx → EReal
  wq : (⟨2, ![768, 16384]⟩ : Shape).Idx → EReal
  k : (⟨4, ![2, 512, 256, 64]⟩ : Shape).Idx → EReal
  v : (⟨4, ![2, 512, 256, 64]⟩ : Shape).Idx → EReal
  wo : (⟨2, ![16384, 768]⟩ : Shape).Idx → EReal

/-- Whether query row `i` attends to key row `j`, as a bit. -/
def attends (i j : Fin 512) : BitVec 1 :=
  IntOp.ori (IntOp.cmpi .sle (IntOp.absi (IntOp.subi (BitVec.ofNat 32 i) (BitVec.ofNat 32 j))) 128#32)
    (IntOp.ori (IntOp.cmpi .slt (BitVec.ofNat 32 j) 32#32) (IntOp.cmpi .slt (BitVec.ofNat 32 i) 32#32))

/-- Column `64 H + d` of head `H`. -/
def col (H : Fin 256) (d : Fin 64) : Fin 16384 := ⟨H.val * 64 + d.val, by omega⟩

/-- The masked, scaled score of query row `i` and key row `j` in batch `b` and head `H`. -/
def Whole.score (A : Whole) (b : Fin 2) (H : Fin 256) (i j : Fin 512) : EReal :=
  Scalar.select (attends i j)
    ((∑ d : Fin 64, (∑ e : Fin 768, A.x (ix3 b i e) * A.wq (ix2 e (col H d))) * A.k (ix4 b j H d)) * Ideal.ofBits .f32 0x3E000000#32)
    (Ideal.ofBits .f32 0xCE6E6B28#32)

/-- Entry `d` of head `H`'s context at query row `i`: the values under the normalised weights. -/
def Whole.ctx (A : Whole) (b : Fin 2) (i : Fin 512) (H : Fin 256) (d : Fin 64) : EReal :=
  ∑ j : Fin 512, A.v (ix4 b j H d) * Ideal.div (wts (A.score b H i) j) (∑ j' : Fin 512, wts (A.score b H i) j')

/-- The attention block's result: the contexts of all heads times the output weights. -/
def Whole.out (A : Whole) (b : Fin 2) (i : Fin 512) (n : Fin 768) : EReal :=
  ∑ X : Fin 16384, A.ctx b i ⟨X.val / 64, by omega⟩ ⟨X.val % 64, by omega⟩ * A.wo (ix2 X n)

/-- Every query row attends to itself. -/
theorem attends_self (i : Fin 512) : attends i i = 1#1 := by
  have h : ∀ y : BitVec 1, IntOp.ori 1#1 y = 1#1 := by decide
  unfold attends
  rw [show IntOp.subi (BitVec.ofNat 32 i.val) (BitVec.ofNat 32 i.val) = 0#32 from BitVec.sub_self _]
  exact h _

/-- The scores are finite where the inputs that enter them are. -/
theorem Whole.score_real (A : Whole) (hx : ∀ j, IsReal (A.x j)) (hw : ∀ j, IsReal (A.wq j)) (hk : ∀ j, IsReal (A.k j))
    (b : Fin 2) (H : Fin 256) (i j : Fin 512) : IsReal (A.score b H i j) := by
  unfold Whole.score Scalar.select
  split
  · exact (IsReal.sum _ fun d => (IsReal.sum _ fun e => (hx _).mul (hw _)).mul (hk _)).mul ⟨_, ofBits_eighth⟩
  · exact ofBits_masked

namespace Ref

open Cert.ReferenceIdeal Cert.ReferenceIdeal.Gen

theorem mask_apply (i j : Fin 512) : mask (ix2 i j) = attends i j := by
  pointwise [mask]; rfl

theorem keep_apply (i : Fin 512) : keep (ix1 i) = 1#1 := by
  have h : ∀ y : BitVec 1, IntOp.ori 1#1 y = 1#1 := by decide
  pointwise [keep]
  rw [← Finset.insert_erase (Finset.mem_univ i), Finset.fold_insert (Finset.notMem_erase _ _), mask_apply, attends_self]
  exact h _

set_option maxRecDepth 16384 in
theorem score_apply (A : Whole) (b : Fin 2) (H : Fin 256) (i j : Fin 512) :
    score (F := Ideal) A.x A.wq A.k (ix4 b H i j) = A.score b H i j := by
  pointwise [score]
  rw [mask_apply]; rfl

set_option maxRecDepth 16384 in
theorem expo_apply (s : FVec Ideal S2x256x512x512 .f32) (b : Fin 2) (h : Fin 256) (i j : Fin 512) :
    expo s (ix4 b h i j) = wts (fun j => s (ix4 b h i j)) j := by
  pointwise [expo]; rfl

set_option maxRecDepth 16384 in
theorem weight_apply (e : FVec Ideal S2x256x512x512 .f32) (b : Fin 2) (h : Fin 256) (i j : Fin 512) :
    weight e (ix4 b h i j) = Ideal.div (e (ix4 b h i j)) (∑ j', e (ix4 b h i j')) := by
  pointwise [weight]
  rw [keep_apply]; rfl

set_option maxRecDepth 16384 in
theorem out_apply (A : Whole) (b : Fin 2) (i : Fin 512) (n : Fin 768) :
    out (F := Ideal) (weight (expo (score A.x A.wq A.k))) A.v A.wo (ix3 b i n) = A.out b i n := by
  pointwise [out]
  unfold Whole.out Whole.ctx
  simp only [weight_apply, expo_apply, score_apply]

end Ref

end Cert.K01
-- ==== Proof.HeadValue.lean ====
module

public import proofs.«01_k».proof.Proof.Attention

/-! # What one device's heads are worth

On finite inputs a head as the kernel computes it is that head's share of `Whole.out`, so a device's two blocks
of partial results are the sums of its eight heads' shares. -/

@[expose] public section

noncomputable section

namespace Cert.K01

open Cert.KernelIdeal Cert.KernelIdeal.Gen
open Idealize.ShloMosaic

/-- The head of the whole arrays that device `c` calls head `h`. -/
def headAt (c : Fin 32) (h : Fin 8) : Fin 256 := ⟨8 * c.val + h.val, by omega⟩

/-- A device's reads are its parts of the whole arrays. -/
structure Part (A : Whole) (c : Fin 32) (I : In Ideal) : Prop where
  x : ∀ b i e, I.x (ix3 b i e) = A.x (ix3 b i e)
  wq : ∀ e (k : Fin 512), I.wq (ix2 e k) = A.wq (ix2 e ⟨512 * c.val + k.val, by omega⟩)
  wo : ∀ (k : Fin 512) n, I.wo (ix2 k n) = A.wo (ix2 ⟨512 * c.val + k.val, by omega⟩ n)
  k : ∀ b h j d, I.kb (ix4 b h j d) = A.k (ix4 b j (headAt c h) d)
  v : ∀ b h j d, I.vb (ix4 b h j d) = A.v (ix4 b j (headAt c h) d)

theorem wts_congr {s t : Fin 512 → EReal} (h : ∀ j, s j = t j) (j : Fin 512) : wts s j = wts t j := by
  rw [show s = t from funext h]

theorem head_apply (xb : FVec Ideal S512x768 .bf16) (mask : IVec S512x512 1) (w : FVec Ideal S768x64 .bf16)
    (o : FVec Ideal S64x768 .bf16) (k v : Vec Ideal S1x1x512x64 .f32) (i : Fin 512) (n : Fin 768) :
    headV xb mask w o k v (ix2 i n)
      = ∑ d, (∑ j, weightV (scoreV xb w mask k) (ix2 i j) * v (ix4 0 0 j d))
          * Ideal.div 1 (∑ j, weightV (scoreV xb w mask k) (ix2 i j)) * o (ix2 d n) := by
  pointwise [headV, ctxV]

theorem weightV_apply (s : FVec Ideal S512x512 .f32) (i j : Fin 512) : weightV s (ix2 i j) = wts (fun j => s (ix2 i j)) j := by
  pointwise [weightV]; rfl

theorem scoreV_apply (xb : FVec Ideal S512x768 .bf16) (mask : IVec S512x512 1) (w : FVec Ideal S768x64 .bf16)
    (k : Vec Ideal S1x1x512x64 .f32) (i j : Fin 512) :
    scoreV xb w mask k (ix2 i j)
      = Scalar.select (mask (ix2 i j)) (∑ d, (∑ e, xb (ix2 i e) * w (ix2 e d)) * k (ix4 0 0 j d)) (Ideal.ofBits .f32 0xCE6E6B28#32) := by
  pointwise [scoreV]

theorem wqS_apply (wq : Vec Ideal S768x512 .f32) (h : Fin 8) (e : Fin 768) (d : Fin 64) :
    wqS (k0_pay2 wq) h (slices_wq h) (ix2 e d) = wq (ix2 e ⟨64 * h.val + d.val, by omega⟩) * Ideal.ofBits .f32 0x3E000000#32 := by
  pointwise [wqS, k0_pay2]

theorem woS_apply (wo : Vec Ideal S512x768 .f32) (h : Fin 8) (d : Fin 64) (n : Fin 768) :
    woS (k0_pay3 wo) h (slices_wo h) (ix2 d n) = wo (ix2 ⟨64 * h.val + d.val, by omega⟩ n) := by
  pointwise [woS, k0_pay3]

theorem maskK_apply (I : In Ideal) (i j : Fin 512) : z407 I (ix2 i j) = attends i j := by
  have h : ∀ a b c : BitVec 1, IntOp.ori (IntOp.ori a b) c = IntOp.ori a (IntOp.ori b c) := BitVec.or_assoc
  pointwise [z407, k0_pay4, k0_pay5]
  exact h _ _ _

theorem z601_apply (I : In Ideal) (i : Fin 512) (e : Fin 768) : z601 I (ix2 i e) = I.x (ix3 0 i e) := by
  pointwise [z601, z387, k0_pay1, k0_pay6]
  congr 2 <;> apply Fin.ext
  · exact Nat.div_eq_of_lt i.isLt
  · exact Nat.mod_eq_of_lt i.isLt

theorem z887_apply (I : In Ideal) (i : Fin 512) (e : Fin 768) : z887 I (ix2 i e) = I.x (ix3 1 i e) := by
  pointwise [z887, z387, k0_pay1, k0_pay24]
  congr 2
  apply Fin.ext
  show (512 + i.val) / 512 = 1
  omega

theorem slotK_apply (kb : Vec Ideal S2x8x512x64 .f32) (b : Fin 2) (h : Fin 8) (j : Fin 512) (d : Fin 64) :
    slot kb b h (ix4 0 0 j d) = kb (ix4 b h j d) := by
  pointwise [slot]; rw [ix4_eq_valueIdx]

theorem col_headAt (c : Fin 32) (h : Fin 8) (d : Fin 64) :
    (⟨512 * c.val + (64 * h.val + d.val), by omega⟩ : Fin 16384) = col (headAt c h) d := by
  apply Fin.ext
  show 512 * c.val + (64 * h.val + d.val) = (8 * c.val + h.val) * 64 + d.val
  omega

/-- One head of one device, on finite inputs: its share of the result. -/
theorem headOf_apply {A : Whole} (hx : ∀ j, IsReal (A.x j)) (hw : ∀ j, IsReal (A.wq j)) (hk : ∀ j, IsReal (A.k j))
    {c : Fin 32} {I : In Ideal} (hI : Part A c I) (xb : FVec Ideal S512x768 .bf16) (b : Fin 2)
    (hb : ∀ i e, xb (ix2 i e) = I.x (ix3 b i e)) (h : Fin 8) (i : Fin 512) (n : Fin 768) :
    headOf I xb b h (ix2 i n) = ∑ d : Fin 64, A.ctx b i (headAt c h) d * A.wo (ix2 (col (headAt c h) d) n) := by
  have hs : ∀ j, scoreV xb (wqS (z392 I) h (slices_wq h)) (z407 I) (slot I.kb b h) (ix2 i j) = A.score b (headAt c h) i j := by
    intro j
    rw [scoreV_apply, maskK_apply]
    unfold Whole.score
    rw [← scale_eq]
    congr 1
    refine Finset.sum_congr rfl fun d _ => ?_
    rw [slotK_apply, hI.k]
    congr 1
    refine Finset.sum_congr rfl fun e _ => ?_
    rw [show z392 I = k0_pay2 I.wq from rfl, wqS_apply, hI.wq, hb, hI.x, col_headAt]
  unfold headOf
  rw [head_apply]
  refine Finset.sum_congr rfl fun d _ => ?_
  rw [show z395 I = k0_pay3 I.wo from rfl, woS_apply, hI.wo, col_headAt]
  congr 1
  unfold Whole.ctx
  rw [← att_eq (fun j => A.score_real hx hw hk b (headAt c h) i j)]
  simp only [weightV_apply, hs, slotK_apply, hI.v]

theorem sum8_apply (f : Fin 8 → FVec Ideal S512x768 .f32) (i : Fin 512) (n : Fin 768) :
    sum8 k0_pay7 f (ix2 i n) = ∑ h, f h (ix2 i n) := by
  pointwise [sum8, k0_pay7]
  rw [Fin.sum_univ_eight]

/-- A device's share of the result: its eight heads' shares. -/
def Whole.part (A : Whole) (c : Fin 32) (b : Fin 2) (i : Fin 512) (n : Fin 768) : EReal :=
  ∑ h : Fin 8, ∑ d : Fin 64, A.ctx b i (headAt c h) d * A.wo (ix2 (col (headAt c h) d) n)

theorem out0_apply {A : Whole} (hx : ∀ j, IsReal (A.x j)) (hw : ∀ j, IsReal (A.wq j)) (hk : ∀ j, IsReal (A.k j))
    {c : Fin 32} {I : In Ideal} (hI : Part A c I) (i : Fin 512) (n : Fin 768) : out0 I (ix2 i n) = A.part c 0 i n := by
  rw [out0_eq]
  show sum8 (F := Ideal) k0_pay7 (fun h => headOf I (z601 I) 0 h) (ix2 i n) = _
  rw [sum8_apply]
  exact Finset.sum_congr rfl fun h _ => headOf_apply hx hw hk hI _ 0 (z601_apply I) h i n

theorem out1_apply {A : Whole} (hx : ∀ j, IsReal (A.x j)) (hw : ∀ j, IsReal (A.wq j)) (hk : ∀ j, IsReal (A.k j))
    {c : Fin 32} {I : In Ideal} (hI : Part A c I) (i : Fin 512) (n : Fin 768) : out1 I (ix2 i n) = A.part c 1 i n := by
  rw [out1_eq]
  show sum8 (F := Ideal) k0_pay7 (fun h => headOf I (z887 I) 1 h) (ix2 i n) = _
  rw [sum8_apply]
  exact Finset.sum_congr rfl fun h _ => headOf_apply hx hw hk hI _ 1 (z887_apply I) h i n

/-- The devices' shares add up to the result. -/
theorem sum_part (A : Whole) (b : Fin 2) (i : Fin 512) (n : Fin 768) : ∑ c, A.part c b i n = A.out b i n := by
  unfold Whole.part Whole.out
  have hdev : ∀ g : Fin 256 → EReal, ∑ c : Fin 32, ∑ h : Fin 8, g (headAt c h) = ∑ H, g H := by
    intro g
    refine (Fintype.sum_prod_type' fun (c : Fin 32) (h : Fin 8) => g (headAt c h)).symm.trans ?_
    refine Fintype.sum_equiv (finProdFinEquiv (m := 32) (n := 8)) _ _ fun p => ?_
    congr 1
    apply Fin.ext
    show 8 * p.1.val + p.2.val = p.2.val + 8 * p.1.val
    omega
  rw [hdev fun H => ∑ d : Fin 64, A.ctx b i H d * A.wo (ix2 (col H d) n)]
  refine (Fintype.sum_prod_type' fun (H : Fin 256) (d : Fin 64) => A.ctx b i H d * A.wo (ix2 (col H d) n)).symm.trans ?_
  refine Fintype.sum_equiv (finProdFinEquiv (m := 256) (n := 64)) _ _ fun p => ?_
  have e0 : finProdFinEquiv (m := 256) (n := 64) p = col p.1 p.2 := by
    apply Fin.ext
    show p.2.val + 64 * p.1.val = p.1.val * 64 + p.2.val
    omega
  rw [e0]
  have e1 : (⟨(col p.1 p.2).val / 64, by omega⟩ : Fin 256) = p.1 := by
    apply Fin.ext
    show (p.1.val * 64 + p.2.val) / 64 = p.1.val
    omega
  have e2 : (⟨(col p.1 p.2).val % 64, by omega⟩ : Fin 64) = p.2 := by
    apply Fin.ext
    show (p.1.val * 64 + p.2.val) % 64 = p.2.val
    omega
  rw [e1, e2]

end Cert.K01
-- ==== Proof.Common.lean ====
module

public import proofs.«01_k».proof.Proof.Gen.KernelIdeal.Launch
public import proofs.«01_k».proof.Proof.Values
public import Idealize.ShloMosaic.Lib.Pipeline.Launch
public import Idealize.ShloMosaic.Lib.Pipeline.Kit
public import Idealize.ShloMosaic.Lib.Tactic
public import Idealize.ShloMosaic.Lib.ShareLeaves

/-! # The exchange protocol of the kernel

Every device runs the same program. This module fixes: the names of the buffers and semaphore cells, what
each buffer holds at each stage (as functions of the launch memory), and the schedule of the exchange: for
every semaphore cell, who signals it and what the signal hands over.

Device `c` sends its rows `32 d ..` to device `d`, which finds them in slot `c - d` of its receive buffer,
so slot `j` of device `c` comes from device `c + j`. -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

/-! ## The resource algebra -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers -/

abbrev xM : Memref sig .tc .vmem S2x512x768 .f32 := Memref.whole cc0_stg0_0
abbrev wqM : Memref sig .tc .vmem S768x512 .f32 := Memref.whole cc0_stg1_0
abbrev woM : Memref sig .tc .vmem S512x768 .f32 := Memref.whole cc0_stg2_0
abbrev oM : Memref sig .tc .vmem S2x512x768 .f32 := Memref.whole cc0_stg3_0
abbrev pM : Memref sig .tc .vmem S1024x768 .bf16 := Memref.whole cc0_scratch0
abbrev kM : Memref sig .tc .vmem S2x8x512x64 .f32 := Memref.whole cc0_scratch1
abbrev vM : Memref sig .tc .vmem S2x8x512x64 .f32 := Memref.whole cc0_scratch2
abbrev rM : Memref sig .tc .vmem S32x32x768 .bf16 := Memref.whole cc0_scratch3

/-! ## Semaphore cells

The five arrays of DMA semaphores have 32 cells each, numbered one array after the other from 4: array 0 the copies
of the keys and values, array 1 the sends of the first exchange, array 2 its receives, array 3 the sends of
the second exchange, array 4 its receives. -/

/-- Cell `i` of array `a`. -/
def dS (a : Fin 5) (i : Fin 32) : DmaSem sig := ⟨4 + 32 * a.val + i.val, by have := a.isLt; have := i.isLt; show _ < 164; omega⟩

/-- The barrier semaphore. -/
abbrev barS : Sem sig := (SemArray.scalar (sig.barrier 0 rfl) : Sems sig S_).sem

/-- The names of one device's cells: the barrier, or cell `i` of array `a`. -/
abbrev Ck := Option (Fin 5 × Fin 32)

/-- The semaphore of a cell name. -/
abbrev csem : Ck → SemLoc sig
  | none => .reg barS
  | some (a, i) => .dma (dS a i)

/-- The cell `k` of device `c`. -/
abbrev cell (c : Dev nD) (k : Ck) : GSem nD τ sig := ((c : Thread nD τ), csem k)

/-- The name of a semaphore, if it is one of ours. -/
def kd : SemLoc sig → Option Ck
  | .reg s => if s = barS then some none else none
  | .dma q => if h : 4 ≤ q.val then
      some (some (⟨(q.val - 4) / 32, by have h' : q.val < 164 := q.isLt; omega⟩, ⟨(q.val - 4) % 32, Nat.mod_lt _ (by decide)⟩)) else none

theorem kd_csem (k : Ck) : kd (csem k) = some k := by
  rcases k with _ | ⟨a, i⟩
  · show (if barS = barS then some none else none) = some none
    exact if_pos rfl
  · have := a.isLt; have := i.isLt
    show (if h : 4 ≤ (dS a i).val then _ else none) = _
    rw [dif_pos (show 4 ≤ (dS a i).val by show 4 ≤ 4 + 32 * a.val + i.val; omega)]
    congr 3
    · exact Fin.ext (show (4 + 32 * a.val + i.val - 4) / 32 = a.val by omega)
    · exact Fin.ext (show (4 + 32 * a.val + i.val - 4) % 32 = i.val by omega)

theorem csem_injective : Function.Injective csem := fun k k' h => by
  have := congrArg kd h; rw [kd_csem, kd_csem] at this; exact Option.some.inj this

theorem cell_inj {c c' : Dev nD} {k k' : Ck} (h : cell c k = cell c' k') : c = c' ∧ k = k' :=
  ⟨congrArg (fun g : GSem nD τ sig => g.1.1) h, csem_injective (congrArg (fun g : GSem nD τ sig => g.2) h)⟩

theorem add_sub_dev (c d : Dev nD) : d + (c - d) = c := by revert c d; decide
theorem sub_add_dev (c i : Dev nD) : c + i - c = i := by revert c i; decide
theorem sub_sub_dev (c i : Dev nD) : c - (c - i) = i := by revert c i; decide
theorem sub_eq_zero_dev (c d : Dev nD) : c - d = 0 ↔ d = c := by revert c d; decide
theorem add_eq_dev (c i : Dev nD) : c + i = c ↔ i = 0 := by revert c i; decide
theorem sub_val (c d : Dev nD) : (c - d).val = (c.val + (32 - d.val)) % 32 := by revert c d; decide

/-- What one transfer of the exchange (32 rows) signals. -/
def Nx : ℕ := ((rM.slice (Rect.unit (s := S32x32x768) ![1, 0, 0] S1x32x768.size (by decide)) (fun _ => rfl)).squeeze S32x768 squeezes_S1x32x768_S32x768).view.dmaCredit
/-- What one copy of a head's keys or values signals. -/
def Nkv : ℕ := ((kM.slice (Rect.unit (s := S2x8x512x64) ![0, 0, 0, 0] S1x1x512x64.size (by decide)) (fun _ => rfl)).squeeze S512x64 squeezes_S1x1x512x64_S512x64).view.dmaCredit

theorem Nx_pos : 0 < Nx := View.dmaCredit_pos _ (by decide)
theorem Nkv_pos : 0 < Nkv := View.dmaCredit_pos _ (by decide)

/-! ## What the buffers hold -/

/-- The staged inputs: the blocks of `x`, `Wq`, `Wo` the launch brings in. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg4))

/-- The arrays of keys and values in the device's memory. -/
def karr (c : Dev nD) : Buf (Elt F) ((c : Thread nD τ).loc main_arg2) := m ((c : Thread nD τ).loc main_arg2)
def varr (c : Dev nD) : Buf (Elt F) ((c : Thread nD τ).loc main_arg3) := m ((c : Thread nD τ).loc main_arg3)

/-- Head `h` of device `c` among all 256 heads. -/
def hd (c : Dev nD) (h : Fin 8) : Fin 256 := ⟨8 * c.val + h.val, by have h1 : c.val < 32 := c.isLt; have := h.isLt; omega⟩

/-- The device's heads of the keys and of the values, batch and head leading. -/
def kBuf (c : Dev nD) : Buf (Elt F) ((c : Thread nD τ).loc cc0_scratch1) :=
  fun i : S2x8x512x64.Idx => karr m c (ix4 (i 0) (i 2) (hd c (i 1)) (i 3) : S2x512x256x64.Idx)
def vBuf (c : Dev nD) : Buf (Elt F) ((c : Thread nD τ).loc cc0_scratch2) :=
  fun i : S2x8x512x64.Idx => varr m c (ix4 (i 0) (i 2) (hd c (i 1)) (i 3) : S2x512x256x64.Idx)

/-- All a device computes from. -/
def inp (c : Dev nD) : In F := ⟨xstg m ρ c, wqstg m ρ c, wostg m ρ c, kBuf m c, vBuf m c⟩

/-- The partial results of device `c`, all 1024 rows. -/
def P (c : Dev nD) : Buf (Elt F) ((c : Thread nD τ).loc cc0_scratch0) :=
  fun i : S1024x768.Idx => if h : (i 0).val < 512 then out0 (inp m ρ c) (ix2 ⟨(i 0).val, h⟩ (i 1) : S512x768.Idx)
    else out1 (inp m ρ c) (ix2 ⟨(i 0).val - 512, by have : (i 0).val < 1024 := (i 0).isLt; omega⟩ (i 1) : S512x768.Idx)

/-- Row `r` of chunk `j` among the 1024 rows. -/
def row (j : Fin 32) (r : Fin 32) : Fin 1024 := ⟨32 * j.val + r.val, by have := j.isLt; have := r.isLt; omega⟩

/-- Chunk `j` of device `c`'s partial results. -/
def chunk (c : Dev nD) (j : Fin 32) : Vec F S32x768 .bf16 := fun i => P m ρ c (ix2 (row j (i 0)) (i 1) : S1024x768.Idx)

/-- The receive buffer of device `c` after the first exchange: slot `j` holds its chunk from device `c + j`. -/
def R (c : Dev nD) : Buf (Elt F) ((c : Thread nD τ).loc cc0_scratch3) :=
  fun i : S32x32x768.Idx => chunk m ρ (c + (show Fin 32 from i 0)) c (ix2 (i 1) (i 2) : S32x768.Idx)

/-- Device `j`'s chunk of the result: its own partial rows and the 31 received ones, added. -/
def tot (j : Dev nD) : Vec F S32x768 .bf16 :=
  k0_pay42 (chunk m ρ j j) (fun i : S31x32x768.Idx =>
    R m ρ j (ix3 ⟨(i 0).val + 1, by have : (i 0).val < 31 := (i 0).isLt; omega⟩ (i 1) (i 2) : S32x32x768.Idx))

/-- The gathered result, the same on every device: chunk `j` is device `j`'s. -/
def T : S1024x768.Idx → Elt F .bf16 :=
  fun i => tot m ρ ⟨(i 0).val / 32, by have : (i 0).val < 1024 := (i 0).isLt; show _ < 32; omega⟩ (ix2 ⟨(i 0).val % 32, Nat.mod_lt _ (by decide)⟩ (i 1) : S32x768.Idx)

/-! ## Pieces of the buffers -/

/-- Rows `32 j .. 32 j + 31`. -/
def rowSet (j : Fin 32) : Finset S1024x768.Idx := Finset.univ.filter fun i => (i 0).val / 32 = j.val
/-- Slot `j` of the receive buffer. -/
def slotSet (j : Fin 32) : Finset S32x32x768.Idx := Finset.univ.filter fun i => (i 0).val = j.val
/-- The block of copy `e` (batch `e / 8`, head `e % 8`) in a key or value buffer. -/
def scrSet (e : ℕ) : Finset S2x8x512x64.Idx := Finset.univ.filter fun i => (i 0).val = e / 8 ∧ (i 1).val = e % 8
/-- Its source in the array of device `c`. -/
def hbmSet (c : Dev nD) (e : ℕ) : Finset S2x512x256x64.Idx := Finset.univ.filter fun i => (i 0).val = e / 8 ∧ (i 2).val = 8 * c.val + e % 8

def rowPts (c : Dev nD) (j : Fin 32) (q : PosShare TreeShare) (f : Buf (Elt F) ((c : Thread nD τ).loc cc0_scratch0)) : sProp 𝕄 :=
  ((c : Thread nD τ).loc cc0_scratch0) ↦[rowSet j]{q} f
def slotPts (c : Dev nD) (j : Fin 32) (f : Buf (Elt F) ((c : Thread nD τ).loc cc0_scratch3)) : sProp 𝕄 :=
  ((c : Thread nD τ).loc cc0_scratch3) ↦[slotSet j]{fullShare} f
def kPts (c : Dev nD) (e : ℕ) (f : Buf (Elt F) ((c : Thread nD τ).loc cc0_scratch1)) : sProp 𝕄 :=
  ((c : Thread nD τ).loc cc0_scratch1) ↦[scrSet e]{fullShare} f
def vPts (c : Dev nD) (e : ℕ) (f : Buf (Elt F) ((c : Thread nD τ).loc cc0_scratch2)) : sProp 𝕄 :=
  ((c : Thread nD τ).loc cc0_scratch2) ↦[scrSet e]{fullShare} f
def kaPts (c : Dev nD) (e : ℕ) : sProp 𝕄 :=
  ((c : Thread nD τ).loc main_arg2) ↦[hbmSet c e]{fullShare} karr m c
def vaPts (c : Dev nD) (e : ℕ) : sProp 𝕄 :=
  ((c : Thread nD τ).loc main_arg3) ↦[hbmSet c e]{fullShare} varr m c

/-- Copy `i < 16` moves keys, the others values: the source, the target at any contents, the target filled. -/
def kvSrc (c : Dev nD) (i : Fin 32) : sProp 𝕄 := if i.val < 16 then kaPts m c i.val else vaPts m c (i.val - 16)
def kvAny (c : Dev nD) (i : Fin 32) : sProp 𝕄 := if i.val < 16 then iprop(∃ f, kPts c i.val f) else iprop(∃ f, vPts c (i.val - 16) f)
def kvDst (c : Dev nD) (i : Fin 32) : sProp 𝕄 := if i.val < 16 then kPts c i.val (kBuf m c) else vPts c (i.val - 16) (vBuf m c)

/-! ## The schedule -/

/-- Whether cell `i` of array `a` of device `c` is ever signalled. -/
def Used (c : Dev nD) (a : Fin 5) (i : Fin 32) : Prop :=
  match a with
  | 0 => True
  | 2 => i ≠ 0
  | _ => i ≠ c
instance (c : Dev nD) (a : Fin 5) (i : Fin 32) : Decidable (Used c a i) := by unfold Used; split <;> infer_instance

def dutiesK (c : Dev nD) : Ck → Finset (Fin 32)
  | none => Finset.univ.erase c
  | some (a, i) => if Used c a i then {0} else ∅

def amountK : Ck → ℕ
  | none => 1
  | some (a, _) => if a = 0 then Nkv else Nx

theorem amountK_pos (k : Ck) : 0 < amountK k := by
  rcases k with _ | ⟨a, i⟩
  · exact Nat.one_pos
  · show 0 < if a = 0 then Nkv else Nx
    split
    · exact Nkv_pos
    · exact Nx_pos

/-- What a signal of a cell hands to the waiting device `c`: at the barrier, sender `d`'s slot for `c`; from a copy, source and filled target; from
    a receive of the first exchange, the filled slot and the sender's rows; from a send of the second, the share of the rows
    that it read; from a receive of the second, the finished rows. -/
def payK (c : Dev nD) (d : Fin 32) : Ck → sProp 𝕄
  | none => iprop(∃ f, slotPts d (c - d) f)
  | some (0, i) => iprop(kvSrc m c i ∗ kvDst m c i)
  | some (1, _) => iprop(emp)
  | some (2, i) => iprop(slotPts c i (R m ρ c) ∗ rowPts (c + i) c fullShare (P m ρ (c + i)))
  | some (3, i) => rowPts c c (leaf 5 fullShare.left i) (T m ρ)
  | some (4, i) => rowPts c i fullShare (T m ρ)

def ringRd : Rounds.Schedule (GSem nD τ sig) (Fin 32) 𝕄 where
  duties g r := if r = 0 ∧ g.1.2 = .tc then (match kd g.2 with | some k => dutiesK g.1.1 k | none => ∅) else ∅
  unitless _ := False
  amount g _ _ := match kd g.2 with | some k => amountK k | none => 1
  payload g _ d := match kd g.2 with | some k => payK m ρ g.1.1 d k | none => iprop(emp)
  amount_pos g _ _ _ := by
    cases kd g.2 with
    | none => exact Nat.one_pos
    | some k => exact amountK_pos k

instance payK_storable (c : Dev nD) (d : Fin 32) (k : Ck) : BI.Storable (upEmb : UEmb _ 𝕄) (payK (F := F) m ρ c d k) := by
  unfold payK kvSrc kvDst rowPts slotPts kPts vPts kaPts vaPts
  (repeat' split) <;> infer_instance

instance ringRd_payload_storable (g : GSem nD τ sig) (r : ℕ) (d : Fin 32) :
    BI.Storable (upEmb : UEmb _ 𝕄) ((ringRd (F := F) m ρ).payload g r d) := by
  show BI.Storable upEmb (match kd g.2 with | some k => payK m ρ g.1.1 d k | none => iprop(emp))
  split <;> infer_instance

section Sched
variable (c : Dev nD) (k : Ck)

theorem duties_cell : (ringRd (F := F) m ρ).duties (cell c k) 0 = dutiesK c k := by
  dsimp only [ringRd]
  rw [if_pos ⟨rfl, rfl⟩]
  show (match kd (csem k) with | some k => dutiesK c k | none => ∅) = _
  rw [kd_csem]
theorem duties_later (g : GSem nD τ sig) : ∀ r, 1 ≤ r → (ringRd (F := F) m ρ).duties g r = ∅ :=
  fun r hr => if_neg fun h => by omega
/-- A cell never signalled has no duties in any round. -/
theorem duties_unused (h : dutiesK c k = ∅) : ∀ r, 0 ≤ r → (ringRd (F := F) m ρ).duties (cell c k) r = ∅ := fun r _ => by
  rcases Nat.eq_zero_or_pos r with rfl | hr
  · rw [duties_cell, h]
  · exact duties_later m ρ _ r hr
theorem amount_cell (d : Fin 32) : (ringRd (F := F) m ρ).amount (cell c k) 0 d = amountK k := by
  show (match kd (csem k) with | some k => amountK k | none => 1) = _
  rw [kd_csem]
theorem payload_cell (d : Fin 32) : (ringRd (F := F) m ρ).payload (cell c k) 0 d = payK m ρ c d k := by
  show (match kd (csem k) with | some k => payK m ρ c d k | none => iprop(emp)) = _
  rw [kd_csem]
theorem expect_cell : (ringRd (F := F) m ρ).expect (cell c k) 0 = (dutiesK c k).card * amountK k := by
  unfold Schedule.expect Schedule.amountOf
  rw [duties_cell, Finset.sum_congr rfl fun d _ => amount_cell m ρ c k d, Finset.sum_const, smul_eq_mul]
/-- What the wait for a whole round gives: the payloads of all its duties. -/
theorem rest_cell : bigSep ((ringRd (F := F) m ρ).duties (cell c k) 0 \ ∅) (fun d => (ringRd (F := F) m ρ).payload (cell c k) 0 d)
    = bigSep (dutiesK c k) (fun d => payK m ρ c d k) := by
  rw [Finset.sdiff_empty, duties_cell]
  exact congrArg (bigSep (dutiesK c k)) (funext fun d => payload_cell m ρ c k d)
end Sched

/-! ## What each device owes; the order of the cells -/

/-- The indices from `n` on. -/
def from_ (n : ℕ) : Finset (Fin 32) := Finset.univ.filter fun i => n ≤ i.val

theorem from_eq {n : ℕ} (h : n < 32) : from_ n = insert ⟨n, h⟩ (from_ (n + 1)) := by
  ext i; simp only [from_, Finset.mem_filter, Finset.mem_univ, true_and, Finset.mem_insert, Fin.ext_iff]; omega
theorem not_mem_from {n : ℕ} (h : n < 32) : (⟨n, h⟩ : Fin 32) ∉ from_ (n + 1) := by
  simp [from_]
theorem sum_from {A : Type} [AddCommMonoid A] (f : Fin 32 → A) {n : ℕ} (h : n < 32) :
    ∑ i ∈ from_ n, f i = ∑ i ∈ from_ (n + 1), f i + f ⟨n, h⟩ := by
  rw [from_eq h, Finset.sum_insert (not_mem_from h), add_comm]
theorem from_end : from_ 32 = ∅ := by
  ext i; simp only [from_, Finset.mem_filter, Finset.mem_univ, true_and, Finset.notMem_empty, iff_false]; have := i.isLt; omega

/-- The barrier signals still owed, from the `n`-th on; -/
def oB (c : Dev nD) (n : ℕ) : CellTallies nD τ sig Unit := ∑ i ∈ from_ n, tallyAt (cell (c + i) none) () 1
/-- the transfers of the first exchange; -/
def oR (c : Dev nD) (n : ℕ) : CellTallies nD τ sig Unit := ∑ d ∈ from_ n, if d = c then 0 else tallyAt (cell d (some (2, c - d))) () Nx
/-- those of the second. -/
def oA (c : Dev nD) (n : ℕ) : CellTallies nD τ sig Unit := ∑ d ∈ from_ n, if d = c then 0 else tallyAt (cell d (some (4, c))) () Nx

/-- What device `c` owes at launch. -/
def O₀ (c : Dev nD) : CellTallies nD τ sig Unit := oA c 0 + oR c 0 + oB c 1

def L (g : GSem nD τ sig) : Finset Unit := if g.1.2 = .tc then {()} else ∅
/-- The barrier at 1, the receives of the first exchange at 2, those of the second at 3, everything else at 0. -/
def lvK : Ck → ℕ
  | none => 1
  | some (a, _) => if a = 2 then 2 else if a = 4 then 3 else 0
def lv (g : GSem nD τ sig) (_ : Unit) : ℕ := match kd g.2 with | some k => lvK k | none => 0

theorem lv_cell (c : Dev nD) (k : Ck) (u : Unit) : lv (cell c k) u = lvK k := by
  show (match kd (csem k) with | some k => lvK k | none => 0) = _
  rw [kd_csem]
theorem L_of_ne (g : GSem nD τ sig) (h : g.1.2 ≠ .tc) : L g = ∅ := if_neg h
theorem L_tc (c : Dev nD) (sm : SemLoc sig) : L ((c : Thread nD τ), sm) = {()} := if_pos rfl

/-- Every cell owed is a cell of some device, of a level above `b`. -/
def Above (b : ℕ) (O : CellTallies nD τ sig Unit) : Prop :=
  ∀ g u, 0 < O g u → ∃ (d : Dev nD) (k : Ck), g = cell d k ∧ b < lvK k

theorem above_zero (b : ℕ) : Above b 0 := fun g u h => absurd h (Nat.lt_irrefl 0)
theorem above_add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
theorem above_sum {b : ℕ} (S : Finset (Fin 32)) (f : Fin 32 → CellTallies nD τ sig Unit) (h : ∀ i, Above b (f i)) : Above b (∑ i ∈ S, f i) := by
  induction S using Finset.cons_induction with
  | empty => exact above_zero b
  | cons a s ha ih => rw [Finset.sum_cons]; exact above_add (h a) ih
theorem above_tally {b : ℕ} (c : Dev nD) (k : Ck) (N : ℕ) (h : b < lvK k) : Above b (tallyAt (cell c k) () N) := fun g u hp => by
  rw [tallyAt_apply] at hp
  by_cases hg : g = cell c k ∧ u = ()
  · exact ⟨c, k, hg.1, h⟩
  · rw [if_neg hg] at hp; exact absurd hp (Nat.lt_irrefl 0)
theorem above_oB (c : Dev nD) (n : ℕ) : Above 0 (oB c n) := above_sum _ _ fun i => above_tally _ _ _ (by decide)
theorem above_oR {b : ℕ} (hb : b < 2) (c : Dev nD) (n : ℕ) : Above b (oR c n) := above_sum _ _ fun d => by
  split
  · exact above_zero b
  · exact above_tally _ _ _ hb
theorem above_oA {b : ℕ} (hb : b < 3) (c : Dev nD) (n : ℕ) : Above b (oA c n) := above_sum _ _ fun d => by
  split
  · exact above_zero b
  · exact above_tally _ _ _ hb

/-- A wait on a semaphore of level at most `b` is in order while only cells above `b` are owed. -/
theorem mayWait_above {b : ℕ} (c : Dev nD) (sm : SemLoc sig) (hl : lv ((c : Thread nD τ), sm) () ≤ b) {O : CellTallies nD τ sig Unit} (h : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by obtain ⟨d, k, rfl, _⟩ := h g u hg; exact Finset.mem_singleton_self _)
    (fun p hp => by rw [Finset.mem_singleton.mp hp]; exact hl)
    (fun g u hg => by obtain ⟨d, k, rfl, hk⟩ := h g u hg; rw [lv_cell]; exact hk)

/-! ## What every device knows: the invariants of all cells, and that each is at its first round -/

def records (K : Dev nD × Ck → ℕ) : sProp 𝕄 :=
  bigSep Finset.univ fun p : Dev nD × Ck => iprop(cellInv ER (ringRd m ρ) (K p) (cell p.1 p.2) ∗ reached ER (cell p.1 p.2) 0)

instance records_persistent (K : Dev nD × Ck → ℕ) : BI.Persistent (records m ρ K) := by unfold records; infer_instance

def Ctx (K : Dev nD × Ck → ℕ) : sProp 𝕄 := iprop(records m ρ K ∗ levAts L lv)
instance Ctx_persistent (K : Dev nD × Ck → ℕ) : BI.Persistent (Ctx m ρ K) := by unfold Ctx; infer_instance

theorem rec_at (K : Dev nD × Ck → ℕ) (c : Dev nD) (k : Ck) :
    records m ρ K ⊢ iprop(cellInv ER (ringRd m ρ) (K (c, k)) (cell c k) ∗ reached ER (cell c k) 0) := by
  unfold records
  exact bigSep_elim (Φ := fun p : Dev nD × Ck => iprop(cellInv ER (ringRd m ρ) (K p) (cell p.1 p.2) ∗ reached ER (cell p.1 p.2) 0)) (Finset.mem_univ ((c, k) : Dev nD × Ck))
theorem inv_at (K : Dev nD × Ck → ℕ) (c : Dev nD) (k : Ck) : Ctx m ρ K ⊢ cellInv ER (ringRd m ρ) (K (c, k)) (cell c k) := by
  unfold Ctx
  iintro ⟨H, -⟩
  ihave H := (rec_at m ρ K c k) $$ H
  icases H with ⟨H, -⟩
  iexact H
theorem reached_at (K : Dev nD × Ck → ℕ) (c : Dev nD) (k : Ck) : Ctx m ρ K ⊢ reached ER (cell c k) 0 := by
  unfold Ctx
  iintro ⟨H, -⟩
  ihave H := (rec_at m ρ K c k) $$ H
  icases H with ⟨-, H⟩
  iexact H
theorem mayWait_at (K : Dev nD × Ck → ℕ) (c : Dev nD) (k : Ck) {b : ℕ} (hb : lvK k ≤ b) {O : CellTallies nD τ sig Unit} (hO : Above b O) :
    Ctx m ρ K ⊢ MayWait (c : Thread nD τ) (csem k) () O := by
  unfold Ctx
  iintro ⟨-, H⟩
  iapply (mayWait_above c (csem k) (b := b) (by rw [lv_cell]; exact hb) hO)
  iexact H

abbrev 𝒱₀ : Variants := Variants.none

end Cert.K01
-- ==== Proof.Geometry.lean ====
module

public import proofs.«01_k».proof.Proof.Common
public import Idealize.ShloMosaic.Lib.ValueLayout

/-! # Which elements the transfers, loads and stores touch, and what they leave there -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

variable (m : (ℓ : Loc nD τ sig) → Buf (Elt F) ℓ) (ρ : Dev nD → PrngReg)

/-! ## The pieces as the program names them -/

abbrev prow (off : Fin 2 → ℕ) (inb : ∀ a, off a + S32x768.size a ≤ S1024x768.size a) : Memref sig .tc .vmem S32x768 .bf16 :=
  pM.slice (Rect.unit (s := S1024x768) off S32x768.size inb) (fun _ => rfl)
abbrev rslot (off : Fin 3 → ℕ) (inb : ∀ a, off a + S1x32x768.size a ≤ S32x32x768.size a) : Memref sig .tc .vmem S32x768 .bf16 :=
  (rM.slice (Rect.unit (s := S32x32x768) off S1x32x768.size inb) (fun _ => rfl)).squeeze S32x768 squeezes_S1x32x768_S32x768
abbrev kslot (off : Fin 4 → ℕ) (inb : ∀ a, off a + S1x1x512x64.size a ≤ S2x8x512x64.size a) : Memref sig .tc .vmem S512x64 .f32 :=
  (kM.slice (Rect.unit (s := S2x8x512x64) off S1x1x512x64.size inb) (fun _ => rfl)).squeeze S512x64 squeezes_S1x1x512x64_S512x64
abbrev vslot (off : Fin 4 → ℕ) (inb : ∀ a, off a + S1x1x512x64.size a ≤ S2x8x512x64.size a) : Memref sig .tc .vmem S512x64 .f32 :=
  (vM.slice (Rect.unit (s := S2x8x512x64) off S1x1x512x64.size inb) (fun _ => rfl)).squeeze S512x64 squeezes_S1x1x512x64_S512x64
abbrev khbm (off : Fin 4 → ℕ) (inb : ∀ a, off a + S1x512x1x64.size a ≤ S2x512x256x64.size a) : Memref sig .tc .hbm S512x64 .f32 :=
  ((Memref.whole main_arg2 : Memref sig .tc .hbm S2x512x256x64 .f32).slice (Rect.unit (s := S2x512x256x64) off S1x512x1x64.size inb) (fun _ => rfl)).squeeze S512x64 squeezes_S1x512x1x64_S512x64
abbrev vhbm (off : Fin 4 → ℕ) (inb : ∀ a, off a + S1x512x1x64.size a ≤ S2x512x256x64.size a) : Memref sig .tc .hbm S512x64 .f32 :=
  ((Memref.whole main_arg3 : Memref sig .tc .hbm S2x512x256x64 .f32).slice (Rect.unit (s := S2x512x256x64) off S1x512x1x64.size inb) (fun _ => rfl)).squeeze S512x64 squeezes_S1x512x1x64_S512x64

/-! ## The index sets -/

theorem mem_rect2 {d size off : Fin 2 → ℕ} {inb} {i : (⟨2, d⟩ : Shape).Idx} :
    i ∈ (Rect.unit (s := ⟨2, d⟩) off size inb).set ↔ (off 0 ≤ (i 0).val ∧ (i 0).val < off 0 + size 0) ∧ (off 1 ≤ (i 1).val ∧ (i 1).val < off 1 + size 1) := by
  rw [Rect.mem_set_unit]; exact Fin.forall_fin_two
theorem mem_rect3 {d size off : Fin 3 → ℕ} {inb} {i : (⟨3, d⟩ : Shape).Idx} :
    i ∈ (Rect.unit (s := ⟨3, d⟩) off size inb).set ↔ (off 0 ≤ (i 0).val ∧ (i 0).val < off 0 + size 0) ∧ (off 1 ≤ (i 1).val ∧ (i 1).val < off 1 + size 1)
      ∧ (off 2 ≤ (i 2).val ∧ (i 2).val < off 2 + size 2) := by
  rw [Rect.mem_set_unit, Fin.forall_fin_succ, Fin.forall_fin_two]; exact Iff.rfl
theorem mem_rect4 {d size off : Fin 4 → ℕ} {inb} {i : (⟨4, d⟩ : Shape).Idx} :
    i ∈ (Rect.unit (s := ⟨4, d⟩) off size inb).set ↔ (off 0 ≤ (i 0).val ∧ (i 0).val < off 0 + size 0) ∧ (off 1 ≤ (i 1).val ∧ (i 1).val < off 1 + size 1)
      ∧ (off 2 ≤ (i 2).val ∧ (i 2).val < off 2 + size 2) ∧ (off 3 ≤ (i 3).val ∧ (i 3).val < off 3 + size 3) := by
  rw [Rect.mem_set_unit, Fin.forall_fin_succ, Fin.forall_fin_succ, Fin.forall_fin_two]; exact Iff.rfl

theorem set_prow {off inb} (j : Fin 32) (h : off = ![32 * j.val, 0]) : (prow off inb).view.set = rowSet j := by
  subst h
  refine (View.set_slice_whole cc0_scratch0 _).trans ?_
  ext i
  rw [rowSet, Finset.mem_filter]
  refine (mem_rect2 (d := ![1024, 768])).trans ?_
  show ((32 * j.val ≤ (i 0).val ∧ (i 0).val < 32 * j.val + 32) ∧ (0 ≤ (i 1).val ∧ (i 1).val < 0 + 768)) ↔ _
  have h1 : (i 1).val < 768 := (i 1).isLt
  simp only [Finset.mem_univ, true_and]; omega

theorem set_rslot {off inb} (j : Fin 32) (h : off = ![j.val, 0, 0]) : (rslot off inb).view.set = slotSet j := by
  subst h
  refine (View.set_reshape _ _).trans ((View.set_slice_whole cc0_scratch3 _).trans ?_)
  ext i
  rw [slotSet, Finset.mem_filter]
  refine (mem_rect3 (d := ![32, 32, 768])).trans ?_
  show ((j.val ≤ (i 0).val ∧ (i 0).val < j.val + 1) ∧ (0 ≤ (i 1).val ∧ (i 1).val < 0 + 32) ∧ (0 ≤ (i 2).val ∧ (i 2).val < 0 + 768)) ↔ _
  have h1 : (i 1).val < 32 := (i 1).isLt
  have h2 : (i 2).val < 768 := (i 2).isLt
  simp only [Finset.mem_univ, true_and]; omega

theorem scr_rect {off inb} (e : ℕ) (h : off = ![e / 8, e % 8, 0, 0]) :
    (Rect.unit (s := S2x8x512x64) off S1x1x512x64.size inb).set = scrSet e := by
  subst h
  ext i
  rw [scrSet, Finset.mem_filter]
  refine (mem_rect4 (d := ![2, 8, 512, 64])).trans ?_
  show ((e / 8 ≤ (i 0).val ∧ (i 0).val < e / 8 + 1) ∧ (e % 8 ≤ (i 1).val ∧ (i 1).val < e % 8 + 1) ∧ (0 ≤ (i 2).val ∧ (i 2).val < 0 + 512) ∧ (0 ≤ (i 3).val ∧ (i 3).val < 0 + 64)) ↔ _
  have h1 : (i 2).val < 512 := (i 2).isLt
  have h2 : (i 3).val < 64 := (i 3).isLt
  simp only [Finset.mem_univ, true_and]; omega
theorem set_kslot {off inb} (e : ℕ) (h : off = ![e / 8, e % 8, 0, 0]) : (kslot off inb).view.set = scrSet e :=
  (View.set_reshape _ _).trans ((View.set_slice_whole cc0_scratch1 _).trans (scr_rect e h))
theorem set_vslot {off inb} (e : ℕ) (h : off = ![e / 8, e % 8, 0, 0]) : (vslot off inb).view.set = scrSet e :=
  (View.set_reshape _ _).trans ((View.set_slice_whole cc0_scratch2 _).trans (scr_rect e h))
theorem hbm_rect {off inb} (c : Dev nD) (e : ℕ) (h : off = ![e / 8, 0, 8 * c.val + e % 8, 0]) :
    (Rect.unit (s := S2x512x256x64) off S1x512x1x64.size inb).set = hbmSet c e := by
  subst h
  ext i
  rw [hbmSet, Finset.mem_filter]
  refine (mem_rect4 (d := ![2, 512, 256, 64])).trans ?_
  show ((e / 8 ≤ (i 0).val ∧ (i 0).val < e / 8 + 1) ∧ (0 ≤ (i 1).val ∧ (i 1).val < 0 + 512) ∧ (8 * c.val + e % 8 ≤ (i 2).val ∧ (i 2).val < 8 * c.val + e % 8 + 1) ∧ (0 ≤ (i 3).val ∧ (i 3).val < 0 + 64)) ↔ _
  have h1 : (i 1).val < 512 := (i 1).isLt
  have h2 : (i 3).val < 64 := (i 3).isLt
  simp only [Finset.mem_univ, true_and]; omega
theorem set_khbm {off inb} (c : Dev nD) (e : ℕ) (h : off = ![e / 8, 0, 8 * c.val + e % 8, 0]) : (khbm off inb).view.set = hbmSet c e :=
  (View.set_reshape _ _).trans ((View.set_slice_whole main_arg2 _).trans (hbm_rect c e h))
theorem set_vhbm {off inb} (c : Dev nD) (e : ℕ) (h : off = ![e / 8, 0, 8 * c.val + e % 8, 0]) : (vhbm off inb).view.set = hbmSet c e :=
  (View.set_reshape _ _).trans ((View.set_slice_whole main_arg3 _).trans (hbm_rect c e h))

/-! ## Where the copies land -/

/-- What a copy leaves in the target agrees with `g` on the target's elements, if it does element by element. -/
theorem landing {sp sp' : Space} {s : Shape} {e : EltTy} (src : View sig .tc sp s e) (dst : View sig .tc sp' s e) (fs : src.ty.Contents (Elt F))
    (fd g : dst.ty.Contents (Elt F))
    (h : ∀ x : s.Idx, (_root_.cast (congrArg (Elt F) dst.elt_eq.symm) (src.read (Elt F) fs x)) = g (dst.emb x)) :
    ∀ i ∈ dst.set, dst.write (Elt F) fd (src.read (Elt F) fs) Finset.univ i = g i := fun i hi => by
  obtain ⟨x, -, rfl⟩ := Finset.mem_map.mp hi
  exact (View.write_emb_of_mem _ _ (Finset.mem_univ x)).trans (h x)

theorem resh4b (h : S512x64.numel = S1x512x1x64.numel) (x : Fin 512) (y : Fin 64) :
    Shape.reshapeEquiv h (ix2 x y : S512x64.Idx) = (ix4 (0 : Fin 1) x (0 : Fin 1) y : S1x512x1x64.Idx) :=
  Shape.reshapeEquiv_eq_of_rowMajor h (by
    refine (Shape.rowMajor_val_four (d := ![1, 512, 1, 64]) _).trans (Eq.trans ?_ (Shape.rowMajor_val_two (d := ![512, 64]) _).symm)
    show (((0 * 512 + x.val) * 1 + 0) * 64 + y.val) = x.val * 64 + y.val
    omega)

theorem idx2 {a b : ℕ} (x : (⟨2, ![a, b]⟩ : Shape).Idx) : x = ix2 (x 0) (x 1) := funext fun d => by fin_cases d <;> rfl

/-- The element of a key or value buffer that a copy's element `(y, z)` lands at, and the one it is read from. -/
theorem slot_emb {off inb} (e : ℕ) (he : e < 16) (h : off = ![e / 8, e % 8, 0, 0]) (hn : S512x64.numel = S1x1x512x64.numel) (x : S512x64.Idx) :
    (Rect.unit (s := S2x8x512x64) off S1x1x512x64.size inb).emb (Shape.reshapeEquiv hn x)
      = (ix4 ⟨e / 8, by omega⟩ ⟨e % 8, by omega⟩ (x 0) (x 1) : S2x8x512x64.Idx) := by
  subst h
  rw [(congrArg (Shape.reshapeEquiv hn) (idx2 (a := 512) (b := 64) x)).trans (reshapeEquiv_ix2_11ab hn (x 0) (x 1))]
  funext d; apply Fin.ext; rw [Rect.emb_apply]
  match d with
  | 0 => show e / 8 + 1 * 0 = e / 8; omega
  | 1 => show e % 8 + 1 * 0 = e % 8; omega
  | 2 => show 0 + 1 * (x 0).val = (x 0).val; omega
  | 3 => show 0 + 1 * (x 1).val = (x 1).val; omega
theorem hbm_emb {off inb} (c : Dev nD) (e : ℕ) (he : e < 16) (h : off = ![e / 8, 0, 8 * c.val + e % 8, 0]) (hn : S512x64.numel = S1x512x1x64.numel) (x : S512x64.Idx) :
    (Rect.unit (s := S2x512x256x64) off S1x512x1x64.size inb).emb (Shape.reshapeEquiv hn x)
      = (ix4 ⟨e / 8, by omega⟩ (x 0) (hd c ⟨e % 8, by omega⟩) (x 1) : S2x512x256x64.Idx) := by
  subst h
  rw [(congrArg (Shape.reshapeEquiv hn) (idx2 (a := 512) (b := 64) x)).trans (resh4b hn (x 0) (x 1))]
  funext d; apply Fin.ext; rw [Rect.emb_apply]
  match d with
  | 0 => show e / 8 + 1 * 0 = e / 8; omega
  | 1 => show 0 + 1 * (x 0).val = (x 0).val; omega
  | 2 => show 8 * c.val + e % 8 + 1 * 0 = 8 * c.val + e % 8; omega
  | 3 => show 0 + 1 * (x 1).val = (x 1).val; omega

theorem land_k (c : Dev nD) (e : ℕ) (he : e < 16) {offs inbs offd inbd} (hs : offs = ![e / 8, 0, 8 * c.val + e % 8, 0]) (hd' : offd = ![e / 8, e % 8, 0, 0])
    (fd : Buf (Elt F) ((c : Thread nD τ).loc cc0_scratch1)) :
    ∀ i ∈ (kslot offd inbd).view.set, (kslot offd inbd).view.write (Elt F) fd ((khbm offs inbs).view.read (Elt F) (karr m c)) Finset.univ i = kBuf m c i := by
  refine landing (khbm offs inbs).view (kslot offd inbd).view _ _ _ fun x => ?_
  exact (congrArg (karr m c) (hbm_emb c e he hs _ x)).trans (congrArg (kBuf m c) (slot_emb e he hd' _ x)).symm
theorem land_v (c : Dev nD) (e : ℕ) (he : e < 16) {offs inbs offd inbd} (hs : offs = ![e / 8, 0, 8 * c.val + e % 8, 0]) (hd' : offd = ![e / 8, e % 8, 0, 0])
    (fd : Buf (Elt F) ((c : Thread nD τ).loc cc0_scratch2)) :
    ∀ i ∈ (vslot offd inbd).view.set, (vslot offd inbd).view.write (Elt F) fd ((vhbm offs inbs).view.read (Elt F) (varr m c)) Finset.univ i = vBuf m c i := by
  refine landing (vhbm offs inbs).view (vslot offd inbd).view _ _ _ fun x => ?_
  exact (congrArg (varr m c) (hbm_emb c e he hs _ x)).trans (congrArg (vBuf m c) (slot_emb e he hd' _ x)).symm

theorem row_emb {off inb} (j : Fin 32) (h : off = ![32 * j.val, 0]) (x : S32x768.Idx) :
    (Rect.unit (s := S1024x768) off S32x768.size inb).emb x = (ix2 (row j (x 0)) (x 1) : S1024x768.Idx) := by
  subst h
  funext d; apply Fin.ext; rw [Rect.emb_apply]
  match d with
  | 0 => show 32 * j.val + 1 * (x 0).val = 32 * j.val + (x 0).val; omega
  | 1 => show 0 + 1 * (x 1).val = (x 1).val; omega
theorem rslot_emb {off inb} (j : Fin 32) (h : off = ![j.val, 0, 0]) (hn : S32x768.numel = S1x32x768.numel) (x : S32x768.Idx) :
    (Rect.unit (s := S32x32x768) off S1x32x768.size inb).emb (Shape.reshapeEquiv hn x) = (ix3 j (x 0) (x 1) : S32x32x768.Idx) := by
  subst h
  rw [(congrArg (Shape.reshapeEquiv hn) (idx2 (a := 32) (b := 768) x)).trans (reshapeEquiv_ix2_1ab hn (x 0) (x 1))]
  funext d; apply Fin.ext; rw [Rect.emb_apply]
  match d with
  | 0 => show j.val + 1 * 0 = j.val; omega
  | 1 => show 0 + 1 * (x 0).val = (x 0).val; omega
  | 2 => show 0 + 1 * (x 1).val = (x 1).val; omega

/-- The first exchange: device `c`'s chunk for `d`, landed in slot `c - d` of `d`. -/
theorem land_r (c d : Dev nD) {offs inbs offd inbd} (hs : offs = ![32 * d.val, 0]) (hd' : offd = ![(c - d).val, 0, 0])
    (fd : Buf (Elt F) ((d : Thread nD τ).loc cc0_scratch3)) :
    ∀ i ∈ (rslot offd inbd).view.set, (rslot offd inbd).view.write (Elt F) fd ((prow offs inbs).view.read (Elt F) (P m ρ c)) Finset.univ i = R m ρ d i := by
  refine landing (prow offs inbs).view (rslot offd inbd).view _ _ _ fun x => ?_
  refine (congrArg (P m ρ c) (row_emb d hs x)).trans (Eq.trans ?_ (congrArg (R m ρ d) (rslot_emb (c - d) hd' _ x)).symm)
  have e : d + (c - d) = c := add_sub_dev c d
  show _ = chunk m ρ (d + (c - d)) d _
  rw [e]
  rfl

/-- The second exchange: finished rows of device `c`, copied to the same rows elsewhere. -/
theorem land_a (c d : Dev nD) {offs inbs} (fd : Buf (Elt F) ((d : Thread nD τ).loc cc0_scratch0)) :
    ∀ i ∈ (prow offs inbs).view.set, (prow offs inbs).view.write (Elt F) fd ((prow offs inbs).view.read (Elt F) (T m ρ)) Finset.univ i = T m ρ i :=
  landing (prow offs inbs).view (prow offs inbs).view _ _ _ fun x => rfl

/-! ## What the loads return -/

theorem read_slot (kb : Vec F S2x8x512x64 .f32) {off inb} (b : Fin 2) (h : Fin 8) (ho : off = ![b.val, h.val, 0, 0]) :
    (fun x : S1x1x512x64.Idx => kb ((Rect.unit (s := S2x8x512x64) off S1x1x512x64.size inb).emb x)) = slot kb b h := by
  subst ho
  funext x
  refine congrArg kb (funext fun d => Fin.ext ?_)
  rw [Rect.emb_apply]
  have h0 : (x 0).val < 1 := (x 0).isLt
  have h1 : (x 1).val < 1 := (x 1).isLt
  match d with
  | 0 => show b.val + 1 * (x 0).val = b.val; omega
  | 1 => show h.val + 1 * (x 1).val = h.val; omega
  | 2 => show 0 + 1 * (x 2).val = (x 2).val; omega
  | 3 => show 0 + 1 * (x 3).val = (x 3).val; omega
theorem read_k (c : Dev nD) {off inb} (b : Fin 2) (h : Fin 8) (ho : off = ![b.val, h.val, 0, 0]) :
    kM.view.readAt (Elt F) (Rect.unit (s := S2x8x512x64) off S1x1x512x64.size inb).toLoadRect (kBuf m c) = slot (inp m ρ c).kb b h :=
  read_slot (kBuf m c) b h ho
theorem read_v (c : Dev nD) {off inb} (b : Fin 2) (h : Fin 8) (ho : off = ![b.val, h.val, 0, 0]) :
    vM.view.readAt (Elt F) (Rect.unit (s := S2x8x512x64) off S1x1x512x64.size inb).toLoadRect (vBuf m c) = slot (inp m ρ c).vb b h :=
  read_slot (vBuf m c) b h ho
theorem read_chunk (c : Dev nD) {off inb} (j : Fin 32) (ho : off = ![32 * j.val, 0]) :
    pM.view.readAt (Elt F) (Rect.unit (s := S1024x768) off S32x768.size inb).toLoadRect (P m ρ c) = chunk m ρ c j := by
  funext x
  exact congrArg (P m ρ c) (row_emb j ho x)
theorem read_recv (c : Dev nD) {inb} :
    rM.view.readAt (Elt F) (Rect.unit (s := S32x32x768) ![1, 0, 0] S31x32x768.size inb).toLoadRect (R m ρ c)
      = (fun i : S31x32x768.Idx => R m ρ c (ix3 ⟨(i 0).val + 1, by have : (i 0).val < 31 := (i 0).isLt; omega⟩ (i 1) (i 2) : S32x32x768.Idx)) := by
  funext x
  refine congrArg (R m ρ c) (funext fun d => Fin.ext ?_)
  refine (Rect.emb_apply _ _ _).trans ?_
  match d with
  | 0 => show 1 + 1 * (x 0).val = (x 0).val + 1; omega
  | 1 => show 0 + 1 * (x 1).val = (x 1).val; omega
  | 2 => show 0 + 1 * (x 2).val = (x 2).val; omega

theorem zero2 : (![0, 0] : Fin 2 → ℕ) = fun _ => 0 := funext fun a => by fin_cases a <;> rfl
theorem zero3 : (![0, 0, 0] : Fin 3 → ℕ) = fun _ => 0 := funext fun a => by fin_cases a <;> rfl

theorem read_x (f : (cc0_stg0_0 : Ref sig .tc).ty.Contents (Elt F)) {inb} : xM.view.readAt (Elt F) (Rect.unit (s := S2x512x768) ![0, 0, 0] S2x512x768.size inb).toLoadRect f = f :=
  Memref.readAt_unit_zero (Elt F) cc0_stg0_0 zero3 _ f
theorem read_wq (f : (cc0_stg1_0 : Ref sig .tc).ty.Contents (Elt F)) {inb} : wqM.view.readAt (Elt F) (Rect.unit (s := S768x512) ![0, 0] S768x512.size inb).toLoadRect f = f :=
  Memref.readAt_unit_zero (Elt F) cc0_stg1_0 zero2 _ f
theorem read_wo (f : (cc0_stg2_0 : Ref sig .tc).ty.Contents (Elt F)) {inb} : woM.view.readAt (Elt F) (Rect.unit (s := S512x768) ![0, 0] S512x768.size inb).toLoadRect f = f :=
  Memref.readAt_unit_zero (Elt F) cc0_stg2_0 zero2 _ f
theorem read_p (f : (cc0_scratch0 : Ref sig .tc).ty.Contents (Elt F)) {inb} : pM.view.readAt (Elt F) (Rect.unit (s := S1024x768) ![0, 0] S1024x768.size inb).toLoadRect f = f :=
  Memref.readAt_unit_zero (Elt F) cc0_scratch0 zero2 _ f
theorem write_o (f w : (cc0_stg3_0 : Ref sig .tc).ty.Contents (Elt F)) {inb} :
    (oM.access (Rect.unit (s := S2x512x768) ![0, 0, 0] S2x512x768.size inb) : View sig .tc _ _ _).write (Elt F) f w Finset.univ = w :=
  Memref.write_access_unit_zero_univ (Elt F) cc0_stg3_0 zero3 _ f w

/-! ## What the stores leave -/

/-- Rows 0..511, and rows 512..1023. -/
def halfSet (b : Fin 2) : Finset S1024x768.Idx := Finset.univ.filter fun i => (i 0).val / 512 = b.val

theorem half_rect {off inb} (b : Fin 2) (h : off = ![512 * b.val, 0]) : (Rect.unit (s := S1024x768) off S512x768.size inb).set = halfSet b := by
  subst h
  ext i
  rw [halfSet, Finset.mem_filter]
  refine (mem_rect2 (d := ![1024, 768])).trans ?_
  show ((512 * b.val ≤ (i 0).val ∧ (i 0).val < 512 * b.val + 512) ∧ (0 ≤ (i 1).val ∧ (i 1).val < 0 + 768)) ↔ _
  have h1 : (i 1).val < 768 := (i 1).isLt
  simp only [Finset.mem_univ, true_and]; omega

theorem store_half {off inb} (b : Fin 2) (h : off = ![512 * b.val, 0]) (f : (cc0_scratch0 : Ref sig .tc).ty.Contents (Elt F)) (w : S512x768.Idx → Elt F .bf16)
    (g : S1024x768.Idx → Elt F .bf16) (hw : ∀ (y : Fin 512) (z : Fin 768), w (ix2 y z : S512x768.Idx) = g (ix2 ⟨512 * b.val + y.val, by have := b.isLt; omega⟩ z : S1024x768.Idx)) :
    ∀ i ∈ halfSet b, (pM.access (Rect.unit (s := S1024x768) off S512x768.size inb) : View sig .tc _ _ _).write (Elt F) f w Finset.univ i = g i := fun i hi => by
  rw [← half_rect (inb := inb) b h, ← Rect.map_emb_univ] at hi
  obtain ⟨x, -, rfl⟩ := Finset.mem_map.mp hi
  refine (View.write_emb_of_mem (v := (pM.access (Rect.unit (s := S1024x768) off S512x768.size inb) : View sig .tc _ _ _)) f w (Finset.mem_univ x)).trans ?_
  show w x = _
  rw [show x = ix2 (x 0) (x 1) from idx2 (a := 512) (b := 768) x]
  refine (hw (x 0) (x 1)).trans (congrArg g ?_)
  subst h
  funext d; apply Fin.ext; refine Eq.trans ?_ (Rect.emb_apply _ _ _).symm
  match d with
  | 0 => show 512 * b.val + (x 0).val = 512 * b.val + 1 * (x 0).val; omega
  | 1 => show (x 1).val = 0 + 1 * (x 1).val; omega

theorem store_out0 (c : Dev nD) {inb} (f : (cc0_scratch0 : Ref sig .tc).ty.Contents (Elt F)) :
    ∀ i ∈ halfSet 0, (pM.access (Rect.unit (s := S1024x768) ![0, 0] S512x768.size inb) : View sig .tc _ _ _).write (Elt F) f (out0 (inp m ρ c)) Finset.univ i = P m ρ c i :=
  store_half 0 rfl f _ _ fun y z => by
    have := y.isLt
    refine Eq.trans ?_ (dif_pos (show 512 * 0 + y.val < 512 by omega)).symm
    exact congrArg (out0 (inp m ρ c)) (congrArg (fun a => (ix2 a z : S512x768.Idx)) (Fin.ext (by show y.val = 512 * 0 + y.val; omega)))
theorem store_out1 (c : Dev nD) {inb} (f : (cc0_scratch0 : Ref sig .tc).ty.Contents (Elt F)) :
    ∀ i ∈ halfSet 1, (pM.access (Rect.unit (s := S1024x768) ![512, 0] S512x768.size inb) : View sig .tc _ _ _).write (Elt F) f (out1 (inp m ρ c)) Finset.univ i = P m ρ c i :=
  store_half 1 rfl f _ _ fun y z => by
    have := y.isLt
    refine Eq.trans ?_ (dif_neg (show ¬ 512 * 1 + y.val < 512 by omega)).symm
    exact congrArg (out1 (inp m ρ c)) (congrArg (fun a => (ix2 a z : S512x768.Idx)) (Fin.ext (by show y.val = 512 * 1 + y.val - 512; omega)))

/-- The store of device `c`'s finished rows. -/
theorem store_tot (c : Dev nD) {off inb} (h : off = ![32 * c.val, 0]) (f : (cc0_scratch0 : Ref sig .tc).ty.Contents (Elt F)) :
    ∀ i ∈ rowSet c, (pM.access (Rect.unit (s := S1024x768) off S32x768.size inb) : View sig .tc _ _ _).write (Elt F) f (tot m ρ c) Finset.univ i = T m ρ i := fun i hi => by
  rw [← set_prow (inb := inb) c h] at hi
  obtain ⟨x, -, rfl⟩ := Finset.mem_map.mp hi
  refine (View.write_emb_of_mem (v := (pM.access (Rect.unit (s := S1024x768) off S32x768.size inb) : View sig .tc _ _ _)) f (tot m ρ c) (Finset.mem_univ x)).trans ?_
  show tot m ρ c x = T m ρ ((Rect.unit (s := S1024x768) off S32x768.size inb).emb x)
  rw [row_emb c h]
  have hx : (x 0).val < 32 := (x 0).isLt
  unfold T
  have e1 : (⟨(row c (x 0)).val / 32, by have : (row c (x 0)).val < 1024 := (row c (x 0)).isLt; show _ < 32; omega⟩ : Dev nD) = c := Fin.ext (by show (32 * c.val + (x 0).val) / 32 = c.val; omega)
  have e2 : (⟨(row c (x 0)).val % 32, Nat.mod_lt _ (by decide)⟩ : Fin 32) = x 0 := Fin.ext (by show (32 * c.val + (x 0).val) % 32 = (x 0).val; omega)
  show tot m ρ c x = tot m ρ ⟨(row c (x 0)).val / 32, _⟩ (ix2 ⟨(row c (x 0)).val % 32, _⟩ (x 1) : S32x768.Idx)
  rw [e1, e2]
  exact congrArg _ (idx2 (a := 32) (b := 768) x)

end Cert.K01
-- ==== Proof.Steps.lean ====
module

public import proofs.«01_k».proof.Proof.Geometry

/-! # One step of the kernel after the other: barrier, copies, waits

Each step lemma has the form: from the state before the operation and the program continuing from the state
after it, the program with the operation in front. `Fr` is whatever else the device holds. -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- The weakest precondition of a program of device `c`. -/
abbrev W {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def Ow (c : Dev nD) (O : CellTallies nD τ sig Unit) : sProp 𝕄 := iprop(∃ Wt, owes (c : Thread nD τ) O Wt)

/-- Device `c` is at round `r` of its cell `k`, with nothing of the round taken. -/
abbrev At (c : Dev nD) (k : Ck) (r : ℕ) : sProp 𝕄 := atPos ER (cell c k) r ∅ 0
/-- The token for duty `d` of the one round of cell `k` of device `c`. -/
abbrev Tok (c : Dev nD) (k : Ck) (d : Fin 32) : sProp 𝕄 := dutyTok ER (cell c k) 0 d
/-- The credit of a wait for `n` on cell `k` of device `c`. -/
abbrev Cr (c : Dev nD) (k : Ck) (n : ℕ) : sProp 𝕄 := cred (tallyAt (cell c k) () n)

/-! ## A family of resources, transformed one index after the other -/

/-- The indices below `n` are done (`B`), the others not (`A`). -/
def fam (S : Finset (Fin 32)) (A B : Fin 32 → sProp 𝕄) (n : ℕ) : sProp 𝕄 := bigSep S fun i => if i.val < n then B i else A i

theorem fam_step {S : Finset (Fin 32)} (A B : Fin 32 → sProp 𝕄) {n : ℕ} (h : n < 32) (hS : (⟨n, h⟩ : Fin 32) ∈ S) :
    fam S A B n ⊢ iprop(A ⟨n, h⟩ ∗ (B ⟨n, h⟩ -∗ fam S A B (n + 1))) := by
  have e1 : fam S A B n = iprop(A ⟨n, h⟩ ∗ bigSep (S.erase ⟨n, h⟩) fun i => if i.val < n then B i else A i) := by
    unfold fam; rw [bigSep_erase hS, if_neg (Nat.lt_irrefl n)]; rfl
  have e2 : fam S A B (n + 1) = iprop(B ⟨n, h⟩ ∗ bigSep (S.erase ⟨n, h⟩) fun i => if i.val < n then B i else A i) := by
    unfold fam; rw [bigSep_erase hS, if_pos (Nat.lt_succ_self n)]
    refine congrArg (fun X => iprop(B ⟨n, h⟩ ∗ X)) (bigSep_congr fun i hi => ?_)
    have hne : i.val ≠ n := fun he => (Finset.mem_erase.mp hi).1 (Fin.ext he)
    by_cases hlt : i.val < n
    · rw [if_pos hlt, if_pos (by omega)]
    · rw [if_neg hlt, if_neg (by omega)]
  rw [e1, e2]
  iintro ⟨HA, HR⟩
  isplitl [HA]; · iexact HA
  iintro HB
  isplitl [HB] <;> iassumption

theorem fam_start {S : Finset (Fin 32)} (A B : Fin 32 → sProp 𝕄) {n : ℕ} (h : ∀ i ∈ S, i.val < n → A i = B i) :
    bigSep S A = fam S A B n := by
  unfold fam
  refine bigSep_congr fun i hi => ?_
  by_cases hlt : i.val < n
  · rw [if_pos hlt, h i hi hlt]
  · rw [if_neg hlt]
theorem fam_end {S : Finset (Fin 32)} (A B : Fin 32 → sProp 𝕄) {n : ℕ} (h : ∀ i ∈ S, i.val < n) : fam S A B n = bigSep S B := by
  unfold fam
  exact bigSep_congr fun i hi => if_pos (h i hi)

/-! ## A wait for the one signal of a cell -/

theorem wait_one (c : Dev nD) (a : Fin 5) (i : Fin 32) (hu : Used c a i) {b : ℕ} (hb : lvK (some (a, i)) ≤ b) {O : CellTallies nD τ sig Unit} (hO : Above b O)
    {α : Type} {Q : α → sProp 𝕄} {k : PUnit → Prog (TpuEff nD τ sig (Elt F) Λ₀ .tc) α} {sem : DmaSem sig} (hsem : sem = dS a i)
    {sp sp' : Space} {s s' : Shape} {e e' : EltTy} {src : Memref sig .tc sp' s' e'} {dst : Memref sig .tc sp s e} {hsrc : src.view.WordExact} {hdst : dst.view.WordExact}
    {N : ℕ} (hA : amountK (some (a, i)) = N) (hN : dst.view.dmaCredit = N) :
    iprop(Ctx m ρ K ∗ Ow c O ∗ Cr c (some (a, i)) N ∗ At c (some (a, i)) 0)
      ⊢ iprop((Ow c O ∗ At c (some (a, i)) 1 ∗ payK m ρ c 0 (some (a, i)) -∗ W c (k ⟨⟩) Q) -∗ W c (.op (.waitDma2 sem src dst hsrc hdst) k) Q) := by
  subst hsem hA
  iintro ⟨#HC, HO, Hc, Ha⟩ Hk
  unfold Ow
  icases HO with ⟨%Wt, HO⟩
  have hw : ∀ Kt : PUnit → sProp 𝕄, wpE (defs₀ (F := F)) 𝒱₀ (c : Thread nD τ) none Set.univ (.waitDma2 (dS a i) src dst hsrc hdst) Kt = waitSpec (c : Thread nD τ) Set.univ (csem (some (a, i))) (amountK (some (a, i))) Kt :=
    fun Kt => (wpE_waitDma2_eq 𝒱₀ (c : Thread nD τ) none Set.univ Kt).trans (by rw [hN])
  have hk : 0 + amountK (some (a, i)) = (ringRd m ρ).expect (cell c (some (a, i))) 0 := by
    rw [expect_cell, Nat.zero_add]
    show _ = (if Used c a i then ({0} : Finset (Fin 32)) else ∅).card * _
    rw [if_pos hu, Finset.card_singleton, Nat.one_mul]
  ihave HI := (inv_at m ρ K c (some (a, i))) $$ HC
  ihave HL := (mayWait_at m ρ K c (some (a, i)) hb hO) $$ HC
  iapply (Rounds.wp_wait_rest_token 𝒱₀ ER (ringRd m ρ) (c : Thread nD τ) none (sm := csem (some (a, i))) (k' := amountK (some (a, i))) (κ := K (c, some (a, i)))
      hw
      (Set.mem_univ _) () (O := O) (W := Wt) (R := 0) (m := 0) (T := ∅)
      hk) $$ [Hc HO Ha HI HL]
  · isplitl [HI]; · iexact HI
    isplitl [Hc]; · iexact Hc
    isplitl [HO]; · iexact HO
    isplitl [HL]; · iexact HL
    iexact Ha
  iintro ⟨HO, Ha, -, Hp⟩
  iapply Hk
  isplitl [HO]; · iexists _; iexact HO
  isplitl [Ha]; · iexact Ha
  ihave Hp := (Entails.of_eq ((rest_cell m ρ c (some (a, i))).trans
    ((congrArg (fun S => bigSep S (fun d => payK m ρ c d (some (a, i)))) (show dutiesK c (some (a, i)) = {0} from if_pos hu)).trans (bigSep_singleton ..)))) $$ Hp
  iexact Hp

/-! ## The barrier -/

/-- Signal `i` goes to device `c + i`, with `c`'s slot `i`. -/
def sigA (c : Dev nD) (i : Fin 32) : sProp 𝕄 := if i = 0 then iprop(emp) else iprop(Tok (c + i) none c ∗ ∃ f, slotPts c i f)
def SigSt (c : Dev nD) (n : ℕ) : sProp 𝕄 :=
  iprop(Ow c (oA c 0 + oR c 0 + oB c n) ∗ fam Finset.univ (sigA (F := F) c) (fun _ => iprop(emp)) n)

theorem sig_step (c : Dev nD) {v : ℤ} (hv : v = ((1 : ℕ) : ℤ)) (n : ℕ) (h : n < 32) (h0 : 0 < n) {dev : Dev nD} (hdev : dev = c + ⟨n, h⟩)
    {α : Type} {Q : α → sProp 𝕄} {k : PUnit → Prog (TpuEff nD τ sig (Elt F) Λ₀ .tc) α} (Fr : sProp 𝕄)
    (hk : iprop(Ctx m ρ K ∗ SigSt c (n + 1) ∗ Fr) ⊢ W c (k ⟨⟩) Q) :
    iprop(Ctx m ρ K ∗ SigSt c n ∗ Fr) ⊢ W c (.op (.semSignal ((dev : Dev nD) : Thread nD τ) barS v) k) Q := by
  subst hdev hv
  unfold SigSt Ow
  iintro ⟨#HC, ⟨⟨%Wt, HO⟩, Hf⟩, HF⟩
  ihave Hf := (fam_step (sigA (F := F) c) (fun _ => iprop(emp)) h (Finset.mem_univ _)) $$ Hf
  icases Hf with ⟨HA, Hf⟩
  have hne : (⟨n, h⟩ : Fin 32) ≠ 0 := fun e => by have := congrArg Fin.val e; exact absurd this (by show n ≠ 0; omega)
  ihave HA := (Entails.of_eq (show sigA (F := F) c ⟨n, h⟩ = _ from if_neg hne)) $$ HA
  icases HA with ⟨Ht, Hs⟩
  ihave HI := (inv_at m ρ K (c + ⟨n, h⟩) none) $$ HC
  ihave HR := (reached_at m ρ K (c + ⟨n, h⟩) none) $$ HC
  have hmem : (c : Fin 32) ∈ dutiesK (c + ⟨n, h⟩) none := Finset.mem_erase.mpr ⟨fun e => hne ((add_eq_dev c ⟨n, h⟩).mp e.symm), Finset.mem_univ _⟩
  have hO : oA c 0 + oR c 0 + oB c n = oA c 0 + oR c 0 + oB c (n + 1) + tallyAt (cell (c + ⟨n, h⟩) none) () 1 := by
    unfold oB; rw [sum_from _ h, ← add_assoc]
  iapply (Rounds.wp_signal 𝒱₀ ER (ringRd m ρ) (c : Thread nD τ) none (dst := ((c + ⟨n, h⟩ : Dev nD) : Thread nD τ)) (κ := K (c + ⟨n, h⟩, none))
      (d := c) (r := 0) (k' := 1) (by rw [show ((((c + ⟨n, h⟩ : Dev nD) : Thread nD τ)), SemLoc.reg barS) = cell (c + ⟨n, h⟩) none from rfl, duties_cell]; exact hmem)
      (amount_cell m ρ (c + ⟨n, h⟩) none c) () (oA c 0 + oR c 0 + oB c (n + 1))
      hO) $$ [HO Ht Hs HI HR]
  · isplitl [HI]; · iexact HI
    isplitl [HO]; · iexact HO
    isplitl [Ht]; · iexact Ht
    isplitl [Hs]
    · iapply (Entails.of_eq (payload_cell m ρ (c + ⟨n, h⟩) none c).symm)
      unfold payK
      rw [sub_add_dev]
      iexact Hs
    iexact HR
  iintro HO
  iapply hk
  isplitr; · iexact HC
  isplitl [HO Hf]
  · unfold SigSt Ow
    isplitl [HO]; · iexists _; iexact HO
    iapply Hf; iempintro
  iexact HF

/-- The wait for the 31 signals: every other device's slot for `c`. -/
theorem bar_wait (c : Dev nD) {v : ℤ} (hv : v = ((31 : ℕ) : ℤ)) {O : CellTallies nD τ sig Unit} (hO : Above 1 O)
    {α : Type} {Q : α → sProp 𝕄} {k : PUnit → Prog (TpuEff nD τ sig (Elt F) Λ₀ .tc) α} (Fr : sProp 𝕄)
    (hk : iprop(Ctx m ρ K ∗ (Ow c O ∗ At c none 1 ∗ bigSep (Finset.univ.erase c) (fun d : Fin 32 => iprop(∃ f, slotPts d (c - d) f))) ∗ Fr) ⊢ W c (k ⟨⟩) Q) :
    iprop(Ctx m ρ K ∗ (Ow c O ∗ Cr c none 31 ∗ At c none 0) ∗ Fr) ⊢ W c (.op (.semWait barS v) k) Q := by
  subst hv
  unfold Ow
  iintro ⟨#HC, ⟨⟨%Wt, HO⟩, Hc, Ha⟩, HF⟩
  have hk' : 0 + 31 = (ringRd m ρ).expect (cell c none) 0 := by
    rw [expect_cell, Nat.zero_add]
    show 31 = (Finset.univ.erase (c : Fin 32)).card * 1
    rw [Finset.card_erase_of_mem (Finset.mem_univ _), Finset.card_univ, Fintype.card_fin]; rfl
  ihave HI := (inv_at m ρ K c none) $$ HC
  ihave HL := (mayWait_at m ρ K c none (b := 1) (Nat.le_refl 1) hO) $$ HC
  iapply (Rounds.wp_wait_rest_token 𝒱₀ ER (ringRd m ρ) (c : Thread nD τ) none (sm := csem none) (k' := 31) (κ := K (c, none))
      (wpE_semWait_eq 𝒱₀ (c : Thread nD τ) none Set.univ)
      (Set.mem_univ _) () (O := O) (W := Wt) (R := 0) (m := 0) (T := ∅)
      hk') $$ [Hc HO Ha HI HL]
  · isplitl [HI]; · iexact HI
    isplitl [Hc]; · iexact Hc
    isplitl [HO]; · iexact HO
    isplitl [HL]; · iexact HL
    iexact Ha
  iintro ⟨HO, Ha, -, Hp⟩
  iapply hk
  isplitr; · iexact HC
  isplitr [HF]
  · unfold Ow
    isplitl [HO]; · iexists _; iexact HO
    isplitl [Ha]; · iexact Ha
    ihave Hp := (Entails.of_eq (rest_cell m ρ c none)) $$ Hp
    iexact Hp
  iexact HF

/-! ## The copies of keys and values -/

theorem payK_kv (c d : Dev nD) (i : Fin 32) : payK m ρ c d (some (0, i)) = iprop(kvSrc m c i ∗ kvDst m c i) := rfl

def kvA (c : Dev nD) (i : Fin 32) : sProp 𝕄 := iprop(Tok c (some (0, i)) 0 ∗ kvSrc m c i ∗ kvAny c i)
def kvB (c : Dev nD) (i : Fin 32) : sProp 𝕄 := Cr c (some (0, i)) (amountK (some (0, i)))
def KvSt (c : Dev nD) (n : ℕ) : sProp 𝕄 := fam Finset.univ (kvA m c) (kvB (F := F) c) n

/-- A copy paying its cell's one duty, for any source and target pieces that make the payload. -/
theorem copy_one (c : Dev nD) (i : Fin 32) {α : Type} {Q : α → sProp 𝕄} {k : PUnit → Prog (TpuEff nD τ sig (Elt F) Λ₀ .tc) α} {sem : DmaSem sig} (hsem : sem = dS 0 i)
    {sp sp' : Space} {s : Shape} {e : EltTy} {src : Memref sig .tc sp s e} {dst : Memref sig .tc sp' s e} {hsrc : src.view.WordExact} {hdst : dst.view.WordExact}
    {hty : DmaTarget.Typed (nD := nD) (τ := τ) sp (.dma sem) (.here (p := (Proc.tc : Proc τ)) dst)} (fs : Buf (Elt F) (src.view.loc (c : Thread nD τ))) (fd g : Buf (Elt F) (dst.view.loc (c : Thread nD τ)))
    (hN : dst.view.dmaCredit = Nkv) (hl : ∀ x ∈ dst.view.set, dst.view.write (Elt F) fd (src.view.read (Elt F) fs) Finset.univ x = g x)
    (hpay : iprop((src.view.loc (c : Thread nD τ) ↦[src.view.set]{fullShare} fs) ∗ (dst.view.loc (c : Thread nD τ) ↦[dst.view.set]{fullShare} g)) ⊢ payK m ρ c 0 (some (0, i))) :
    iprop(Ctx m ρ K ∗ Tok c (some (0, i)) 0 ∗ (src.view.loc (c : Thread nD τ) ↦[src.view.set]{fullShare} fs) ∗ (dst.view.loc (c : Thread nD τ) ↦[dst.view.set]{fullShare} fd))
      ⊢ iprop((kvB c i -∗ W c (k ⟨⟩) Q) -∗ W c (.op (.enqueueDma src (.here dst) (.dma sem) hsrc hdst hty) k) Q) := by
  subst hsem
  iintro ⟨#HC, Ht, Hs, Hd⟩ Hk
  ihave HI := (inv_at m ρ K c (some (0, i))) $$ HC
  ihave HR := (reached_at m ρ K c (some (0, i))) $$ HC
  iapply (Rounds.wp_copy_pointsTo 𝒱₀ ER (ringRd m ρ) (c : Thread nD τ) none (sem := csem (some (0, i))) (κ := K (c, some (0, i))) (r := 0) (d := (0 : Fin 32)) (fs := fs) (fd := fd) (q := fullShare)
      (by rw [show ((c : Thread nD τ), csem (some (0, i))) = cell c (some (0, i)) from rfl, duties_cell]
          show (0 : Fin 32) ∈ (if Used c 0 i then ({0} : Finset (Fin 32)) else ∅)
          rw [if_pos (show Used c 0 i from trivial)]; exact Finset.mem_singleton_self _)
      () Nkv hN (amount_cell m ρ c (some (0, i)) 0)
      (by refine BI.Entails.trans ?_ (Entails.of_eq (payload_cell m ρ c (some (0, i)) 0).symm)
          refine BI.Entails.trans ?_ hpay
          rw [pointsTo_congr hl]
          exact (Laws.sep_comm (PROP := sProp 𝕄)).1)) $$ [Ht Hs Hd HI HR]
  · isplitl [HI]; · iexact HI
    isplitl [Hs]; · iexact Hs
    isplitl [Hd]; · iexact Hd
    isplitl [Ht]; · iexact Ht
    iexact HR
  iintro Hc
  iapply Hk
  unfold kvB
  iexact Hc

theorem k_step (c : Dev nD) (n : ℕ) (h : n < 16) {α : Type} {Q : α → sProp 𝕄} {k : PUnit → Prog (TpuEff nD τ sig (Elt F) Λ₀ .tc) α}
    {sem : DmaSem sig} (hsem : sem = dS 0 ⟨n, by omega⟩) {offs inbs offd inbd} (hs : offs = ![n / 8, 0, 8 * c.val + n % 8, 0]) (hd' : offd = ![n / 8, n % 8, 0, 0])
    {hsrc : (khbm offs inbs).view.WordExact} {hdst : (kslot offd inbd).view.WordExact} {hty : DmaTarget.Typed (nD := nD) (τ := τ) .hbm (.dma sem) (.here (p := (Proc.tc : Proc τ)) (kslot offd inbd))} (Fr : sProp 𝕄)
    (hk : iprop(Ctx m ρ K ∗ KvSt m c (n + 1) ∗ Fr) ⊢ W c (k ⟨⟩) Q) :
    iprop(Ctx m ρ K ∗ KvSt m c n ∗ Fr) ⊢ W c (.op (.enqueueDma (khbm offs inbs) (.here (kslot offd inbd)) (.dma sem) hsrc hdst hty) k) Q := by
  unfold KvSt
  iintro ⟨#HC, Hf, HF⟩
  ihave Hf := (fam_step (kvA m c) (kvB (F := F) c) (show n < 32 by omega) (Finset.mem_univ _)) $$ Hf
  icases Hf with ⟨HA, Hf⟩
  unfold kvA kvSrc kvAny
  rw [if_pos (show (⟨n, by omega⟩ : Fin 32).val < 16 from h), if_pos (show (⟨n, by omega⟩ : Fin 32).val < 16 from h)]
  icases HA with ⟨Ht, Hs, ⟨%fd, Hd⟩⟩
  unfold kaPts kPts
  rw [← set_khbm (inb := inbs) c n hs, ← set_kslot (inb := inbd) n hd']
  iapply (copy_one m ρ K c ⟨n, by omega⟩ hsem (karr m c) fd (kBuf m c) (src := khbm offs inbs) (dst := kslot offd inbd) rfl (land_k m c n h hs hd' fd)
    (by rw [payK_kv]; unfold kvSrc kvDst kaPts kPts
        rw [if_pos (show (⟨n, by omega⟩ : Fin 32).val < 16 from h), if_pos (show (⟨n, by omega⟩ : Fin 32).val < 16 from h), set_khbm c n hs, set_kslot n hd'])) $$ [Ht Hs Hd]
  · isplitr; · iexact HC
    isplitl [Ht]; · iexact Ht
    isplitl [Hs] <;> iassumption
  iintro Hc
  iapply hk
  isplitr; · iexact HC
  isplitl [Hc Hf]
  · unfold KvSt; iapply Hf; iexact Hc
  iexact HF

theorem v_step (c : Dev nD) (n : ℕ) (h : n < 32) (h16 : 16 ≤ n) {α : Type} {Q : α → sProp 𝕄} {k : PUnit → Prog (TpuEff nD τ sig (Elt F) Λ₀ .tc) α}
    {sem : DmaSem sig} (hsem : sem = dS 0 ⟨n, h⟩) {offs inbs offd inbd} (hs : offs = ![(n - 16) / 8, 0, 8 * c.val + (n - 16) % 8, 0]) (hd' : offd = ![(n - 16) / 8, (n - 16) % 8, 0, 0])
    {hsrc : (vhbm offs inbs).view.WordExact} {hdst : (vslot offd inbd).view.WordExact} {hty : DmaTarget.Typed (nD := nD) (τ := τ) .hbm (.dma sem) (.here (p := (Proc.tc : Proc τ)) (vslot offd inbd))} (Fr : sProp 𝕄)
    (hk : iprop(Ctx m ρ K ∗ KvSt m c (n + 1) ∗ Fr) ⊢ W c (k ⟨⟩) Q) :
    iprop(Ctx m ρ K ∗ KvSt m c n ∗ Fr) ⊢ W c (.op (.enqueueDma (vhbm offs inbs) (.here (vslot offd inbd)) (.dma sem) hsrc hdst hty) k) Q := by
  have hn : ¬ (⟨n, h⟩ : Fin 32).val < 16 := by show ¬ n < 16; omega
  unfold KvSt
  iintro ⟨#HC, Hf, HF⟩
  ihave Hf := (fam_step (kvA m c) (kvB (F := F) c) h (Finset.mem_univ _)) $$ Hf
  icases Hf with ⟨HA, Hf⟩
  unfold kvA kvSrc kvAny
  rw [if_neg hn, if_neg hn]
  icases HA with ⟨Ht, Hs, ⟨%fd, Hd⟩⟩
  unfold vaPts vPts
  rw [← set_vhbm (inb := inbs) c (n - 16) hs, ← set_vslot (inb := inbd) (n - 16) hd']
  iapply (copy_one m ρ K c ⟨n, h⟩ hsem (varr m c) fd (vBuf m c) (src := vhbm offs inbs) (dst := vslot offd inbd) rfl (land_v m c (n - 16) (by omega) hs hd' fd)
    (by rw [payK_kv]; unfold kvSrc kvDst vaPts vPts
        rw [if_neg hn, if_neg hn, set_vhbm c (n - 16) hs, set_vslot (n - 16) hd'])) $$ [Ht Hs Hd]
  · isplitr; · iexact HC
    isplitl [Ht]; · iexact Ht
    isplitl [Hs] <;> iassumption
  iintro Hc
  iapply hk
  isplitr; · iexact HC
  isplitl [Hc Hf]
  · unfold KvSt; iapply Hf; iexact Hc
  iexact HF

/-- Waiting for the copies. -/
def kwA (c : Dev nD) (i : Fin 32) : sProp 𝕄 := iprop(kvB c i ∗ At c (some (0, i)) 0)
def kwB (c : Dev nD) (i : Fin 32) : sProp 𝕄 := iprop(At c (some (0, i)) 1 ∗ kvSrc m c i ∗ kvDst m c i)
def KwSt (c : Dev nD) (n : ℕ) : sProp 𝕄 := iprop(Ow c (oA c 0 + oR c 0) ∗ fam Finset.univ (kwA (F := F) c) (kwB m c) n)

theorem kw_step (c : Dev nD) (n : ℕ) (h : n < 32) {α : Type} {Q : α → sProp 𝕄} {k : PUnit → Prog (TpuEff nD τ sig (Elt F) Λ₀ .tc) α} {sem : DmaSem sig} (hsem : sem = dS 0 ⟨n, h⟩)
    {sp sp' : Space} {s s' : Shape} {e e' : EltTy} {src : Memref sig .tc sp' s' e'} {dst : Memref sig .tc sp s e} {hsrc : src.view.WordExact} {hdst : dst.view.WordExact}
    (hN : dst.view.dmaCredit = Nkv) (Fr : sProp 𝕄)
    (hk : iprop(Ctx m ρ K ∗ KwSt m c (n + 1) ∗ Fr) ⊢ W c (k ⟨⟩) Q) :
    iprop(Ctx m ρ K ∗ KwSt m c n ∗ Fr) ⊢ W c (.op (.waitDma2 sem src dst hsrc hdst) k) Q := by
  unfold KwSt
  iintro ⟨#HC, ⟨HO, Hf⟩, HF⟩
  ihave Hf := (fam_step (kwA (F := F) c) (kwB m c) h (Finset.mem_univ _)) $$ Hf
  icases Hf with ⟨HA, Hf⟩
  unfold kwA kvB
  icases HA with ⟨Hc, Ha⟩
  iapply (wait_one m ρ K c 0 ⟨n, h⟩ trivial (b := 0) (Nat.le_refl 0) (above_add (above_oA (by decide) c 0) (above_oR (by decide) c 0)) hsem rfl hN) $$ [HO Hc Ha]
  · isplitr; · iexact HC
    isplitl [HO]; · iexact HO
    isplitl [Hc] <;> iassumption
  iintro ⟨HO, Ha, Hp⟩
  iapply hk
  isplitr; · iexact HC
  isplitr [HF]
  · unfold KwSt
    isplitl [HO]; · iexact HO
    iapply Hf
    unfold kwB payK
    isplitl [Ha] <;> iassumption
  iexact HF

/-! ## A conditional step: the transfers skip the device itself -/

/-- `if the peer is another device then … else nothing`: both ways from one state to the next. -/
theorem cond_step (c : Dev nD) {α β : Type} {Q : α → sProp 𝕄} {w : BitVec 1} {A : w = 1#1 → Prog (TpuEff nD τ sig (Elt F) Λ₀ .tc) β}
    {J : Prog (TpuEff nD τ sig (Elt F) Λ₀ .tc) β} {k : β → Prog (TpuEff nD τ sig (Elt F) Λ₀ .tc) α} {d : Dev nD} (hw : w = 1#1 ↔ c ≠ d) {P P' : sProp 𝕄}
    (hself : c = d → P ⊢ P') (hA : ∀ hw : w = 1#1, c ≠ d → (P' ⊢ W c (J >>= k) Q) → P ⊢ W c (A hw >>= k) Q)
    (hk : P' ⊢ W c (J >>= k) Q) :
    P ⊢ W c ((if h : w = 1#1 then A h else J) >>= k) Q := by
  by_cases h : w = 1#1
  · rw [dif_pos h]; exact hA h (hw.mp h) hk
  · rw [dif_neg h]
    exact (hself (not_not.mp fun hn => h (hw.mpr hn))).trans hk

end Cert.K01
-- ==== Proof.Exchange.lean ====
module

public import proofs.«01_k».proof.Proof.Steps

/-! # One step of the kernel after the other: the two exchanges -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-! ## Which device a condition names, and which cell a slice of a semaphore array is -/

/-- The device's own number, as the kernel computes it. -/
abbrev own (c : Dev nD) : BitVec 32 := Scalar.remsi (Scalar.divsi (Dev.word c) 1#32) 32#32
/-- The kernel's test that device `n` is another device. -/
abbrev condv (c : Dev nD) (n : ℕ) : BitVec 1 := Scalar.cmpi .ne ((Scalar.extui (Scalar.cmpi .ne (own c) (BitVec.ofNat 32 n))) : BitVec 32) 0#32

theorem cond_dec : ∀ c d : Fin 32, condv c d.val = 1#1 ↔ c ≠ d := by decide +kernel
theorem cond_iff (c : Dev nD) (n : ℕ) (h : n < 32) : condv c n = 1#1 ↔ c ≠ (⟨n, h⟩ : Fin 32) := cond_dec c ⟨n, h⟩

/-! ## The sends of the first exchange -/

/-- The send of the rows of device `d`, to `d`'s slot `c - d`. -/
theorem rs_send (c d : Dev nD) (hne : c ≠ d) {α : Type} {Q : α → sProp 𝕄} {k : PUnit → Prog (TpuEff nD τ sig (Elt F) Λ₀ .tc) α}
    {O : CellTallies nD τ sig Unit} {dev : Dev nD} (hdev : dev = d) {sS sem : DmaSem sig} (hS : sS = dS 1 d) (hsem : sem = dS 2 (c - d))
    {offs inbs offd inbd} (hs : offs = ![32 * d.val, 0]) (hd' : offd = ![(c - d).val, 0, 0])
    {hsc : (rslot offd inbd).view.ref.isScScratch = false} {hsrc : (prow offs inbs).view.WordExact} {hdst : (rslot offd inbd).view.WordExact}
    {hty : DmaTarget.Typed (nD := nD) (τ := τ) .vmem (.dma sem) (.remote (p := (Proc.tc : Proc τ)) (Dev.tc dev) (rslot offd inbd) (.dma sS) hsc)} (fd : Buf (Elt F) ((d : Thread nD τ).loc cc0_scratch3)) :
    iprop(Ctx m ρ K ∗ Ow c (O + tallyAt (cell d (some (2, c - d))) () Nx) ∗ rowPts c d fullShare (P m ρ c) ∗ slotPts d (c - d) fd
        ∗ Tok c (some (1, d)) 0 ∗ Tok d (some (2, c - d)) 0)
      ⊢ iprop((Cr c (some (1, d)) Nx ∗ Ow c O -∗ W c (k ⟨⟩) Q)
        -∗ W c (.op (.enqueueDma (prow offs inbs) (.remote (Dev.tc dev) (rslot offd inbd) (.dma sS) hsc) (.dma sem) hsrc hdst hty) k) Q) := by
  subst hdev hS hsem
  unfold Ow rowPts slotPts
  iintro ⟨#HC, ⟨%Wt, HO⟩, Hs, Hd, Ht1, Ht2⟩ Hk
  ihave HI1 := (inv_at m ρ K c (some (1, dev))) $$ HC
  ihave HR1 := (reached_at m ρ K c (some (1, dev))) $$ HC
  ihave HI2 := (inv_at m ρ K dev (some (2, c - dev))) $$ HC
  ihave HR2 := (reached_at m ρ K dev (some (2, c - dev))) $$ HC
  have u1 : Used c 1 dev := fun e => hne e.symm
  have u2 : Used dev 2 (c - dev) := fun e => hne ((sub_eq_zero_dev c dev).mp e).symm
  have hd1 : (0 : Fin 32) ∈ (ringRd m ρ).duties (cell c (some (1, dev))) 0 := by
    rw [duties_cell]; show (0 : Fin 32) ∈ (if Used c 1 dev then ({0} : Finset (Fin 32)) else ∅); rw [if_pos u1]; exact Finset.mem_singleton_self _
  have hd2 : (0 : Fin 32) ∈ (ringRd m ρ).duties (cell dev (some (2, c - dev))) 0 := by
    rw [duties_cell]; show (0 : Fin 32) ∈ (if Used dev 2 (c - dev) then ({0} : Finset (Fin 32)) else ∅); rw [if_pos u2]; exact Finset.mem_singleton_self _
  have hpay : payK m ρ dev 0 (some (2, c - dev)) = iprop(slotPts dev (c - dev) (R m ρ dev) ∗ rowPts c dev fullShare (P m ρ c)) := by
    show iprop(slotPts dev (c - dev) (R m ρ dev) ∗ (fun e => rowPts e dev fullShare (P m ρ e)) (dev + (c - dev))) = _
    rw [add_sub_dev]
  rw [← set_prow (inb := inbs) dev hs, ← set_rslot (inb := inbd) (c - dev) hd']
  iapply (Rounds.wp_send_landing_pointsTo 𝒱₀ ER (ringRd m ρ) (c : Thread nD τ) none (c' := (dev : Thread nD τ)) (src := prow offs inbs) (dst := rslot offd inbd)
      (sS := csem (some (1, dev))) (sem := csem (some (2, c - dev))) (κ₁ := K (c, some (1, dev))) (κ₂ := K (dev, some (2, c - dev)))
      (r₁ := 0) (r₂ := 0) (d₁ := (0 : Fin 32)) (d₂ := (0 : Fin 32)) (q := fullShare) (fs := P m ρ c) (fd := fd)
      hd1 hd2 () () Nx rfl (amount_cell m ρ c (some (1, dev)) 0) (amount_cell m ρ dev (some (2, c - dev)) 0) O rfl
      (Entails.of_eq (payload_cell m ρ c (some (1, dev)) 0).symm)
      (by refine BI.Entails.trans ?_ (Entails.of_eq ((payload_cell m ρ dev (some (2, c - dev)) 0).trans hpay).symm)
          unfold rowPts slotPts
          rw [← set_prow (inb := inbs) dev hs, ← set_rslot (inb := inbd) (c - dev) hd', pointsTo_congr (land_r m ρ c dev hs hd' fd)]; exact fun _ h => h)) $$ [HO Hs Hd Ht1 Ht2 HI1 HR1 HI2 HR2]
  · isplitl [HI1]; · iexact HI1
    isplitl [HI2]; · iexact HI2
    isplitl [Hs]; · iexact Hs
    isplitl [Hd]; · iexact Hd
    isplitl [HO]; · iexact HO
    isplitl [Ht1]; · iexact Ht1
    isplitl [HR1]; · iexact HR1
    isplitl [Ht2] <;> iassumption
  iintro ⟨Hc, HO⟩
  iapply Hk
  isplitl [Hc]; · iexact Hc
  iexists _; iexact HO

def rsA (c : Dev nD) (d : Fin 32) : sProp 𝕄 :=
  if d = c then rowPts c c fullShare (P m ρ c)
  else iprop(rowPts c d fullShare (P m ρ c) ∗ (∃ f, slotPts d (c - d) f) ∗ Tok c (some (1, d)) 0 ∗ Tok d (some (2, c - d)) 0)
def rsB (c : Dev nD) (d : Fin 32) : sProp 𝕄 := if d = c then rowPts c c fullShare (P m ρ c) else Cr c (some (1, d)) Nx
def RsSt (S : Finset (Fin 32)) (c : Dev nD) (n : ℕ) : sProp 𝕄 := iprop(Ow c (oA c 0 + oR c n) ∗ fam S (rsA m ρ c) (rsB m ρ c) n)

theorem oR_self (c : Dev nD) : oR c c.val = oR c (c.val + 1) := by
  unfold oR; rw [sum_from _ c.isLt, if_pos rfl, add_zero]
theorem oR_step (c : Dev nD) (n : ℕ) (h : n < 32) (hne : c ≠ (⟨n, h⟩ : Fin 32)) :
    oR c n = oR c (n + 1) + tallyAt (cell (⟨n, h⟩ : Fin 32) (some (2, c - (⟨n, h⟩ : Fin 32)))) () Nx := by
  unfold oR; rw [sum_from _ h, if_neg (Ne.symm hne)]
theorem oA_self (c : Dev nD) : oA c c.val = oA c (c.val + 1) := by
  unfold oA; rw [sum_from _ c.isLt, if_pos rfl, add_zero]
theorem oA_step (c : Dev nD) (n : ℕ) (h : n < 32) (hne : c ≠ (⟨n, h⟩ : Fin 32)) :
    oA c n = oA c (n + 1) + tallyAt (cell (⟨n, h⟩ : Fin 32) (some (4, c))) () Nx := by
  unfold oA; rw [sum_from _ h, if_neg (Ne.symm hne)]

/-- A family passes the device itself unchanged, if its two states there are the same. -/
theorem fam_self {S : Finset (Fin 32)} (A B : Fin 32 → sProp 𝕄) (c : Fin 32) (hS : c ∈ S) (h : A c = B c) : fam S A B c.val ⊢ fam S A B (c.val + 1) := by
  iintro Hf
  ihave Hf := (fam_step A B c.isLt hS) $$ Hf
  icases Hf with ⟨HA, Hf⟩
  iapply Hf
  ihave HA := (Entails.of_eq h) $$ HA
  iexact HA

theorem rs_step (S : Finset (Fin 32)) (c : Dev nD) (n : ℕ) (h : n < 32) (hmem : (⟨n, h⟩ : Fin 32) ∈ S) {α β : Type} {Q : α → sProp 𝕄} {J : Prog (TpuEff nD τ sig (Elt F) Λ₀ .tc) β} {k : β → Prog (TpuEff nD τ sig (Elt F) Λ₀ .tc) α}
    {w : BitVec 1} (hw : w = 1#1 ↔ c ≠ (⟨n, h⟩ : Fin 32)) {dev : w = 1#1 → Dev nD} (hdev : ∀ g, (dev g).val = n)
    {sS sem : w = 1#1 → DmaSem sig} (hS : ∀ g, sS g = dS 1 ⟨n, h⟩) (hsem : ∀ g, sem g = dS 2 (c - (⟨n, h⟩ : Fin 32)))
    {offs inbs} {offd : w = 1#1 → Fin 3 → ℕ} {inbd : ∀ g a, offd g a + S1x32x768.size a ≤ S32x32x768.size a} (hs : offs = ![32 * n, 0]) (hd' : ∀ g, offd g = ![(c - (⟨n, h⟩ : Fin 32)).val, 0, 0])
    {hsc : ∀ g : w = 1#1, (rslot (offd g) (inbd g)).view.ref.isScScratch = false} {hsrc : ∀ g : w = 1#1, (prow offs inbs).view.WordExact} {hdst : ∀ g, (rslot (offd g) (inbd g)).view.WordExact}
    {hty : ∀ g, DmaTarget.Typed (nD := nD) (τ := τ) .vmem (.dma (sem g)) (.remote (p := (Proc.tc : Proc τ)) (Dev.tc (dev g)) (rslot (offd g) (inbd g)) (.dma (sS g)) (hsc g))} (Fr : sProp 𝕄)
    (hk : iprop(Ctx m ρ K ∗ RsSt m ρ S c (n + 1) ∗ Fr) ⊢ W c (J >>= k) Q) :
    iprop(Ctx m ρ K ∗ RsSt m ρ S c n ∗ Fr)
      ⊢ W c ((if g : w = 1#1 then Prog.op (.enqueueDma (prow offs inbs) (.remote (Dev.tc (dev g)) (rslot (offd g) (inbd g)) (.dma (sS g)) (hsc g)) (.dma (sem g)) (hsrc g) (hdst g) (hty g)) (fun _ => J)
          else J) >>= k) Q := by
  refine cond_step c hw ?_ (fun g hne hk => ?_) hk
  · intro he
    have hcn : c.val = n := congrArg Fin.val he
    subst hcn
    unfold RsSt
    rw [← oR_self c]
    exact sep_mono_right (sep_mono_left (sep_mono_right (fam_self (rsA m ρ c) (rsB m ρ c) c hmem (by unfold rsA rsB; rw [if_pos rfl, if_pos rfl]))))
  · rw [Prog.bind_op]
    unfold RsSt
    rw [oR_step c n h hne, ← add_assoc]
    iintro ⟨#HC, ⟨HO, Hf⟩, HF⟩
    ihave Hf := (fam_step (rsA m ρ c) (rsB m ρ c) h hmem) $$ Hf
    icases Hf with ⟨HA, Hf⟩
    ihave HA := (Entails.of_eq (show rsA m ρ c ⟨n, h⟩ = _ from if_neg (Ne.symm hne))) $$ HA
    icases HA with ⟨Hr, ⟨%fd, Hs⟩, Ht1, Ht2⟩
    iapply (rs_send m ρ K c (⟨n, h⟩ : Fin 32) hne (Fin.ext (hdev g)) (hS g) (hsem g) hs (hd' g) fd) $$ [HO Hr Hs Ht1 Ht2]
    · isplitr; · iexact HC
      isplitl [HO]; · iexact HO
      isplitl [Hr]; · iexact Hr
      isplitl [Hs]; · iexact Hs
      isplitl [Ht1] <;> iassumption
    iintro ⟨Hc, HO⟩
    iapply hk
    isplitr; · iexact HC
    isplitr [HF]
    · unfold RsSt
      isplitl [HO]; · iexact HO
      iapply Hf
      iapply (Entails.of_eq (show rsB m ρ c ⟨n, h⟩ = _ from if_neg (Ne.symm hne)).symm)
      iexact Hc
    iexact HF

/-! ## The receives of the first exchange -/

def rwA (c : Dev nD) (j : Fin 32) : sProp 𝕄 := if j = 0 then iprop(emp) else iprop(Cr c (some (2, j)) Nx ∗ At c (some (2, j)) 0)
def rwB (c : Dev nD) (j : Fin 32) : sProp 𝕄 :=
  if j = 0 then iprop(emp) else iprop(At c (some (2, j)) 1 ∗ slotPts c j (R m ρ c) ∗ rowPts (c + j) c fullShare (P m ρ (c + j)))
def RwSt (c : Dev nD) (n : ℕ) : sProp 𝕄 := iprop(Ow c (oA c 0) ∗ fam Finset.univ (rwA (F := F) c) (rwB m ρ c) n)

theorem rw_step (c : Dev nD) (n : ℕ) (h : n < 32) (h0 : 0 < n) {α : Type} {Q : α → sProp 𝕄} {k : PUnit → Prog (TpuEff nD τ sig (Elt F) Λ₀ .tc) α} {sem : DmaSem sig} (hsem : sem = dS 2 ⟨n, h⟩)
    {sp sp' : Space} {s s' : Shape} {e e' : EltTy} {src : Memref sig .tc sp' s' e'} {dst : Memref sig .tc sp s e} {hsrc : src.view.WordExact} {hdst : dst.view.WordExact}
    (hN : dst.view.dmaCredit = Nx) (Fr : sProp 𝕄)
    (hk : iprop(Ctx m ρ K ∗ RwSt m ρ c (n + 1) ∗ Fr) ⊢ W c (k ⟨⟩) Q) :
    iprop(Ctx m ρ K ∗ RwSt m ρ c n ∗ Fr) ⊢ W c (.op (.waitDma2 sem src dst hsrc hdst) k) Q := by
  have hne : (⟨n, h⟩ : Fin 32) ≠ 0 := fun e => absurd (congrArg Fin.val e) (by show n ≠ 0; omega)
  unfold RwSt
  iintro ⟨#HC, ⟨HO, Hf⟩, HF⟩
  ihave Hf := (fam_step (rwA (F := F) c) (rwB m ρ c) h (Finset.mem_univ _)) $$ Hf
  icases Hf with ⟨HA, Hf⟩
  ihave HA := (Entails.of_eq (show rwA (F := F) c ⟨n, h⟩ = _ from if_neg hne)) $$ HA
  icases HA with ⟨Hc, Ha⟩
  iapply (wait_one m ρ K c 2 ⟨n, h⟩ (N := Nx) hne (b := 2) (Nat.le_refl 2) (above_oA (by decide) c 0) hsem rfl hN) $$ [HO Hc Ha]
  · isplitr; · iexact HC
    isplitl [HO]; · iexact HO
    isplitl [Hc] <;> iassumption
  iintro ⟨HO, Ha, Hp⟩
  iapply hk
  isplitr; · iexact HC
  isplitr [HF]
  · unfold RwSt
    isplitl [HO]; · iexact HO
    iapply Hf
    iapply (Entails.of_eq (show rwB m ρ c ⟨n, h⟩ = _ from if_neg hne).symm)
    isplitl [Ha]; · iexact Ha
    unfold payK
    iexact Hp
  iexact HF

/-! ## The sends of the second exchange -/

/-- The send of `c`'s finished rows to device `d`. -/
theorem as_send (c d : Dev nD) (hne : c ≠ d) {α : Type} {Q : α → sProp 𝕄} {k : PUnit → Prog (TpuEff nD τ sig (Elt F) Λ₀ .tc) α}
    {O : CellTallies nD τ sig Unit} {dev : Dev nD} (hdev : dev = d) {sS sem : DmaSem sig} (hS : sS = dS 3 d) (hsem : sem = dS 4 c)
    {offs inbs} (hs : offs = ![32 * c.val, 0])
    {hsc : (prow offs inbs).view.ref.isScScratch = false} {hsrc : (prow offs inbs).view.WordExact} {hdst : (prow offs inbs).view.WordExact}
    {hty : DmaTarget.Typed (nD := nD) (τ := τ) .vmem (.dma sem) (.remote (p := (Proc.tc : Proc τ)) (Dev.tc dev) (prow offs inbs) (.dma sS) hsc)} (fd : Buf (Elt F) ((d : Thread nD τ).loc cc0_scratch0)) :
    iprop(Ctx m ρ K ∗ Ow c (O + tallyAt (cell d (some (4, c))) () Nx) ∗ rowPts c c (leaf 5 fullShare.left d) (T m ρ) ∗ rowPts d c fullShare fd
        ∗ Tok c (some (3, d)) 0 ∗ Tok d (some (4, c)) 0)
      ⊢ iprop((Cr c (some (3, d)) Nx ∗ Ow c O -∗ W c (k ⟨⟩) Q)
        -∗ W c (.op (.enqueueDma (prow offs inbs) (.remote (Dev.tc dev) (prow offs inbs) (.dma sS) hsc) (.dma sem) hsrc hdst hty) k) Q) := by
  subst hdev hS hsem
  unfold Ow rowPts
  iintro ⟨#HC, ⟨%Wt, HO⟩, Hs, Hd, Ht1, Ht2⟩ Hk
  ihave HI1 := (inv_at m ρ K c (some (3, dev))) $$ HC
  ihave HR1 := (reached_at m ρ K c (some (3, dev))) $$ HC
  ihave HI2 := (inv_at m ρ K dev (some (4, c))) $$ HC
  ihave HR2 := (reached_at m ρ K dev (some (4, c))) $$ HC
  have u1 : Used c 3 dev := fun e => hne e.symm
  have u2 : Used dev 4 c := hne
  have hd1 : (0 : Fin 32) ∈ (ringRd m ρ).duties (cell c (some (3, dev))) 0 := by
    rw [duties_cell]; show (0 : Fin 32) ∈ (if Used c 3 dev then ({0} : Finset (Fin 32)) else ∅); rw [if_pos u1]; exact Finset.mem_singleton_self _
  have hd2 : (0 : Fin 32) ∈ (ringRd m ρ).duties (cell dev (some (4, c))) 0 := by
    rw [duties_cell]; show (0 : Fin 32) ∈ (if Used dev 4 c then ({0} : Finset (Fin 32)) else ∅); rw [if_pos u2]; exact Finset.mem_singleton_self _
  rw [← set_prow (inb := inbs) c hs]
  iapply (Rounds.wp_send_pointsTo 𝒱₀ ER (ringRd m ρ) (c : Thread nD τ) none (c' := (dev : Thread nD τ)) (src := prow offs inbs) (dst := prow offs inbs)
      (sS := csem (some (3, dev))) (sem := csem (some (4, c))) (κ₁ := K (c, some (3, dev))) (κ₂ := K (dev, some (4, c)))
      (r₁ := 0) (r₂ := 0) (d₁ := (0 : Fin 32)) (d₂ := (0 : Fin 32)) (q := leaf 5 fullShare.left dev) (fs := T m ρ) (fd := fd)
      hd1 hd2 () () Nx rfl (amount_cell m ρ c (some (3, dev)) 0) (amount_cell m ρ dev (some (4, c)) 0) O rfl
      (by refine BI.Entails.trans ?_ (Entails.of_eq (payload_cell m ρ c (some (3, dev)) 0).symm)
          show _ ⊢ rowPts c c (leaf 5 fullShare.left dev) (T m ρ)
          unfold rowPts
          rw [← set_prow (inb := inbs) c hs])
      (by refine BI.Entails.trans ?_ (Entails.of_eq (payload_cell m ρ dev (some (4, c)) 0).symm)
          show _ ⊢ rowPts dev c fullShare (T m ρ)
          unfold rowPts
          rw [← set_prow (inb := inbs) c hs]
          exact Entails.of_eq (pointsTo_congr (land_a m ρ c dev fd)))) $$ [HO Hs Hd Ht1 Ht2 HI1 HR1 HI2 HR2]
  · isplitl [HI1]; · iexact HI1
    isplitl [HI2]; · iexact HI2
    isplitl [Hs]; · iexact Hs
    isplitl [Hd]; · iexact Hd
    isplitl [HO]; · iexact HO
    isplitl [Ht1]; · iexact Ht1
    isplitl [HR1]; · iexact HR1
    isplitl [Ht2] <;> iassumption
  iintro ⟨Hc, HO⟩
  iapply Hk
  isplitl [Hc]; · iexact Hc
  iexists _; iexact HO

def asA (c : Dev nD) (d : Fin 32) : sProp 𝕄 :=
  if d = c then iprop(emp)
  else iprop(rowPts c c (leaf 5 fullShare.left d) (T m ρ) ∗ (∃ f, rowPts d c fullShare f) ∗ Tok c (some (3, d)) 0 ∗ Tok d (some (4, c)) 0)
def asB (c : Dev nD) (d : Fin 32) : sProp 𝕄 := if d = c then iprop(emp) else Cr c (some (3, d)) Nx
def AsSt (c : Dev nD) (n : ℕ) : sProp 𝕄 := iprop(Ow c (oA c n) ∗ fam Finset.univ (asA m ρ c) (asB (F := F) c) n)

theorem as_step (c : Dev nD) (n : ℕ) (h : n < 32) {α β : Type} {Q : α → sProp 𝕄} {J : Prog (TpuEff nD τ sig (Elt F) Λ₀ .tc) β} {k : β → Prog (TpuEff nD τ sig (Elt F) Λ₀ .tc) α}
    {w : BitVec 1} (hw : w = 1#1 ↔ c ≠ (⟨n, h⟩ : Fin 32)) {dev : w = 1#1 → Dev nD} (hdev : ∀ g, (dev g).val = n)
    {sS sem : w = 1#1 → DmaSem sig} (hS : ∀ g, sS g = dS 3 ⟨n, h⟩) (hsem : ∀ g, sem g = dS 4 c)
    {offs : w = 1#1 → Fin 2 → ℕ} {inbs : ∀ g a, offs g a + S32x768.size a ≤ S1024x768.size a} (hs : ∀ g, offs g = ![32 * c.val, 0])
    {hsc : ∀ g, (prow (offs g) (inbs g)).view.ref.isScScratch = false} {hsrc hdst : ∀ g, (prow (offs g) (inbs g)).view.WordExact}
    {hty : ∀ g, DmaTarget.Typed (nD := nD) (τ := τ) .vmem (.dma (sem g)) (.remote (p := (Proc.tc : Proc τ)) (Dev.tc (dev g)) (prow (offs g) (inbs g)) (.dma (sS g)) (hsc g))} (Fr : sProp 𝕄)
    (hk : iprop(Ctx m ρ K ∗ AsSt m ρ c (n + 1) ∗ Fr) ⊢ W c (J >>= k) Q) :
    iprop(Ctx m ρ K ∗ AsSt m ρ c n ∗ Fr)
      ⊢ W c ((if g : w = 1#1 then Prog.op (.enqueueDma (prow (offs g) (inbs g)) (.remote (Dev.tc (dev g)) (prow (offs g) (inbs g)) (.dma (sS g)) (hsc g)) (.dma (sem g)) (hsrc g) (hdst g) (hty g)) (fun _ => J)
          else J) >>= k) Q := by
  refine cond_step c hw ?_ (fun g hne hk => ?_) hk
  · intro he
    have hcn : c.val = n := congrArg Fin.val he
    subst hcn
    unfold AsSt
    rw [← oA_self c]
    exact sep_mono_right (sep_mono_left (sep_mono_right (fam_self (asA m ρ c) (asB (F := F) c) c (Finset.mem_univ _) (by unfold asA asB; rw [if_pos rfl, if_pos rfl]))))
  · rw [Prog.bind_op]
    unfold AsSt
    rw [oA_step c n h hne]
    iintro ⟨#HC, ⟨HO, Hf⟩, HF⟩
    ihave Hf := (fam_step (asA m ρ c) (asB (F := F) c) h (Finset.mem_univ _)) $$ Hf
    icases Hf with ⟨HA, Hf⟩
    ihave HA := (Entails.of_eq (show asA m ρ c ⟨n, h⟩ = _ from if_neg (Ne.symm hne))) $$ HA
    icases HA with ⟨Hr, ⟨%fd, Hs⟩, Ht1, Ht2⟩
    iapply (as_send m ρ K c (⟨n, h⟩ : Fin 32) hne (Fin.ext (hdev g)) (hS g) (hsem g) (hs g) fd) $$ [HO Hr Hs Ht1 Ht2]
    · isplitr; · iexact HC
      isplitl [HO]; · iexact HO
      isplitl [Hr]; · iexact Hr
      isplitl [Hs]; · iexact Hs
      isplitl [Ht1] <;> iassumption
    iintro ⟨Hc, HO⟩
    iapply hk
    isplitr; · iexact HC
    isplitr [HF]
    · unfold AsSt
      isplitl [HO]; · iexact HO
      iapply Hf
      iapply (Entails.of_eq (show asB (F := F) c ⟨n, h⟩ = _ from if_neg (Ne.symm hne)).symm)
      iexact Hc
    iexact HF

/-! ## The receives of the second exchange -/

def awA (c : Dev nD) (j : Fin 32) : sProp 𝕄 := if j = c then iprop(emp) else iprop(Cr c (some (4, j)) Nx ∗ At c (some (4, j)) 0)
def awB (c : Dev nD) (j : Fin 32) : sProp 𝕄 := if j = c then iprop(emp) else iprop(At c (some (4, j)) 1 ∗ rowPts c j fullShare (T m ρ))
def AwSt (c : Dev nD) (n : ℕ) : sProp 𝕄 := iprop(Ow c 0 ∗ fam Finset.univ (awA (F := F) c) (awB m ρ c) n)

theorem aw_step (c : Dev nD) (n : ℕ) (h : n < 32) {α β : Type} {Q : α → sProp 𝕄} {J : Prog (TpuEff nD τ sig (Elt F) Λ₀ .tc) β} {k : β → Prog (TpuEff nD τ sig (Elt F) Λ₀ .tc) α}
    {w : BitVec 1} (hw : w = 1#1 ↔ c ≠ (⟨n, h⟩ : Fin 32)) {sem : w = 1#1 → DmaSem sig} (hsem : ∀ g, sem g = dS 4 ⟨n, h⟩)
    {sp sp' : Space} {s s' : Shape} {e e' : EltTy} {src : w = 1#1 → Memref sig .tc sp' s' e'} {dst : w = 1#1 → Memref sig .tc sp s e} {hsrc : ∀ g, (src g).view.WordExact} {hdst : ∀ g, (dst g).view.WordExact}
    (hN : ∀ g, (dst g).view.dmaCredit = Nx) (Fr : sProp 𝕄)
    (hk : iprop(Ctx m ρ K ∗ AwSt m ρ c (n + 1) ∗ Fr) ⊢ W c (J >>= k) Q) :
    iprop(Ctx m ρ K ∗ AwSt m ρ c n ∗ Fr)
      ⊢ W c ((if g : w = 1#1 then Prog.op (.waitDma2 (sem g) (src g) (dst g) (hsrc g) (hdst g)) (fun _ => J) else J) >>= k) Q := by
  refine cond_step c hw ?_ (fun g hne hk => ?_) hk
  · intro he
    have hcn : c.val = n := congrArg Fin.val he
    subst hcn
    unfold AwSt
    exact sep_mono_right (sep_mono_left (sep_mono_right (fam_self (awA (F := F) c) (awB m ρ c) c (Finset.mem_univ _) (by unfold awA awB; rw [if_pos rfl, if_pos rfl]))))
  · rw [Prog.bind_op]
    unfold AwSt
    iintro ⟨#HC, ⟨HO, Hf⟩, HF⟩
    ihave Hf := (fam_step (awA (F := F) c) (awB m ρ c) h (Finset.mem_univ _)) $$ Hf
    icases Hf with ⟨HA, Hf⟩
    ihave HA := (Entails.of_eq (show awA (F := F) c ⟨n, h⟩ = _ from if_neg (Ne.symm hne))) $$ HA
    icases HA with ⟨Hc, Ha⟩
    iapply (wait_one m ρ K c 4 ⟨n, h⟩ (N := Nx) (Ne.symm hne) (b := 3) (Nat.le_refl 3) (above_zero 3) (hsem g) rfl (hN g)) $$ [HO Hc Ha]
    · isplitr; · iexact HC
      isplitl [HO]; · iexact HO
      isplitl [Hc] <;> iassumption
    iintro ⟨HO, Ha, Hp⟩
    iapply hk
    isplitr; · iexact HC
    isplitr [HF]
    · unfold AwSt
      isplitl [HO]; · iexact HO
      iapply Hf
      iapply (Entails.of_eq (show awB m ρ c ⟨n, h⟩ = _ from if_neg (Ne.symm hne)).symm)
      isplitl [Ha]; · iexact Ha
      unfold payK
      iexact Hp
    iexact HF

/-! ## The waits for the sends -/

def fwA (c : Dev nD) (d : Fin 32) : sProp 𝕄 :=
  if d = c then iprop(emp) else iprop((Cr c (some (1, d)) Nx ∗ At c (some (1, d)) 0) ∗ Cr c (some (3, d)) Nx ∗ At c (some (3, d)) 0)
def fwB (c : Dev nD) (d : Fin 32) : sProp 𝕄 :=
  if d = c then iprop(emp) else iprop(At c (some (1, d)) 1 ∗ At c (some (3, d)) 1 ∗ rowPts c c (leaf 5 fullShare.left d) (T m ρ))
def FwSt (c : Dev nD) (n : ℕ) : sProp 𝕄 := iprop(Ow c 0 ∗ fam Finset.univ (fwA (F := F) c) (fwB m ρ c) n)

theorem fw_step (c : Dev nD) (n : ℕ) (h : n < 32) {α β : Type} {Q : α → sProp 𝕄} {J : Prog (TpuEff nD τ sig (Elt F) Λ₀ .tc) β} {k : β → Prog (TpuEff nD τ sig (Elt F) Λ₀ .tc) α}
    {w : BitVec 1} (hw : w = 1#1 ↔ c ≠ (⟨n, h⟩ : Fin 32)) {sem sem' : w = 1#1 → DmaSem sig} (hsem : ∀ g, sem g = dS 1 ⟨n, h⟩) (hsem' : ∀ g, sem' g = dS 3 ⟨n, h⟩)
    {sp sp' : Space} {s s' : Shape} {e e' : EltTy} {src : w = 1#1 → Memref sig .tc sp' s' e'} {dst : w = 1#1 → Memref sig .tc sp s e} {hsrc : ∀ g, (src g).view.WordExact} {hdst : ∀ g, (dst g).view.WordExact}
    {tp tp' : Space} {u u' : Shape} {b b' : EltTy} {src' : w = 1#1 → Memref sig .tc tp' u' b'} {dst' : w = 1#1 → Memref sig .tc tp u b} {hsrc' : ∀ g, (src' g).view.WordExact} {hdst' : ∀ g, (dst' g).view.WordExact}
    (hN : ∀ g, (dst g).view.dmaCredit = Nx) (hN' : ∀ g, (dst' g).view.dmaCredit = Nx) (Fr : sProp 𝕄)
    (hk : iprop(Ctx m ρ K ∗ FwSt m ρ c (n + 1) ∗ Fr) ⊢ W c (J >>= k) Q) :
    iprop(Ctx m ρ K ∗ FwSt m ρ c n ∗ Fr)
      ⊢ W c ((if g : w = 1#1 then Prog.op (.waitDma2 (sem g) (src g) (dst g) (hsrc g) (hdst g)) (fun _ => Prog.op (.waitDma2 (sem' g) (src' g) (dst' g) (hsrc' g) (hdst' g)) (fun _ => J)) else J) >>= k) Q := by
  refine cond_step c hw ?_ (fun g hne hk => ?_) hk
  · intro he
    have hcn : c.val = n := congrArg Fin.val he
    subst hcn
    unfold FwSt
    exact sep_mono_right (sep_mono_left (sep_mono_right (fam_self (fwA (F := F) c) (fwB m ρ c) c (Finset.mem_univ _) (by unfold fwA fwB; rw [if_pos rfl, if_pos rfl]))))
  · rw [Prog.bind_op]
    simp only [Prog.bind_op, Prog.bind_ret]
    unfold FwSt
    iintro ⟨#HC, ⟨HO, Hf⟩, HF⟩
    ihave Hf := (fam_step (fwA (F := F) c) (fwB m ρ c) h (Finset.mem_univ _)) $$ Hf
    icases Hf with ⟨HA, Hf⟩
    ihave HA := (Entails.of_eq (show fwA (F := F) c ⟨n, h⟩ = _ from if_neg (Ne.symm hne))) $$ HA
    icases HA with ⟨⟨Hc, Ha⟩, Hc', Ha'⟩
    iapply (wait_one m ρ K c 1 ⟨n, h⟩ (N := Nx) (Ne.symm hne) (b := 0) (Nat.le_refl 0) (above_zero 0) (hsem g) rfl (hN g)) $$ [HO Hc Ha]
    · isplitr; · iexact HC
      isplitl [HO]; · iexact HO
      isplitl [Hc] <;> iassumption
    iintro ⟨HO, Ha, -⟩
    iapply (wait_one m ρ K c 3 ⟨n, h⟩ (N := Nx) (Ne.symm hne) (b := 0) (Nat.le_refl 0) (above_zero 0) (hsem' g) rfl (hN' g)) $$ [HO Hc' Ha']
    · isplitr; · iexact HC
      isplitl [HO]; · iexact HO
      isplitl [Hc'] <;> iassumption
    iintro ⟨HO, Ha', Hp⟩
    iapply hk
    isplitr; · iexact HC
    isplitr [HF]
    · unfold FwSt
      isplitl [HO]; · iexact HO
      iapply Hf
      iapply (Entails.of_eq (show fwB m ρ c ⟨n, h⟩ = _ from if_neg (Ne.symm hne)).symm)
      isplitl [Ha]; · iexact Ha
      isplitl [Ha']; · iexact Ha'
      unfold payK
      iexact Hp
    iexact HF

end Cert.K01
-- ==== Proof.Parts0.lean ====
module

public import proofs.«01_k».proof.Proof.Exchange

/-! # The semaphores the kernel names, and the shape of a program's steps -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

/-! ## Semaphores -/

/-- The semaphore of copy `16 t + 8 b + h` of the pages, where `t` says keys or values, `b` the sequence and `h` the head. -/
theorem sem_kv : ∀ (t b : Fin 2) (h : Fin 8) {inb : ∀ a : Fin 3, ![t.val, b.val, h.val] a + S1x1x1.size a ≤ S2x2x8.size a},
    ((cc0_scratch4.slice (Rect.unit (s := S2x2x8) ![t.val, b.val, h.val] S1x1x1.size inb)).squeeze S_ squeezes_S1x1x1_S_).sem = dS 0 ⟨16 * t.val + 8 * b.val + h.val, by omega⟩ := by
  decide

/-- The semaphore of a cell of the array that counts what a device has sent of its partial rows. -/
theorem sem_rs_send {off : Fin 1 → ℕ} {inb : ∀ a : Fin 1, off a + S1.size a ≤ S32.size a} (i : Fin 32) (h : off = ![i.val]) :
    ((cc0_scratch5.slice (Rect.unit (s := S32) off S1.size inb)).squeeze S_ squeezes_S1_S_).sem = dS 1 i := by
  subst h; revert inb; revert i; decide

/-- The same of what it has received of them. -/
theorem sem_rs_recv {off : Fin 1 → ℕ} {inb : ∀ a : Fin 1, off a + S1.size a ≤ S32.size a} (i : Fin 32) (h : off = ![i.val]) :
    ((cc0_scratch6.slice (Rect.unit (s := S32) off S1.size inb)).squeeze S_ squeezes_S1_S_).sem = dS 2 i := by
  subst h; revert inb; revert i; decide

/-- The same of what it has sent of its totals. -/
theorem sem_ag_send {off : Fin 1 → ℕ} {inb : ∀ a : Fin 1, off a + S1.size a ≤ S32.size a} (i : Fin 32) (h : off = ![i.val]) :
    ((cc0_scratch7.slice (Rect.unit (s := S32) off S1.size inb)).squeeze S_ squeezes_S1_S_).sem = dS 3 i := by
  subst h; revert inb; revert i; decide

/-- The same of what it has received of the totals. -/
theorem sem_ag_recv {off : Fin 1 → ℕ} {inb : ∀ a : Fin 1, off a + S1.size a ≤ S32.size a} (i : Fin 32) (h : off = ![i.val]) :
    ((cc0_scratch8.slice (Rect.unit (s := S32) off S1.size inb)).squeeze S_ squeezes_S1_S_).sem = dS 4 i := by
  subst h; revert inb; revert i; decide

/-- An offset that names a device's slot `c - d`. -/
theorem off_slot {x y : Dev nD} {n : ℕ} (h : n = (x.val + (32 - y.val)) % 32) : (![n] : Fin 1 → ℕ) = ![(x - y : Fin 32).val] := by
  rw [h, ← sub_val]

/-! ## Turning the state -/

/-- Two parts of the state change places. -/
theorem turn {A B C X R : sProp 𝕄} (h : iprop(A ∗ C ∗ B ∗ X) ⊢ R) : iprop(A ∗ B ∗ C ∗ X) ⊢ R := by
  iintro ⟨HA, HB, HC, HX⟩
  iapply h
  isplitl [HA]; · iexact HA
  isplitl [HC]; · iexact HC
  isplitl [HB] <;> iassumption

end Cert.K01
-- ==== Proof.Moves.lean ====
module

public import proofs.«01_k».proof.Proof.Parts0

/-! # What a device holds between the phases -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- All devices but `c`. -/
abbrev others (c : Fin 32) : Finset (Fin 32) := Finset.univ.erase c

omit [FloatOps F] in
/-- A family of pairs is a pair of families. -/
theorem fam_sep (S : Finset (Fin 32)) (A B : Fin 32 → sProp 𝕄) : bigSep S (fun i => iprop(A i ∗ B i)) = iprop(bigSep S A ∗ bigSep S B) := bigSep_sep S A B
omit [FloatOps F] in
/-- One member of a family apart. -/
theorem fam_erase (c : Fin 32) (A : Fin 32 → sProp 𝕄) : bigSep Finset.univ A = iprop(A c ∗ bigSep (others c) A) := bigSep_erase (Finset.mem_univ c)

omit [FloatOps F] in
/-- A family over all devices that is special at `c`. -/
theorem at_self (c : Fin 32) (X : sProp 𝕄) (Ψ : Fin 32 → sProp 𝕄) :
    bigSep Finset.univ (fun d => if d = c then X else Ψ d) = iprop(X ∗ bigSep (others c) Ψ) := by
  rw [fam_erase c, if_pos rfl]
  exact congrArg (fun Y => iprop(X ∗ Y)) (bigSep_congr fun d hd => if_neg (Finset.ne_of_mem_erase hd))
omit [FloatOps F] in
/-- The same where nothing is kept at `c`. -/
theorem at_none (c : Fin 32) (Ψ : Fin 32 → sProp 𝕄) :
    bigSep Finset.univ (fun d => if d = c then iprop(emp) else Ψ d) = bigSep (others c) Ψ := by
  rw [at_self]; exact equiv_iff.mp emp_sep

omit [FloatOps F] in
/-- The others counted from `c`: `c + j` for `j ≠ 0`. -/
theorem others_shift (c : Fin 32) (X : Fin 32 → sProp 𝕄) : bigSep (others 0) (fun j => X (c + j)) = bigSep (others c) X := by
  rw [← at_none, ← at_none]
  refine Eq.trans ?_ (bigSep_univ_equiv (⟨fun j => c + j, fun d => d - c, fun j => sub_add_dev c j, fun d => add_sub_dev d c⟩ : Fin 32 ≃ Fin 32) _).symm
  refine bigSep_congr fun j _ => ?_
  show (if j = 0 then iprop(emp) else X (c + j)) = if c + j = c then iprop(emp) else X (c + j)
  exact if_congr (add_eq_dev c j).symm rfl rfl

/-! ## Blocks of a buffer -/

theorem rows_disjoint {S : Finset (Fin 32)} : ∀ t ∈ S, ∀ t' ∈ S, t ≠ t' → Disjoint (rowSet t) (rowSet t') := fun t _ t' _ hne =>
  Finset.disjoint_left.mpr fun i hi hi' => hne (Fin.ext ((Finset.mem_filter.mp hi).2.symm.trans (Finset.mem_filter.mp hi').2))
theorem slots_disjoint {S : Finset (Fin 32)} : ∀ t ∈ S, ∀ t' ∈ S, t ≠ t' → Disjoint (slotSet t) (slotSet t') := fun t _ t' _ hne =>
  Finset.disjoint_left.mpr fun i hi hi' => hne (Fin.ext ((Finset.mem_filter.mp hi).2.symm.trans (Finset.mem_filter.mp hi').2))

/-- The first 16 indices; the last 16. -/
abbrev low : Finset (Fin 32) := Finset.univ.filter fun i => i.val < 16
abbrev high : Finset (Fin 32) := Finset.univ.filter fun i => ¬ i.val < 16

theorem rows_low : low.biUnion rowSet = halfSet 0 := by
  ext i
  have hi : (i 0).val < 1024 := (i 0).isLt
  simp only [Finset.mem_biUnion, Finset.mem_filter, Finset.mem_univ, true_and, rowSet, halfSet]
  constructor
  · rintro ⟨t, ht, he⟩; show _ = 0; omega
  · intro h
    have h' : (i 0).val / 512 = 0 := h
    exact ⟨⟨(i 0).val / 32, by omega⟩, by show (i 0).val / 32 < 16; omega, rfl⟩
theorem rows_high : high.biUnion rowSet = halfSet 1 := by
  ext i
  have hi : (i 0).val < 1024 := (i 0).isLt
  simp only [Finset.mem_biUnion, Finset.mem_filter, Finset.mem_univ, true_and, rowSet, halfSet]
  constructor
  · rintro ⟨t, ht, he⟩; have := t.isLt; show _ = 1; omega
  · intro h
    have h' : (i 0).val / 512 = 1 := h
    exact ⟨⟨(i 0).val / 32, by omega⟩, by show ¬ (i 0).val / 32 < 16; omega, rfl⟩
theorem rows_all : (Finset.univ : Finset (Fin 32)).biUnion rowSet = Finset.univ := by
  ext i
  have hi : (i 0).val < 1024 := (i 0).isLt
  simp only [Finset.mem_biUnion, Finset.mem_univ, true_and, iff_true, rowSet, Finset.mem_filter]
  exact ⟨⟨(i 0).val / 32, by omega⟩, rfl⟩
/-- The slots that receive. -/
def recvSet : Finset S32x32x768.Idx := (others 0).biUnion slotSet
theorem slots_all : (Finset.univ : Finset (Fin 32)).biUnion slotSet = Finset.univ := by
  ext i
  simp only [Finset.mem_biUnion, Finset.mem_univ, true_and, iff_true, slotSet, Finset.mem_filter]
  exact ⟨i 0, rfl⟩

/-- A device's rows of any set of chunks, as one. -/
theorem rowPts_union (c : Dev nD) (S : Finset (Fin 32)) {U : Finset S1024x768.Idx} (h : S.biUnion rowSet = U) (q : PosShare TreeShare) (f : Buf (Elt F) ((c : Thread nD τ).loc cc0_scratch0)) :
    bigSep S (fun d => rowPts c d q f) = (((c : Thread nD τ).loc cc0_scratch0) ↦[U]{q} f) := by
  refine (pointsTo_biUnion (ℓ := (c : Thread nD τ).loc cc0_scratch0) (q := q) (f := f) S rowSet rows_disjoint).symm.trans ?_
  refine congrArg (fun I : Finset (Idx ((c : Thread nD τ).loc cc0_scratch0)) => (((c : Thread nD τ).loc cc0_scratch0) ↦[I]{q} f : sProp 𝕄)) ?_
  subst h
  ext i
  exact Finset.mem_biUnion.trans Finset.mem_biUnion.symm
theorem slotPts_union (c : Dev nD) (S : Finset (Fin 32)) {U : Finset S32x32x768.Idx} (h : S.biUnion slotSet = U) (f : Buf (Elt F) ((c : Thread nD τ).loc cc0_scratch3)) :
    bigSep S (fun d => slotPts c d f) = (((c : Thread nD τ).loc cc0_scratch3) ↦[U]{fullShare} f) := by
  refine (pointsTo_biUnion (ℓ := (c : Thread nD τ).loc cc0_scratch3) (q := fullShare) (f := f) S slotSet slots_disjoint).symm.trans ?_
  refine congrArg (fun I : Finset (Idx ((c : Thread nD τ).loc cc0_scratch3)) => (((c : Thread nD τ).loc cc0_scratch3) ↦[I]{fullShare} f : sProp 𝕄)) ?_
  subst h
  ext i
  exact Finset.mem_biUnion.trans Finset.mem_biUnion.symm

theorem scr_low : low.biUnion (fun i => scrSet i.val) = Finset.univ := by
  ext i
  have h0 : (i 0).val < 2 := (i 0).isLt
  have h1 : (i 1).val < 8 := (i 1).isLt
  simp only [Finset.mem_biUnion, Finset.mem_univ, true_and, iff_true, scrSet, Finset.mem_filter]
  exact ⟨⟨8 * (i 0).val + (i 1).val, by omega⟩, by show 8 * (i 0).val + (i 1).val < 16; omega, by show _ = (8 * (i 0).val + (i 1).val) / 8; omega, by show _ = (8 * (i 0).val + (i 1).val) % 8; omega⟩
theorem scr_high : high.biUnion (fun i => scrSet (i.val - 16)) = Finset.univ := by
  ext i
  have h0 : (i 0).val < 2 := (i 0).isLt
  have h1 : (i 1).val < 8 := (i 1).isLt
  simp only [Finset.mem_biUnion, Finset.mem_univ, true_and, iff_true, scrSet, Finset.mem_filter]
  exact ⟨⟨16 + 8 * (i 0).val + (i 1).val, by omega⟩, by show ¬ 16 + 8 * (i 0).val + (i 1).val < 16; omega,
    by show _ = (16 + 8 * (i 0).val + (i 1).val - 16) / 8; omega, by show _ = (16 + 8 * (i 0).val + (i 1).val - 16) % 8; omega⟩
theorem scr_ne {e e' : ℕ} (h : e ≠ e') : Disjoint (scrSet e) (scrSet e') :=
  Finset.disjoint_left.mpr fun i hi hi' => by
    have h1 := (Finset.mem_filter.mp hi).2
    have h2 := (Finset.mem_filter.mp hi').2
    exact h (by omega)

/-- The two buffers of pages, filled. -/
def KV (c : Dev nD) : sProp 𝕄 :=
  iprop((((c : Thread nD τ).loc cc0_scratch1) ↦[Finset.univ]{fullShare} kBuf m c) ∗ (((c : Thread nD τ).loc cc0_scratch2) ↦[Finset.univ]{fullShare} vBuf m c))

theorem kv_whole (c : Dev nD) : bigSep Finset.univ (kvDst m c) = KV m c := by
  rw [BI.bigSep_filter_split Finset.univ fun i : Fin 32 => i.val < 16]
  have h1 : bigSep low (kvDst m c) = (((c : Thread nD τ).loc cc0_scratch1) ↦[Finset.univ]{fullShare} kBuf m c) := by
    rw [← scr_low, pointsTo_biUnion low _ fun t _ t' _ hne => scr_ne fun e => hne (Fin.ext e)]
    exact bigSep_congr fun i hi => if_pos (Finset.mem_filter.mp hi).2
  have h2 : bigSep high (kvDst m c) = (((c : Thread nD τ).loc cc0_scratch2) ↦[Finset.univ]{fullShare} vBuf m c) := by
    rw [← scr_high, pointsTo_biUnion high _ fun t ht t' ht' hne => scr_ne fun e => hne (Fin.ext (by
      have := (Finset.mem_filter.mp ht).2; have := (Finset.mem_filter.mp ht').2; omega))]
    exact bigSep_congr fun i hi => if_neg (Finset.mem_filter.mp hi).2
  rw [h1, h2]; rfl

/-! ## From phase to phase -/

theorem oB_end (c : Dev nD) : oB c 32 = 0 := by unfold oB; rw [from_end, Finset.sum_empty]
theorem oR_end (c : Dev nD) : oR c 32 = 0 := by unfold oR; rw [from_end, Finset.sum_empty]
theorem oA_end (c : Dev nD) : oA c 32 = 0 := by unfold oA; rw [from_end, Finset.sum_empty]

theorem kw_start (c : Dev nD) :
    iprop(SigSt c 32 ∗ KvSt m c 32 ∗ bigSep Finset.univ (fun i : Fin 32 => At c (some (0, i)) 0)) ⊢ KwSt m c 0 := by
  unfold SigSt KvSt KwSt
  rw [fam_end _ _ fun i _ => i.isLt, fam_end _ _ fun i _ => i.isLt, oB_end, add_zero, ← fam_start (kwA (F := F) c) (kwB m c) fun i _ h => absurd h (Nat.not_lt_zero _)]
  iintro ⟨⟨HO, He⟩, Hc, Ha⟩
  isplitl [HO]; · iexact HO
  iapply (show iprop(bigSep Finset.univ (kvB (F := F) c) ∗ bigSep Finset.univ (fun i : Fin 32 => At c (some (0, i)) 0)) ⊢ bigSep Finset.univ (kwA (F := F) c) from
    Entails.of_eq (fam_sep _ _ _).symm)
  isplitl [Hc] <;> iassumption

theorem kw_end (c : Dev nD) :
    KwSt m c 32 ⊢ iprop(Ow c (oA c 0 + oR c 0) ∗ (bigSep Finset.univ (fun i : Fin 32 => At c (some (0, i)) 1) ∗ bigSep Finset.univ (kvSrc m c)) ∗ KV m c) := by
  unfold KwSt
  rw [fam_end _ _ fun i _ => i.isLt, ← kv_whole]
  have h : bigSep Finset.univ (kwB m c) = iprop(bigSep Finset.univ (fun i : Fin 32 => At (F := F) c (some (0, i)) 1) ∗ bigSep Finset.univ (kvSrc m c) ∗ bigSep Finset.univ (kvDst m c)) := by
    rw [← fam_sep, ← fam_sep]; rfl
  rw [h]
  iintro ⟨HO, Ha, Hs, Hd⟩
  isplitl [HO]; · iexact HO
  isplitr [Hd]
  · isplitl [Ha] <;> iassumption
  iexact Hd

/-- What the sends of the first exchange to the devices of `S` use besides the rows. -/
def rsPre (c : Dev nD) (d : Fin 32) : sProp 𝕄 :=
  if d = c then iprop(emp) else iprop((∃ f, slotPts d (c - d) f) ∗ Tok c (some (1, d)) 0 ∗ Tok d (some (2, c - d)) 0)

theorem rs_start (c : Dev nD) (S : Finset (Fin 32)) (n : ℕ) (h : ∀ i ∈ S, ¬ i.val < n) :
    iprop(Ow c (oA c 0 + oR c n) ∗ bigSep S (fun d => rowPts c d fullShare (P m ρ c)) ∗ bigSep S (rsPre (F := F) c)) ⊢ RsSt m ρ S c n := by
  have h1 : ∀ d : Fin 32, iprop(rowPts c d fullShare (P m ρ c) ∗ rsPre (F := F) c d) ⊢ rsA m ρ c d := fun d => by
    unfold rsPre rsA
    by_cases hd : d = c
    · subst hd; rw [if_pos rfl, if_pos rfl]; iintro ⟨H, He⟩; iexact H
    · rw [if_neg hd, if_neg hd]
  unfold RsSt
  rw [← fam_start (rsA m ρ c) (rsB m ρ c) fun i hi hn => absurd hn (h i hi), ← fam_sep]
  iintro ⟨HO, HF⟩
  isplitl [HO]; · iexact HO
  iapply (show bigSep S (fun d => iprop(rowPts c d fullShare (P m ρ c) ∗ rsPre (F := F) c d)) ⊢ bigSep S (rsA m ρ c) from
    bigSep_mono fun d _ => h1 d)
  iexact HF

/-- What the first exchange leaves a device: its own rows and the credits of its sends. -/
def rsPost (c : Dev nD) : sProp 𝕄 :=
  iprop(rowPts c c fullShare (P m ρ c) ∗ bigSep (others c) (fun d => Cr c (some (1, d)) Nx))

theorem rs_end (c : Dev nD) :
    iprop(fam low (rsA m ρ c) (rsB m ρ c) 16 ∗ fam high (rsA m ρ c) (rsB m ρ c) 32) ⊢ rsPost m ρ c := by
  rw [fam_end _ _ fun i hi => (Finset.mem_filter.mp hi).2, fam_end _ _ fun i _ => i.isLt]
  refine BI.Entails.trans (Entails.of_eq (BI.bigSep_filter_split Finset.univ fun i : Fin 32 => i.val < 16).symm) ?_
  unfold rsPost
  exact Entails.of_eq (at_self c _ _)

theorem rw_start (c : Dev nD) : iprop(Ow c (oA c 0) ∗ bigSep Finset.univ (rwA (F := F) c)) ⊢ RwSt m ρ c 1 := by
  unfold RwSt
  rw [fam_start (rwA (F := F) c) (rwB m ρ c) (n := 1) fun i _ hn => by
    have : i = 0 := Fin.ext (by show i.val = 0; omega)
    subst this; rfl]

theorem rw_end (c : Dev nD) :
    RwSt m ρ c 32 ⊢ iprop(Ow c (oA c 0) ∗ bigSep (others 0) (fun j => At c (some (2, j)) 1)
      ∗ (((c : Thread nD τ).loc cc0_scratch3) ↦[recvSet]{fullShare} R m ρ c)
      ∗ bigSep (others c) (fun d => iprop(∃ f, rowPts d c fullShare f))) := by
  unfold RwSt
  rw [fam_end _ _ fun i _ => i.isLt]
  have h1 : ∀ j : Fin 32, rowPts (c + j) c fullShare (P m ρ (c + j)) ⊢ iprop(∃ f, rowPts (F := F) (c + j) c fullShare f) := fun j => by
    iintro H; iexists _; iexact H
  unfold rwB
  rw [at_none, fam_sep, fam_sep, slotPts_union c (others 0) (U := recvSet) rfl, ← others_shift c fun d => iprop(∃ f, rowPts d c fullShare f)]
  iintro ⟨HO, Ha, Hs, Hr⟩
  isplitl [HO]; · iexact HO
  isplitl [Ha]; · iexact Ha
  isplitl [Hs]; · iexact Hs
  iapply (show bigSep (others 0) (fun j => rowPts (c + j) c fullShare (P m ρ (c + j))) ⊢ bigSep (others 0) (fun j => iprop(∃ f, rowPts (F := F) (c + j) c fullShare f)) from
    bigSep_mono fun j _ => h1 j)
  iexact Hr

/-- What the sends of the second exchange use besides the totals. -/
def asTok (c : Dev nD) : sProp 𝕄 := bigSep (others c) (fun d => iprop(Tok c (some (3, d)) 0 ∗ Tok d (some (4, c)) 0))

omit [FloatOps F] in
theorem share_split {ℓ : Loc nD τ sig} (I : Finset (Idx ℓ)) (f : Buf (Elt F) ℓ) :
    (ℓ ↦[I]{fullShare} f : sProp 𝕄) = iprop((ℓ ↦[I]{fullShare.left} f) ∗ ℓ ↦[I]{fullShare.right} f) :=
  BI.Entails.antisymm (pointsTo_share (PosShare.mem_left_op_right _)).1 (pointsTo_share (PosShare.mem_left_op_right _)).2

/-- The left half of a device's own totals, as the 31 shares its sends read and one more. -/
theorem leaves_split (c : Dev nD) :
    rowPts c c fullShare.left (T m ρ) = iprop(rowPts c c (leaf 5 fullShare.left c) (T m ρ) ∗ bigSep (others c) (fun d => rowPts c c (leaf 5 fullShare.left d) (T m ρ))) := by
  exact (pointsTo_leaves (ℓ := (c : Thread nD τ).loc cc0_scratch0) (rowSet c) (T m ρ) 5 fullShare.left).trans (fam_erase c _)

theorem as_start (c : Dev nD) :
    iprop(Ow c (oA c 0) ∗ rowPts c c fullShare (T m ρ) ∗ bigSep (others c) (fun d => iprop(∃ f, rowPts d c fullShare f)) ∗ asTok (F := F) c)
      ⊢ iprop(AsSt m ρ c 0 ∗ rowPts c c fullShare.right (T m ρ) ∗ rowPts c c (leaf 5 fullShare.left c) (T m ρ)) := by
  have hs : rowPts c c fullShare (T m ρ) = iprop(rowPts c c fullShare.left (T m ρ) ∗ rowPts c c fullShare.right (T m ρ)) := share_split _ _
  have he : bigSep Finset.univ (asA m ρ c) = iprop(bigSep (others c) (fun d => rowPts c c (leaf 5 fullShare.left d) (T m ρ))
      ∗ bigSep (others c) (fun d => iprop(∃ f, rowPts (F := F) d c fullShare f)) ∗ asTok (F := F) c) :=
    (at_none c _).trans ((fam_sep _ _ _).trans (congrArg (fun X => iprop(bigSep (others c) (fun d => rowPts c c (leaf 5 fullShare.left d) (T m ρ)) ∗ X)) (fam_sep _ _ _)))
  unfold AsSt
  rw [← fam_start (asA m ρ c) (asB (F := F) c) fun i _ h => absurd h (Nat.not_lt_zero _), hs, leaves_split, he]
  iintro ⟨HO, ⟨⟨Hc, Hl⟩, Hr⟩, Hd, Ht⟩
  isplitr [Hc Hr]
  · isplitl [HO]; · iexact HO
    isplitl [Hl]; · iexact Hl
    isplitl [Hd] <;> iassumption
  isplitl [Hr] <;> iassumption

theorem as_end (c : Dev nD) : AsSt m ρ c 32 ⊢ iprop(Ow c 0 ∗ bigSep (others c) (fun d => Cr c (some (3, d)) Nx)) := by
  unfold AsSt
  rw [fam_end _ _ fun i _ => i.isLt, oA_end]
  unfold asB
  rw [at_none]

theorem aw_start (c : Dev nD) : iprop(Ow c 0 ∗ bigSep Finset.univ (awA (F := F) c)) ⊢ AwSt m ρ c 0 := by
  unfold AwSt
  rw [fam_start (awA (F := F) c) (awB m ρ c) (n := 0) fun i _ h => absurd h (Nat.not_lt_zero _)]

/-- All the rows at the totals, at a share; the other devices' rows at what remains. -/
theorem aw_end (c : Dev nD) :
    iprop(AwSt m ρ c 32 ∗ rowPts c c fullShare.right (T m ρ))
      ⊢ iprop(Ow c 0 ∗ bigSep (others c) (fun j => At c (some (4, j)) 1)
        ∗ (((c : Thread nD τ).loc cc0_scratch0) ↦[Finset.univ]{fullShare.right} T m ρ)
        ∗ bigSep (others c) (fun j => rowPts c j fullShare.left (T m ρ))) := by
  unfold AwSt
  rw [fam_end _ _ fun i _ => i.isLt, ← rowPts_union c Finset.univ rows_all, fam_erase c fun d => rowPts c d fullShare.right (T m ρ)]
  unfold awB
  rw [at_none, fam_sep, bigSep_congr fun j (_ : j ∈ others c) => show rowPts c j fullShare (T m ρ) = iprop(rowPts c j fullShare.left (T m ρ) ∗ rowPts c j fullShare.right (T m ρ)) from share_split _ _,
    fam_sep]
  iintro ⟨⟨HO, Ha, Hl, Hr⟩, Hc⟩
  isplitl [HO]; · iexact HO
  isplitl [Ha]; · iexact Ha
  isplitr [Hl]
  · isplitl [Hc] <;> iassumption
  iexact Hl

/-- The counts of the sends before the last waits. -/
def fwAt (c : Dev nD) (r : ℕ) : sProp 𝕄 := bigSep (others c) (fun d => iprop(At c (some (1, d)) r ∗ At c (some (3, d)) r))

theorem fw_start (c : Dev nD) :
    iprop(Ow c 0 ∗ bigSep (others c) (fun d => Cr c (some (1, d)) Nx) ∗ bigSep (others c) (fun d => Cr c (some (3, d)) Nx) ∗ fwAt (F := F) c 0) ⊢ FwSt m ρ c 0 := by
  unfold FwSt fwAt
  rw [← fam_start (fwA (F := F) c) (fwB m ρ c) fun i _ h => absurd h (Nat.not_lt_zero _)]
  unfold fwA
  rw [at_none, fam_sep, fam_sep, fam_sep, fam_sep]
  iintro ⟨HO, H1, H3, Ha1, Ha3⟩
  isplitl [HO]; · iexact HO
  isplitl [H1 Ha1]
  · isplitl [H1] <;> iassumption
  isplitl [H3] <;> iassumption

theorem fw_end (c : Dev nD) :
    iprop(FwSt m ρ c 32 ∗ rowPts c c (leaf 5 fullShare.left c) (T m ρ) ∗ (((c : Thread nD τ).loc cc0_scratch0) ↦[Finset.univ]{fullShare.right} T m ρ)
        ∗ bigSep (others c) (fun j => rowPts c j fullShare.left (T m ρ)))
      ⊢ iprop(Ow c 0 ∗ fwAt (F := F) c 1 ∗ (((c : Thread nD τ).loc cc0_scratch0) ↦[Finset.univ]{fullShare} T m ρ)) := by
  have hw : (((c : Thread nD τ).loc cc0_scratch0) ↦[Finset.univ]{fullShare.left} T m ρ : sProp 𝕄)
      = iprop(rowPts c c fullShare.left (T m ρ) ∗ bigSep (others c) (fun j => rowPts c j fullShare.left (T m ρ))) := by
    rw [← rowPts_union c Finset.univ rows_all]
    exact fam_erase c _
  unfold FwSt fwAt
  rw [fam_end _ _ fun i _ => i.isLt, share_split (ℓ := (c : Thread nD τ).loc cc0_scratch0) Finset.univ (T m ρ), hw, leaves_split]
  unfold fwB
  rw [at_none, fam_sep, fam_sep, fam_sep]
  iintro ⟨⟨HO, Ha1, Ha3, Hl⟩, Hc, Hr, Ho⟩
  isplitl [HO]; · iexact HO
  isplitl [Ha1 Ha3]
  · isplitl [Ha1] <;> iassumption
  isplitr [Hr]
  · isplitr [Ho]
    · isplitl [Hc] <;> iassumption
    iexact Ho
  iexact Hr

end Cert.K01
-- ==== Proof.Loads.lean ====
module

public import proofs.«01_k».proof.Proof.Moves

/-! # Loads and stores as steps -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- A step of the state: what is held turns into something it entails. -/
theorem conv {A B C X R : sProp 𝕄} (h : B ⊢ C) (hk : iprop(A ∗ C ∗ X) ⊢ R) : iprop(A ∗ B ∗ X) ⊢ R := by
  iintro ⟨HA, HB, HX⟩
  ihave HB := h $$ HB
  iapply hk
  isplitl [HA]; · iexact HA
  isplitl [HB] <;> iassumption
/-- Two of the parts of the state as one. -/
theorem join {A B C X R : sProp 𝕄} (hk : iprop(A ∗ (B ∗ C) ∗ X) ⊢ R) : iprop(A ∗ B ∗ C ∗ X) ⊢ R := by
  iintro ⟨HA, HB, HC, HX⟩
  iapply hk
  isplitl [HA]; · iexact HA
  isplitr [HX]
  · isplitl [HB] <;> iassumption
  iexact HX
/-- One of the parts of the state as two. -/
theorem part {A B C X R : sProp 𝕄} (hk : iprop(A ∗ B ∗ C ∗ X) ⊢ R) : iprop(A ∗ (B ∗ C) ∗ X) ⊢ R := by
  iintro ⟨HA, ⟨HB, HC⟩, HX⟩
  iapply hk
  isplitl [HA]; · iexact HA
  isplitl [HB]; · iexact HB
  isplitl [HC] <;> iassumption

/-- A part of the state that is there for some contents. -/
theorem some_step {β : Type} {X : β → sProp 𝕄} {A Fr R : sProp 𝕄} (h : ∀ f, iprop(A ∗ X f ∗ Fr) ⊢ R) : iprop(A ∗ (∃ f, X f) ∗ Fr) ⊢ R := by
  iintro ⟨HA, ⟨%f, Hf⟩, HF⟩
  iapply (h f)
  isplitl [HA]; · iexact HA
  isplitl [Hf] <;> iassumption

/-- A load of elements that the device holds. -/
theorem load_step (c : Dev nD) {α : Type} {Q : α → sProp 𝕄} {A Fr : sProp 𝕄} {cs : CoreSpace} {s : Shape} {e : EltTy} {M : Memref sig .tc cs s e} {r : LoadRect s}
    {hl : M.view.LoadsAt r} {k : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} (hS : M.view.setOn r.set ⊆ S) {w} (hw : M.view.readAt (Elt F) r f = w)
    (hk : iprop(A ∗ (M.view.loc (c : Thread nD τ) ↦[S]{q} f) ∗ Fr) ⊢ W c (k w) Q) :
    iprop(A ∗ (M.view.loc (c : Thread nD τ) ↦[S]{q} f) ∗ Fr) ⊢ W c (.op (.load M r hl) k) Q := by
  subst hw
  iintro ⟨HA, Hp, HF⟩
  iapply (wp_load 𝒱₀ (c : Thread nD τ) none Set.univ (m := M) hS) $$ Hp; iintro Hp
  iapply hk
  isplitl [HA]; · iexact HA
  isplitl [Hp] <;> iassumption

/-- A store to elements that the device holds. -/
theorem store_step (c : Dev nD) {α : Type} {Q : α → sProp 𝕄} {A Fr : sProp 𝕄} {cs : CoreSpace} {s : Shape} {e : EltTy} {M : Memref sig .tc cs s e} {r : Rect s} {w : r.shape.Idx → Elt F e}
    {hx : (M.access r).Stores Finset.univ} {hm} {k : PUnit → Prog (TpuEff nD τ sig (Elt F) Λ₀ .tc) α} {S : Finset (Idx ((M.access r).loc (c : Thread nD τ)))}
    {f g : Buf (Elt F) ((M.access r).loc (c : Thread nD τ))} (hS : (M.access r).setOn Finset.univ ⊆ S) (hw : ∀ i ∈ S, (M.access r).write (Elt F) f w Finset.univ i = g i)
    (hk : iprop(A ∗ ((M.access r).loc (c : Thread nD τ) ↦[S]{fullShare} g) ∗ Fr) ⊢ W c (k ⟨⟩) Q) :
    iprop(A ∗ ((M.access r).loc (c : Thread nD τ) ↦[S]{fullShare} f) ∗ Fr) ⊢ W c (.op (.store M r w Finset.univ hx hm) k) Q := by
  iintro ⟨HA, Hp, HF⟩
  iapply (wp_store 𝒱₀ (c : Thread nD τ) none Set.univ (m := M) hS) $$ Hp; iintro Hp
  iapply hk
  isplitl [HA]; · iexact HA
  isplitl [Hp]
  · ihave Hp := (Entails.of_eq (pointsTo_congr hw)) $$ Hp
    iexact Hp
  iexact HF

/-- The device's blocks of the inputs that arrive whole. -/
def XSt (c : Dev nD) : sProp 𝕄 :=
  iprop((((c : Thread nD τ).loc cc0_stg0_0) ↦[Finset.univ]{fullShare} xstg m ρ c) ∗ (((c : Thread nD τ).loc cc0_stg1_0) ↦[Finset.univ]{fullShare} wqstg m ρ c)
    ∗ (((c : Thread nD τ).loc cc0_stg2_0) ↦[Finset.univ]{fullShare} wostg m ρ c))

theorem load_x (c : Dev nD) {α : Type} {Q : α → sProp 𝕄} {A : sProp 𝕄} (Fr : sProp 𝕄) {inb : ∀ a, (![0, 0, 0] : Fin 3 → ℕ) a + S2x512x768.size a ≤ S2x512x768.size a} {hl : xM.view.LoadsAt (Rect.unit (s := S2x512x768) (![0, 0, 0] : Fin 3 → ℕ) S2x512x768.size inb).toLoadRect} {k : (S2x512x768.Idx → Elt F .f32) → Prog (TpuEff nD τ sig (Elt F) Λ₀ .tc) α} (hk : iprop(A ∗ XSt m ρ c ∗ Fr) ⊢ W c (k (inp m ρ c).x) Q) :
    iprop(A ∗ XSt m ρ c ∗ Fr) ⊢ W c (.op (.load xM (Rect.unit (s := S2x512x768) ![0, 0, 0] S2x512x768.size inb).toLoadRect hl) k) Q := by
  exact part (load_step c (M := xM) (Finset.subset_univ _) (read_x (xstg m ρ c)) (join hk))
theorem load_wq (c : Dev nD) {α : Type} {Q : α → sProp 𝕄} {A : sProp 𝕄} (Fr : sProp 𝕄) {inb : ∀ a, (![0, 0] : Fin 2 → ℕ) a + S768x512.size a ≤ S768x512.size a} {hl : wqM.view.LoadsAt (Rect.unit (s := S768x512) (![0, 0] : Fin 2 → ℕ) S768x512.size inb).toLoadRect} {k : (S768x512.Idx → Elt F .f32) → Prog (TpuEff nD τ sig (Elt F) Λ₀ .tc) α} (hk : iprop(A ∗ XSt m ρ c ∗ Fr) ⊢ W c (k (inp m ρ c).wq) Q) :
    iprop(A ∗ XSt m ρ c ∗ Fr) ⊢ W c (.op (.load wqM (Rect.unit (s := S768x512) ![0, 0] S768x512.size inb).toLoadRect hl) k) Q := by
  exact part (turn (part (load_step c (M := wqM) (Finset.subset_univ _) (read_wq (wqstg m ρ c)) (join (turn (join hk))))))
theorem load_wo (c : Dev nD) {α : Type} {Q : α → sProp 𝕄} {A : sProp 𝕄} (Fr : sProp 𝕄) {inb : ∀ a, (![0, 0] : Fin 2 → ℕ) a + S512x768.size a ≤ S512x768.size a} {hl : woM.view.LoadsAt (Rect.unit (s := S512x768) (![0, 0] : Fin 2 → ℕ) S512x768.size inb).toLoadRect} {k : (S512x768.Idx → Elt F .f32) → Prog (TpuEff nD τ sig (Elt F) Λ₀ .tc) α} (hk : iprop(A ∗ XSt m ρ c ∗ Fr) ⊢ W c (k (inp m ρ c).wo) Q) :
    iprop(A ∗ XSt m ρ c ∗ Fr) ⊢ W c (.op (.load woM (Rect.unit (s := S512x768) ![0, 0] S512x768.size inb).toLoadRect hl) k) Q := by
  exact part (turn (part (turn (load_step c (M := woM) (Finset.subset_univ _) (read_wo (wostg m ρ c)) (turn (join (turn (join hk))))))))
theorem load_k (c : Dev nD) {α : Type} {Q : α → sProp 𝕄} {A : sProp 𝕄} (Fr : sProp 𝕄) (b : Fin 2) (h : Fin 8) {off : Fin 4 → ℕ} {inb : ∀ a, off a + S1x1x512x64.size a ≤ S2x8x512x64.size a} (ho : off = ![b.val, h.val, 0, 0]) {hl : kM.view.LoadsAt (Rect.unit (s := S2x8x512x64) off S1x1x512x64.size inb).toLoadRect} {k : (S1x1x512x64.Idx → Elt F .f32) → Prog (TpuEff nD τ sig (Elt F) Λ₀ .tc) α}
    (hk : iprop(A ∗ KV m c ∗ Fr) ⊢ W c (k (slot (inp m ρ c).kb b h)) Q) :
    iprop(A ∗ KV m c ∗ Fr) ⊢ W c (.op (.load kM (Rect.unit (s := S2x8x512x64) off S1x1x512x64.size inb).toLoadRect hl) k) Q := by
  exact part (load_step c (M := kM) (Finset.subset_univ _) (read_k m ρ c b h ho) (join hk))
theorem load_v (c : Dev nD) {α : Type} {Q : α → sProp 𝕄} {A : sProp 𝕄} (Fr : sProp 𝕄) (b : Fin 2) (h : Fin 8) {off : Fin 4 → ℕ} {inb : ∀ a, off a + S1x1x512x64.size a ≤ S2x8x512x64.size a} (ho : off = ![b.val, h.val, 0, 0]) {hl : vM.view.LoadsAt (Rect.unit (s := S2x8x512x64) off S1x1x512x64.size inb).toLoadRect} {k : (S1x1x512x64.Idx → Elt F .f32) → Prog (TpuEff nD τ sig (Elt F) Λ₀ .tc) α}
    (hk : iprop(A ∗ KV m c ∗ Fr) ⊢ W c (k (slot (inp m ρ c).vb b h)) Q) :
    iprop(A ∗ KV m c ∗ Fr) ⊢ W c (.op (.load vM (Rect.unit (s := S2x8x512x64) off S1x1x512x64.size inb).toLoadRect hl) k) Q := by
  exact part (turn (load_step c (M := vM) (Finset.subset_univ _) (read_v m ρ c b h ho) (turn (join hk))))

/-- Half of the scratch rows, at any contents; and at the device's partial results. -/
def HalfSt (c : Dev nD) (b : Fin 2) : sProp 𝕄 := iprop(∃ f, ((c : Thread nD τ).loc cc0_scratch0) ↦[halfSet b]{fullShare} f)
def HalfP (c : Dev nD) (b : Fin 2) : sProp 𝕄 := iprop(((c : Thread nD τ).loc cc0_scratch0) ↦[halfSet b]{fullShare} P m ρ c)

theorem half_sub {off inb} (b : Fin 2) (h : off = ![512 * b.val, 0]) : pM.view.setOn (Rect.unit (s := S1024x768) off S512x768.size inb).toLoadRect.set ⊆ halfSet b := fun i hi => by
  rw [← half_rect (inb := inb) b h]
  obtain ⟨x, hx, rfl⟩ := Finset.mem_map.mp hi
  exact hx
theorem half_sub' {off inb} (b : Fin 2) (h : off = ![512 * b.val, 0]) : (pM.access (Rect.unit (s := S1024x768) off S512x768.size inb) : View sig .tc _ _ _).setOn Finset.univ ⊆ halfSet b := fun i hi => by
  rw [← half_rect (inb := inb) b h, ← Rect.map_emb_univ]
  exact hi

/-- The load of a half before the store to it. -/
theorem half_load (c : Dev nD) {α : Type} {Q : α → sProp 𝕄} {A : sProp 𝕄} (Fr : sProp 𝕄) (b : Fin 2) {off : Fin 2 → ℕ} {inb : ∀ a, off a + S512x768.size a ≤ S1024x768.size a} (ho : off = ![512 * b.val, 0])
    {hl : pM.view.LoadsAt (Rect.unit (s := S1024x768) off S512x768.size inb).toLoadRect} {k : (S512x768.Idx → Elt F .bf16) → Prog (TpuEff nD τ sig (Elt F) Λ₀ .tc) α}
    (hk : ∀ v, iprop(A ∗ HalfSt (F := F) c b ∗ Fr) ⊢ W c (k v) Q) :
    iprop(A ∗ HalfSt (F := F) c b ∗ Fr) ⊢ W c (.op (.load pM (Rect.unit (s := S1024x768) off S512x768.size inb).toLoadRect hl) k) Q := by
  refine some_step fun f => ?_
  refine load_step c (M := pM) (f := f) (half_sub b ho) rfl ?_
  iintro ⟨HA, Hp, HF⟩
  iapply (hk _)
  isplitl [HA]; · iexact HA
  isplitl [Hp]
  · unfold HalfSt; iexists f; iexact Hp
  iexact HF

/-- The store of one half of the partial results. -/
theorem half_store (c : Dev nD) {α : Type} {Q : α → sProp 𝕄} {A : sProp 𝕄} (Fr : sProp 𝕄) (b : Fin 2) {off : Fin 2 → ℕ} {inb : ∀ a, off a + S512x768.size a ≤ S1024x768.size a} (ho : off = ![512 * b.val, 0])
    {w : (Rect.unit (s := S1024x768) off S512x768.size inb).shape.Idx → Elt F .bf16} {hx : (pM.access (Rect.unit (s := S1024x768) off S512x768.size inb)).Stores Finset.univ}
    {hm : (Finset.univ : Finset (Rect.unit (s := S1024x768) off S512x768.size inb).shape.Idx) = Finset.univ ∨ ∀ a, (Rect.unit (s := S1024x768) off S512x768.size inb).stride a = 1}
    {k : PUnit → Prog (TpuEff nD τ sig (Elt F) Λ₀ .tc) α}
    (hw : ∀ f : (cc0_scratch0 : Ref sig .tc).ty.Contents (Elt F), ∀ i ∈ halfSet b, (pM.access (Rect.unit (s := S1024x768) off S512x768.size inb) : View sig .tc _ _ _).write (Elt F) f w Finset.univ i = P m ρ c i)
    (hk : iprop(A ∗ HalfP m ρ c b ∗ Fr) ⊢ W c (k ⟨⟩) Q) :
    iprop(A ∗ HalfSt (F := F) c b ∗ Fr) ⊢ W c (.op (.store pM (Rect.unit (s := S1024x768) off S512x768.size inb) w Finset.univ hx hm) k) Q := by
  refine some_step fun f => ?_
  have e : (((c : Thread nD τ).loc cc0_scratch0) ↦[halfSet b]{fullShare} ((pM.access (Rect.unit (s := S1024x768) off S512x768.size inb) : View sig .tc _ _ _).write (Elt F) f w Finset.univ) : sProp 𝕄) = HalfP m ρ c b :=
    pointsTo_congr (hw f)
  iintro ⟨HA, Hp, HF⟩
  iapply (wp_store 𝒱₀ (c : Thread nD τ) none Set.univ (m := pM) (r := Rect.unit (s := S1024x768) off S512x768.size inb) (Mk := Finset.univ) (half_sub' b ho)) $$ Hp; iintro Hp
  ihave Hp := (Entails.of_eq e) $$ Hp
  iapply hk
  isplitl [HA]; · iexact HA
  isplitl [Hp] <;> iassumption

/-! ## The total of a device's own rows -/

theorem row_sub {off inb} (c : Dev nD) (h : off = ![32 * c.val, 0]) : pM.view.setOn (Rect.unit (s := S1024x768) off S32x768.size inb).toLoadRect.set ⊆ rowSet c := fun i hi => by
  rw [← set_prow (inb := inb) c h]
  refine Eq.mp (congrArg (i ∈ ·) (View.set_slice_whole cc0_scratch0 _).symm) ?_
  obtain ⟨x, hx, rfl⟩ := Finset.mem_map.mp hi
  exact hx
theorem row_sub' {off inb} (c : Dev nD) (h : off = ![32 * c.val, 0]) : (pM.access (Rect.unit (s := S1024x768) off S32x768.size inb) : View sig .tc _ _ _).setOn Finset.univ ⊆ rowSet c := fun i hi => by
  rw [← set_prow (inb := inb) c h]
  exact hi
theorem recv_sub {inb} : rM.view.setOn (Rect.unit (s := S32x32x768) ![1, 0, 0] S31x32x768.size inb).toLoadRect.set ⊆ recvSet := fun i hi => by
  obtain ⟨x, hx, rfl⟩ := Finset.mem_map.mp hi
  have h := (mem_rect3 (d := ![32, 32, 768])).mp hx
  have h0 : 1 ≤ (x 0).val := h.1.1
  exact Finset.mem_biUnion.mpr ⟨x 0, Finset.mem_erase.mpr ⟨fun e => by rw [show (x 0).val = 0 from congrArg Fin.val e] at h0; omega, Finset.mem_univ _⟩,
    Finset.mem_filter.mpr ⟨Finset.mem_univ _, rfl⟩⟩

theorem load_row (c : Dev nD) {α : Type} {Q : α → sProp 𝕄} {A : sProp 𝕄} (Fr : sProp 𝕄) {off : Fin 2 → ℕ} {inb : ∀ a, off a + S32x768.size a ≤ S1024x768.size a} (ho : off = ![32 * c.val, 0])
    {hl : pM.view.LoadsAt (Rect.unit (s := S1024x768) off S32x768.size inb).toLoadRect} {k : (S32x768.Idx → Elt F .bf16) → Prog (TpuEff nD τ sig (Elt F) Λ₀ .tc) α}
    (hk : iprop(A ∗ rowPts c c fullShare (P m ρ c) ∗ Fr) ⊢ W c (k (chunk m ρ c c)) Q) :
    iprop(A ∗ rowPts c c fullShare (P m ρ c) ∗ Fr) ⊢ W c (.op (.load pM (Rect.unit (s := S1024x768) off S32x768.size inb).toLoadRect hl) k) Q :=
  load_step c (M := pM) (f := P m ρ c) (row_sub c ho) (read_chunk m ρ c c ho) hk

theorem load_recv (c : Dev nD) {α : Type} {Q : α → sProp 𝕄} {A : sProp 𝕄} (Fr : sProp 𝕄) {inb : ∀ a, (![1, 0, 0] : Fin 3 → ℕ) a + S31x32x768.size a ≤ S32x32x768.size a}
    {hl : rM.view.LoadsAt (Rect.unit (s := S32x32x768) ![1, 0, 0] S31x32x768.size inb).toLoadRect} {k : (S31x32x768.Idx → Elt F .bf16) → Prog (TpuEff nD τ sig (Elt F) Λ₀ .tc) α}
    (hk : iprop(A ∗ (((c : Thread nD τ).loc cc0_scratch3) ↦[recvSet]{fullShare} R m ρ c) ∗ Fr) ⊢ W c (k (fun i : S31x32x768.Idx => R m ρ c (ix3 ⟨(i 0).val + 1, by have : (i 0).val < 31 := (i 0).isLt; omega⟩ (i 1) (i 2) : S32x32x768.Idx))) Q) :
    iprop(A ∗ (((c : Thread nD τ).loc cc0_scratch3) ↦[recvSet]{fullShare} R m ρ c) ∗ Fr) ⊢ W c (.op (.load rM (Rect.unit (s := S32x32x768) ![1, 0, 0] S31x32x768.size inb).toLoadRect hl) k) Q :=
  load_step c (M := rM) (f := R m ρ c) recv_sub (read_recv m ρ c) hk

theorem tot_store (c : Dev nD) {α : Type} {Q : α → sProp 𝕄} {A : sProp 𝕄} (Fr : sProp 𝕄) {off : Fin 2 → ℕ} {inb : ∀ a, off a + S32x768.size a ≤ S1024x768.size a} (ho : off = ![32 * c.val, 0])
    {hx : (pM.access (Rect.unit (s := S1024x768) off S32x768.size inb)).Stores Finset.univ}
    {hm : (Finset.univ : Finset (Rect.unit (s := S1024x768) off S32x768.size inb).shape.Idx) = Finset.univ ∨ ∀ a, (Rect.unit (s := S1024x768) off S32x768.size inb).stride a = 1}
    {k : PUnit → Prog (TpuEff nD τ sig (Elt F) Λ₀ .tc) α}
    (hk : iprop(A ∗ rowPts c c fullShare (T m ρ) ∗ Fr) ⊢ W c (k ⟨⟩) Q) :
    iprop(A ∗ rowPts c c fullShare (P m ρ c) ∗ Fr) ⊢ W c (.op (.store pM (Rect.unit (s := S1024x768) off S32x768.size inb) (tot m ρ c) Finset.univ hx hm) k) Q := by
  have e : (((c : Thread nD τ).loc cc0_scratch0) ↦[rowSet c]{fullShare} ((pM.access (Rect.unit (s := S1024x768) off S32x768.size inb) : View sig .tc _ _ _).write (Elt F) (P m ρ c) (tot m ρ c) Finset.univ) : sProp 𝕄)
      = rowPts c c fullShare (T m ρ) := pointsTo_congr (store_tot m ρ c ho (P m ρ c))
  unfold rowPts
  iintro ⟨HA, Hp, HF⟩
  iapply (wp_store 𝒱₀ (c : Thread nD τ) none Set.univ (m := pM) (r := Rect.unit (s := S1024x768) off S32x768.size inb) (Mk := Finset.univ) (row_sub' c ho)) $$ Hp; iintro Hp
  ihave Hp := (Entails.of_eq e) $$ Hp
  iapply hk
  isplitl [HA]; · iexact HA
  isplitl [Hp] <;> iassumption

/-! ## The result -/

/-- The result's block, at any contents; and finished. -/
def OSt (c : Dev nD) : sProp 𝕄 := iprop(∃ f, ((c : Thread nD τ).loc cc0_stg3_0) ↦[Finset.univ]{fullShare} f)
def OFin (c : Dev nD) : sProp 𝕄 := iprop(((c : Thread nD τ).loc cc0_stg3_0) ↦[Finset.univ]{fullShare} (k0_pay43 (T m ρ) : (cc0_stg3_0 : Ref sig .tc).ty.Contents (Elt F)))

theorem load_all (c : Dev nD) {α : Type} {Q : α → sProp 𝕄} {A : sProp 𝕄} (Fr : sProp 𝕄) {q : PosShare TreeShare} {inb : ∀ a, (![0, 0] : Fin 2 → ℕ) a + S1024x768.size a ≤ S1024x768.size a}
    {hl : pM.view.LoadsAt (Rect.unit (s := S1024x768) ![0, 0] S1024x768.size inb).toLoadRect} {k : (S1024x768.Idx → Elt F .bf16) → Prog (TpuEff nD τ sig (Elt F) Λ₀ .tc) α}
    (hk : iprop(A ∗ (((c : Thread nD τ).loc cc0_scratch0) ↦[Finset.univ]{q} T m ρ) ∗ Fr) ⊢ W c (k (T m ρ)) Q) :
    iprop(A ∗ (((c : Thread nD τ).loc cc0_scratch0) ↦[Finset.univ]{q} T m ρ) ∗ Fr) ⊢ W c (.op (.load pM (Rect.unit (s := S1024x768) ![0, 0] S1024x768.size inb).toLoadRect hl) k) Q :=
  load_step c (M := pM) (f := T m ρ) (Finset.subset_univ _) (read_p (T m ρ)) hk

theorem load_o (c : Dev nD) {α : Type} {Q : α → sProp 𝕄} {A : sProp 𝕄} (Fr : sProp 𝕄) {inb : ∀ a, (![0, 0, 0] : Fin 3 → ℕ) a + S2x512x768.size a ≤ S2x512x768.size a}
    {hl : oM.view.LoadsAt (Rect.unit (s := S2x512x768) ![0, 0, 0] S2x512x768.size inb).toLoadRect} {k : (S2x512x768.Idx → Elt F .f32) → Prog (TpuEff nD τ sig (Elt F) Λ₀ .tc) α}
    (hk : ∀ v, iprop(A ∗ OSt (F := F) c ∗ Fr) ⊢ W c (k v) Q) :
    iprop(A ∗ OSt (F := F) c ∗ Fr) ⊢ W c (.op (.load oM (Rect.unit (s := S2x512x768) ![0, 0, 0] S2x512x768.size inb).toLoadRect hl) k) Q := by
  refine some_step fun f => ?_
  refine load_step c (M := oM) (f := f) (Finset.subset_univ _) rfl ?_
  iintro ⟨HA, Hp, HF⟩
  iapply (hk _)
  isplitl [HA]; · iexact HA
  isplitl [Hp]
  · unfold OSt; iexists f; iexact Hp
  iexact HF

theorem store_o (c : Dev nD) {α : Type} {Q : α → sProp 𝕄} {A : sProp 𝕄} (Fr : sProp 𝕄) {inb : ∀ a, (![0, 0, 0] : Fin 3 → ℕ) a + S2x512x768.size a ≤ S2x512x768.size a}
    {hx : (oM.access (Rect.unit (s := S2x512x768) ![0, 0, 0] S2x512x768.size inb)).Stores Finset.univ}
    {hm : (Finset.univ : Finset (Rect.unit (s := S2x512x768) ![0, 0, 0] S2x512x768.size inb).shape.Idx) = Finset.univ ∨ ∀ a, (Rect.unit (s := S2x512x768) ![0, 0, 0] S2x512x768.size inb).stride a = 1}
    {k : PUnit → Prog (TpuEff nD τ sig (Elt F) Λ₀ .tc) α}
    (hk : iprop(A ∗ OFin m ρ c ∗ Fr) ⊢ W c (k ⟨⟩) Q) :
    iprop(A ∗ OSt (F := F) c ∗ Fr) ⊢ W c (.op (.store oM (Rect.unit (s := S2x512x768) ![0, 0, 0] S2x512x768.size inb) (k0_pay43 (T m ρ)) Finset.univ hx hm) k) Q := by
  refine some_step fun f => ?_
  iintro ⟨HA, Hp, HF⟩
  iapply (wp_store 𝒱₀ (c : Thread nD τ) none Set.univ (m := oM) (r := Rect.unit (s := S2x512x768) ![0, 0, 0] S2x512x768.size inb) (Mk := Finset.univ) (Finset.subset_univ _)) $$ Hp; iintro Hp
  rw [write_o]
  iapply hk
  isplitl [HA]; · iexact HA
  isplitl [Hp]
  · unfold OFin; iexact Hp
  iexact HF

end Cert.K01
-- ==== Proof.Phases.lean ====
module

public import proofs.«01_k».proof.Proof.Loads

/-! # The states between the parts of the kernel, and how one turns into the next -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- The right to wait for the barrier. -/
def Bar0 (c : Dev nD) : sProp 𝕄 := iprop(Cr c none 31 ∗ At c none 0)
/-- What is held after the barrier. -/
def BarPost (c : Dev nD) : sProp 𝕄 :=
  iprop(Ow c (oA c 0 + oR c 0) ∗ At c none 1 ∗ bigSep (Finset.univ.erase c) (fun d : Fin 32 => iprop(∃ f, slotPts d (c - d) f)))
/-- What is left of the copies of the pages. -/
def KwPost (c : Dev nD) : sProp 𝕄 := iprop(bigSep Finset.univ (fun i : Fin 32 => At c (some (0, i)) 1) ∗ bigSep Finset.univ (kvSrc m c))

theorem bar_pre (c : Dev nD) {A Fr R : sProp 𝕄}
    (hk : iprop(A ∗ (Ow c (oA c 0 + oR c 0) ∗ Cr c none 31 ∗ At c none 0) ∗ KwPost m c ∗ KV m c ∗ Fr) ⊢ R) :
    iprop(A ∗ KwSt m c 32 ∗ Bar0 c ∗ Fr) ⊢ R := by
  iintro ⟨HA, Hw, Hb, HF⟩
  ihave Hw := (kw_end m c) $$ Hw
  icases Hw with ⟨HO, Hp, HK⟩
  iapply hk
  isplitl [HA]; · iexact HA
  isplitl [HO Hb]
  · unfold Bar0
    isplitl [HO] <;> iassumption
  isplitl [Hp]
  · unfold KwPost; iexact Hp
  isplitl [HK] <;> iassumption

theorem bar_post (c : Dev nD) {A Fr R : sProp 𝕄} (hk : iprop(A ∗ KV m c ∗ (BarPost c ∗ KwPost m c) ∗ Fr) ⊢ R) :
    iprop(A ∗ BarPost c ∗ KwPost m c ∗ KV m c ∗ Fr) ⊢ R := by
  iintro ⟨HA, HB, Hw, HK, HF⟩
  iapply hk
  isplitl [HA]; · iexact HA
  isplitl [HK]; · iexact HK
  isplitr [HF]
  · isplitl [HB] <;> iassumption
  iexact HF

/-- What the sends of the rows of `S` need besides the rows. -/
def RsIn (S : Finset (Fin 32)) (c : Dev nD) (n : ℕ) : sProp 𝕄 := iprop(Ow c (oA c 0 + oR c n) ∗ bigSep S (rsPre (F := F) c))

theorem half_rows (c : Dev nD) (b : Fin 2) (S : Finset (Fin 32)) (n : ℕ) (h : ∀ i ∈ S, ¬ i.val < n) (hS : S.biUnion rowSet = halfSet b) :
    iprop(HalfP m ρ c b ∗ RsIn S c n) ⊢ RsSt m ρ S c n := by
  unfold HalfP RsIn
  iintro ⟨Hp, HO, Hs⟩
  iapply (rs_start m ρ c S n h)
  isplitl [HO]; · iexact HO
  isplitl [Hp]
  · iapply (Entails.of_eq (rowPts_union c S hS fullShare (P m ρ c)).symm)
    iexact Hp
  iexact Hs

theorem rs_pre (c : Dev nD) (b : Fin 2) (S : Finset (Fin 32)) (n : ℕ) (h : ∀ i ∈ S, ¬ i.val < n) (hS : S.biUnion rowSet = halfSet b) {A B Fr R' : sProp 𝕄}
    (hk : iprop(A ∗ RsSt m ρ S c n ∗ B ∗ Fr) ⊢ R') : iprop(A ∗ HalfP m ρ c b ∗ B ∗ RsIn S c n ∗ Fr) ⊢ R' := by
  iintro ⟨HA, Hp, HB, Hs, HF⟩
  ihave Hs := (half_rows m ρ c b S n h hS) $$ [Hp Hs]
  · isplitl [Hp] <;> iassumption
  iapply hk
  isplitl [HA]; · iexact HA
  isplitl [Hs]; · iexact Hs
  isplitl [HB] <;> iassumption

/-- What the device needs to send its total, besides the other devices' rows. -/
def TotIn (c : Dev nD) : sProp 𝕄 := iprop(rowPts c c fullShare (P m ρ c) ∗ asTok (F := F) c)
/-- What is left of the first exchange while the totals are sent. -/
def TotPost (c : Dev nD) : sProp 𝕄 :=
  iprop(bigSep (others 0) (fun j => At c (some (2, j)) 1) ∗ (((c : Thread nD τ).loc cc0_scratch3) ↦[recvSet]{fullShare} R m ρ c)
    ∗ rowPts c c fullShare.right (T m ρ) ∗ rowPts c c (leaf 5 fullShare.left c) (T m ρ))

theorem tot_pre (c : Dev nD) {A Fr R' : sProp 𝕄}
    (hk : iprop(A ∗ rowPts c c fullShare (P m ρ c) ∗ (((c : Thread nD τ).loc cc0_scratch3) ↦[recvSet]{fullShare} R m ρ c)
        ∗ (Ow c (oA c 0) ∗ bigSep (others 0) (fun j => At c (some (2, j)) 1) ∗ bigSep (others c) (fun d => iprop(∃ f, rowPts d c fullShare f)) ∗ asTok (F := F) c) ∗ Fr) ⊢ R') :
    iprop(A ∗ RwSt m ρ c 32 ∗ TotIn m ρ c ∗ Fr) ⊢ R' := by
  unfold TotIn
  iintro ⟨HA, Hw, ⟨Hp, Ht⟩, HF⟩
  ihave Hw := (rw_end m ρ c) $$ Hw
  icases Hw with ⟨HO, Ha, Hr, Hd⟩
  iapply hk
  isplitl [HA]; · iexact HA
  isplitl [Hp]; · iexact Hp
  isplitl [Hr]; · iexact Hr
  isplitr [HF]
  · isplitl [HO]; · iexact HO
    isplitl [Ha]; · iexact Ha
    isplitl [Hd] <;> iassumption
  iexact HF

theorem tot_post (c : Dev nD) {A Fr R' : sProp 𝕄} (hk : iprop(A ∗ AsSt m ρ c 0 ∗ TotPost m ρ c ∗ Fr) ⊢ R') :
    iprop(A ∗ rowPts c c fullShare (T m ρ) ∗ (((c : Thread nD τ).loc cc0_scratch3) ↦[recvSet]{fullShare} R m ρ c)
        ∗ (Ow c (oA c 0) ∗ bigSep (others 0) (fun j => At c (some (2, j)) 1) ∗ bigSep (others c) (fun d => iprop(∃ f, rowPts d c fullShare f)) ∗ asTok (F := F) c) ∗ Fr) ⊢ R' := by
  iintro ⟨HA, Hp, Hr, ⟨HO, Ha, Hd, Ht⟩, HF⟩
  ihave Hs := (as_start m ρ c) $$ [HO Hp Hd Ht]
  · isplitl [HO]; · iexact HO
    isplitl [Hp]; · iexact Hp
    isplitl [Hd] <;> iassumption
  icases Hs with ⟨Hs, H1, H2⟩
  iapply hk
  isplitl [HA]; · iexact HA
  isplitl [Hs]; · iexact Hs
  isplitr [HF]
  · unfold TotPost
    isplitl [Ha]; · iexact Ha
    isplitl [Hr]; · iexact Hr
    isplitl [H1] <;> iassumption
  iexact HF

/-- The rights to wait for what the device has sent in the first exchange, and in the second. -/
def SentR (c : Dev nD) : sProp 𝕄 := bigSep (others c) (fun d => Cr c (some (1, d)) Nx)
def SentA (c : Dev nD) : sProp 𝕄 := bigSep (others c) (fun d => Cr c (some (3, d)) Nx)

theorem aw_pre (c : Dev nD) {A Fr R' : sProp 𝕄} (hk : iprop(A ∗ AwSt m ρ c 0 ∗ SentA (F := F) c ∗ Fr) ⊢ R') :
    iprop(A ∗ AsSt m ρ c 32 ∗ bigSep Finset.univ (awA (F := F) c) ∗ Fr) ⊢ R' := by
  iintro ⟨HA, Hs, Hw, HF⟩
  ihave Hs := (as_end m ρ c) $$ Hs
  icases Hs with ⟨HO, Hs⟩
  iapply hk
  isplitl [HA]; · iexact HA
  isplitl [HO Hw]
  · iapply (aw_start m ρ c)
    isplitl [HO] <;> iassumption
  isplitl [Hs]
  · unfold SentA; iexact Hs
  iexact HF

/-- What the last waits need. -/
def FwIn (c : Dev nD) : sProp 𝕄 := iprop(SentR (F := F) c ∗ SentA c ∗ fwAt c 0)
/-- What is left of the second exchange. -/
def AwPost (c : Dev nD) : sProp 𝕄 :=
  iprop(bigSep (others c) (fun j => At c (some (4, j)) 1) ∗ (((c : Thread nD τ).loc cc0_scratch0) ↦[Finset.univ]{fullShare.right} T m ρ)
    ∗ bigSep (others c) (fun j => rowPts c j fullShare.left (T m ρ)))

theorem aw_post (c : Dev nD) {A Fr R' : sProp 𝕄}
    (hk : iprop(A ∗ (((c : Thread nD τ).loc cc0_scratch0) ↦[Finset.univ]{fullShare.right} T m ρ) ∗ OSt (F := F) c
        ∗ (Ow c 0 ∗ FwIn (F := F) c) ∗ (bigSep (others c) (fun j => At c (some (4, j)) 1) ∗ bigSep (others c) (fun j => rowPts c j fullShare.left (T m ρ))) ∗ Fr) ⊢ R') :
    iprop(A ∗ AwSt m ρ c 32 ∗ (rowPts c c fullShare.right (T m ρ) ∗ OSt (F := F) c ∗ FwIn (F := F) c) ∗ Fr) ⊢ R' := by
  iintro ⟨HA, Hw, ⟨Hp, Ho, Hf⟩, HF⟩
  ihave Hw := (aw_end m ρ c) $$ [Hw Hp]
  · isplitl [Hw] <;> iassumption
  icases Hw with ⟨HO, Ha, Hs, Hl⟩
  iapply hk
  isplitl [HA]; · iexact HA
  isplitl [Hs]; · iexact Hs
  isplitl [Ho]; · iexact Ho
  isplitl [HO Hf]
  · isplitl [HO] <;> iassumption
  isplitr [HF]
  · isplitl [Ha] <;> iassumption
  iexact HF

theorem fw_pre (c : Dev nD) {A Fr R' : sProp 𝕄} (hk : iprop(A ∗ FwSt m ρ c 0 ∗ (OFin m ρ c ∗ AwPost m ρ c) ∗ Fr) ⊢ R') :
    iprop(A ∗ OFin m ρ c ∗ (((c : Thread nD τ).loc cc0_scratch0) ↦[Finset.univ]{fullShare.right} T m ρ)
        ∗ (Ow c 0 ∗ FwIn (F := F) c) ∗ (bigSep (others c) (fun j => At c (some (4, j)) 1) ∗ bigSep (others c) (fun j => rowPts c j fullShare.left (T m ρ))) ∗ Fr) ⊢ R' := by
  unfold FwIn SentR SentA
  iintro ⟨HA, Ho, Hs, ⟨HO, Hf⟩, ⟨Ha, Hl⟩, HF⟩
  iapply hk
  isplitl [HA]; · iexact HA
  isplitl [HO Hf]
  · iapply (fw_start m ρ c)
    isplitl [HO] <;> iassumption
  isplitr [HF]
  · isplitl [Ho]; · iexact Ho
    unfold AwPost
    isplitl [Ha]; · iexact Ha
    isplitl [Hs] <;> iassumption
  iexact HF

end Cert.K01
-- ==== Proof.PartsA.lean ====
module

public import proofs.«01_k».proof.Proof.Phases

/-! # Parts 1 to 18 of the kernel: the signals and the copies of the pages -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- Part 1: the signals to the next five devices. -/
theorem part1 (c : Dev nD) {α : Type} {Q : α → sProp 𝕄} {k : _ → Prog (TpuEff nD τ sig (Elt F) Λ₀ .tc) α} (Fr : sProp 𝕄)
    (hk : ∀ x y, iprop(Ctx m ρ K ∗ SigSt c 6 ∗ Fr) ⊢ W c (k ⟨c, own c, SemArray.scalar barS, x, y⟩) Q) :
    iprop(Ctx m ρ K ∗ SigSt c 1 ∗ Fr) ⊢ W c (k0_part1 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 >>= k) Q := by
  rw [k0_part1_eq_skeleton]
  unfold k0_part1_skel
  simp only [semSignalWord, semWaitWord, Prog.lift, Prog.bind_assoc, Prog.bind_op, Prog.bind_ret, Prog.pure_eq_ret, W, wp_deviceId]
  refine sig_step m ρ K c rfl 1 (by decide) (by decide) (Fin.ext (k0_dev1_eq c)) _ ?_
  refine sig_step m ρ K c rfl 2 (by decide) (by decide) (Fin.ext (k0_dev2_eq c)) _ ?_
  refine sig_step m ρ K c rfl 3 (by decide) (by decide) (Fin.ext (k0_dev3_eq c)) _ ?_
  refine sig_step m ρ K c rfl 4 (by decide) (by decide) (Fin.ext (k0_dev4_eq c)) _ ?_
  refine sig_step m ρ K c rfl 5 (by decide) (by decide) (Fin.ext (k0_dev5_eq c)) _ ?_
  exact hk _ _

/-- Part 2: the signals to the devices 6 to 11 places on. -/
theorem part2 (c : Dev nD) {α : Type} {Q : α → sProp 𝕄} {k : _ → Prog (TpuEff nD τ sig (Elt F) Λ₀ .tc) α} (x y) (Fr : sProp 𝕄)
    (hk : ∀ x y, iprop(Ctx m ρ K ∗ SigSt c 12 ∗ Fr) ⊢ W c (k ⟨x, y⟩) Q) :
    iprop(Ctx m ρ K ∗ SigSt c 6 ∗ Fr) ⊢ W c (k0_part2 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) x y >>= k) Q := by
  rw [k0_part2_eq_skeleton]
  unfold k0_part2_skel
  simp only [semSignalWord, semWaitWord, Prog.lift, Prog.bind_assoc, Prog.bind_op, Prog.bind_ret, Prog.pure_eq_ret]
  refine sig_step m ρ K c rfl 6 (by decide) (by decide) (Fin.ext (k0_dev6_eq c)) _ ?_
  refine sig_step m ρ K c rfl 7 (by decide) (by decide) (Fin.ext (k0_dev7_eq c)) _ ?_
  refine sig_step m ρ K c rfl 8 (by decide) (by decide) (Fin.ext (k0_dev8_eq c)) _ ?_
  refine sig_step m ρ K c rfl 9 (by decide) (by decide) (Fin.ext (k0_dev9_eq c)) _ ?_
  refine sig_step m ρ K c rfl 10 (by decide) (by decide) (Fin.ext (k0_dev10_eq c)) _ ?_
  refine sig_step m ρ K c rfl 11 (by decide) (by decide) (Fin.ext (k0_dev11_eq c)) _ ?_
  exact hk _ _

/-- Part 3: the signals to the devices 12 to 17 places on. -/
theorem part3 (c : Dev nD) {α : Type} {Q : α → sProp 𝕄} {k : _ → Prog (TpuEff nD τ sig (Elt F) Λ₀ .tc) α} (x y) (Fr : sProp 𝕄)
    (hk : ∀ x y, iprop(Ctx m ρ K ∗ SigSt c 18 ∗ Fr) ⊢ W c (k ⟨x, y⟩) Q) :
    iprop(Ctx m ρ K ∗ SigSt c 12 ∗ Fr) ⊢ W c (k0_part3 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) x y >>= k) Q := by
  rw [k0_part3_eq_skeleton]
  unfold k0_part3_skel
  simp only [semSignalWord, semWaitWord, Prog.lift, Prog.bind_assoc, Prog.bind_op, Prog.bind_ret, Prog.pure_eq_ret]
  refine sig_step m ρ K c rfl 12 (by decide) (by decide) (Fin.ext (k0_dev12_eq c)) _ ?_
  refine sig_step m ρ K c rfl 13 (by decide) (by decide) (Fin.ext (k0_dev13_eq c)) _ ?_
  refine sig_step m ρ K c rfl 14 (by decide) (by decide) (Fin.ext (k0_dev14_eq c)) _ ?_
  refine sig_step m ρ K c rfl 15 (by decide) (by decide) (Fin.ext (k0_dev15_eq c)) _ ?_
  refine sig_step m ρ K c rfl 16 (by decide) (by decide) (Fin.ext (k0_dev16_eq c)) _ ?_
  refine sig_step m ρ K c rfl 17 (by decide) (by decide) (Fin.ext (k0_dev17_eq c)) _ ?_
  exact hk _ _

/-- Part 4: the signals to the devices 18 to 23 places on. -/
theorem part4 (c : Dev nD) {α : Type} {Q : α → sProp 𝕄} {k : _ → Prog (TpuEff nD τ sig (Elt F) Λ₀ .tc) α} (x y) (Fr : sProp 𝕄)
    (hk : ∀ x y, iprop(Ctx m ρ K ∗ SigSt c 24 ∗ Fr) ⊢ W c (k ⟨x, y⟩) Q) :
    iprop(Ctx m ρ K ∗ SigSt c 18 ∗ Fr) ⊢ W c (k0_part4 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) x y >>= k) Q := by
  rw [k0_part4_eq_skeleton]
  unfold k0_part4_skel
  simp only [semSignalWord, semWaitWord, Prog.lift, Prog.bind_assoc, Prog.bind_op, Prog.bind_ret, Prog.pure_eq_ret]
  refine sig_step m ρ K c rfl 18 (by decide) (by decide) (Fin.ext (k0_dev18_eq c)) _ ?_
  refine sig_step m ρ K c rfl 19 (by decide) (by decide) (Fin.ext (k0_dev19_eq c)) _ ?_
  refine sig_step m ρ K c rfl 20 (by decide) (by decide) (Fin.ext (k0_dev20_eq c)) _ ?_
  refine sig_step m ρ K c rfl 21 (by decide) (by decide) (Fin.ext (k0_dev21_eq c)) _ ?_
  refine sig_step m ρ K c rfl 22 (by decide) (by decide) (Fin.ext (k0_dev22_eq c)) _ ?_
  refine sig_step m ρ K c rfl 23 (by decide) (by decide) (Fin.ext (k0_dev23_eq c)) _ ?_
  exact hk _ _

/-- Part 5: the signals to the devices 24 to 29 places on. -/
theorem part5 (c : Dev nD) {α : Type} {Q : α → sProp 𝕄} {k : _ → Prog (TpuEff nD τ sig (Elt F) Λ₀ .tc) α} (x y) (Fr : sProp 𝕄)
    (hk : ∀ x y, iprop(Ctx m ρ K ∗ SigSt c 30 ∗ Fr) ⊢ W c (k ⟨x, y⟩) Q) :
    iprop(Ctx m ρ K ∗ SigSt c 24 ∗ Fr) ⊢ W c (k0_part5 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) x y >>= k) Q := by
  rw [k0_part5_eq_skeleton]
  unfold k0_part5_skel
  simp only [semSignalWord, semWaitWord, Prog.lift, Prog.bind_assoc, Prog.bind_op, Prog.bind_ret, Prog.pure_eq_ret]
  refine sig_step m ρ K c rfl 24 (by decide) (by decide) (Fin.ext (k0_dev24_eq c)) _ ?_
  refine sig_step m ρ K c rfl 25 (by decide) (by decide) (Fin.ext (k0_dev25_eq c)) _ ?_
  refine sig_step m ρ K c rfl 26 (by decide) (by decide) (Fin.ext (k0_dev26_eq c)) _ ?_
  refine sig_step m ρ K c rfl 27 (by decide) (by decide) (Fin.ext (k0_dev27_eq c)) _ ?_
  refine sig_step m ρ K c rfl 28 (by decide) (by decide) (Fin.ext (k0_dev28_eq c)) _ ?_
  refine sig_step m ρ K c rfl 29 (by decide) (by decide) (Fin.ext (k0_dev29_eq c)) _ ?_
  exact hk _ _

/-- Part 6: the last signals, and the first two copies of the pages. -/
theorem part6 (c : Dev nD) {α : Type} {Q : α → sProp 𝕄} {k : _ → Prog (TpuEff nD τ sig (Elt F) Λ₀ .tc) α} (x y) (Fr : sProp 𝕄)
    (hk : iprop(Ctx m ρ K ∗ SigSt c 32 ∗ KvSt m c 2 ∗ Fr) ⊢ W c (k 8#32) Q) :
    iprop(Ctx m ρ K ∗ SigSt c 30 ∗ KvSt m c 0 ∗ Fr) ⊢ W c (k0_part6 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) x y >>= k) Q := by
  rw [k0_part6_eq_skeleton]
  unfold k0_part6_skel
  simp only [semSignalWord, semWaitWord, Prog.lift, Prog.bind_assoc, Prog.bind_op, Prog.bind_ret, Prog.pure_eq_ret]
  refine sig_step m ρ K c rfl 30 (by decide) (by decide) (Fin.ext (k0_dev30_eq c)) _ ?_
  refine sig_step m ρ K c rfl 31 (by decide) (by decide) (Fin.ext (k0_dev31_eq c)) _ ?_
  refine turn ?_
  refine k_step m ρ K c 0 (by decide) (sem_kv 0 0 0) (k0_off1_eq c 0) rfl _ ?_
  refine k_step m ρ K c 1 (by decide) (sem_kv 0 0 1) (k0_off1_eq c 1) rfl _ ?_
  refine turn ?_
  exact hk

/-- Part 7: copies 2 to 3 of the pages. -/
theorem part7 (c : Dev nD) {α : Type} {Q : α → sProp 𝕄} {k : _ → Prog (TpuEff nD τ sig (Elt F) Λ₀ .tc) α} (Fr : sProp 𝕄)
    (hk : iprop(Ctx m ρ K ∗ KvSt m c 4 ∗ Fr) ⊢ W c (k ⟨⟩) Q) :
    iprop(Ctx m ρ K ∗ KvSt m c 2 ∗ Fr) ⊢ W c (k0_part7 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 8#32 >>= k) Q := by
  rw [k0_part7_eq_skeleton]
  unfold k0_part7_skel
  simp only [Prog.lift, Prog.bind_assoc, Prog.bind_op, Prog.bind_ret, Prog.pure_eq_ret]
  refine k_step m ρ K c 2 (by decide) (sem_kv 0 0 2) (k0_off1_eq c 2) rfl _ ?_
  refine k_step m ρ K c 3 (by decide) (sem_kv 0 0 3) (k0_off1_eq c 3) rfl _ ?_
  exact hk

/-- Part 8: copies 4 to 6 of the pages. -/
theorem part8 (c : Dev nD) {α : Type} {Q : α → sProp 𝕄} {k : _ → Prog (TpuEff nD τ sig (Elt F) Λ₀ .tc) α} (Fr : sProp 𝕄)
    (hk : iprop(Ctx m ρ K ∗ KvSt m c 7 ∗ Fr) ⊢ W c (k ⟨⟩) Q) :
    iprop(Ctx m ρ K ∗ KvSt m c 4 ∗ Fr) ⊢ W c (k0_part8 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part8_eq_skeleton]
  unfold k0_part8_skel
  simp only [Prog.lift, Prog.bind_assoc, Prog.bind_op, Prog.bind_ret, Prog.pure_eq_ret]
  refine k_step m ρ K c 4 (by decide) (sem_kv 0 0 4) (k0_off1_eq c 4) rfl _ ?_
  refine k_step m ρ K c 5 (by decide) (sem_kv 0 0 5) (k0_off1_eq c 5) rfl _ ?_
  refine k_step m ρ K c 6 (by decide) (sem_kv 0 0 6) (k0_off1_eq c 6) rfl _ ?_
  exact hk

/-- Part 9: copies 7 to 9 of the pages. -/
theorem part9 (c : Dev nD) {α : Type} {Q : α → sProp 𝕄} {k : _ → Prog (TpuEff nD τ sig (Elt F) Λ₀ .tc) α} (Fr : sProp 𝕄)
    (hk : iprop(Ctx m ρ K ∗ KvSt m c 10 ∗ Fr) ⊢ W c (k ⟨⟩) Q) :
    iprop(Ctx m ρ K ∗ KvSt m c 7 ∗ Fr) ⊢ W c (k0_part9 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part9_eq_skeleton]
  unfold k0_part9_skel
  simp only [Prog.lift, Prog.bind_assoc, Prog.bind_op, Prog.bind_ret, Prog.pure_eq_ret]
  refine k_step m ρ K c 7 (by decide) (sem_kv 0 0 7) (k0_off1_eq c 7) rfl _ ?_
  refine k_step m ρ K c 8 (by decide) (sem_kv 0 1 0) (k0_off2_eq c 0) rfl _ ?_
  refine k_step m ρ K c 9 (by decide) (sem_kv 0 1 1) (k0_off2_eq c 1) rfl _ ?_
  exact hk

/-- Part 10: copies 10 to 12 of the pages. -/
theorem part10 (c : Dev nD) {α : Type} {Q : α → sProp 𝕄} {k : _ → Prog (TpuEff nD τ sig (Elt F) Λ₀ .tc) α} (Fr : sProp 𝕄)
    (hk : iprop(Ctx m ρ K ∗ KvSt m c 13 ∗ Fr) ⊢ W c (k ⟨⟩) Q) :
    iprop(Ctx m ρ K ∗ KvSt m c 10 ∗ Fr) ⊢ W c (k0_part10 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part10_eq_skeleton]
  unfold k0_part10_skel
  simp only [Prog.lift, Prog.bind_assoc, Prog.bind_op, Prog.bind_ret, Prog.pure_eq_ret]
  refine k_step m ρ K c 10 (by decide) (sem_kv 0 1 2) (k0_off2_eq c 2) rfl _ ?_
  refine k_step m ρ K c 11 (by decide) (sem_kv 0 1 3) (k0_off2_eq c 3) rfl _ ?_
  refine k_step m ρ K c 12 (by decide) (sem_kv 0 1 4) (k0_off2_eq c 4) rfl _ ?_
  exact hk

/-- Part 11: copies 13 to 15 of the pages. -/
theorem part11 (c : Dev nD) {α : Type} {Q : α → sProp 𝕄} {k : _ → Prog (TpuEff nD τ sig (Elt F) Λ₀ .tc) α} (Fr : sProp 𝕄)
    (hk : iprop(Ctx m ρ K ∗ KvSt m c 16 ∗ Fr) ⊢ W c (k ⟨⟩) Q) :
    iprop(Ctx m ρ K ∗ KvSt m c 13 ∗ Fr) ⊢ W c (k0_part11 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part11_eq_skeleton]
  unfold k0_part11_skel
  simp only [Prog.lift, Prog.bind_assoc, Prog.bind_op, Prog.bind_ret, Prog.pure_eq_ret]
  refine k_step m ρ K c 13 (by decide) (sem_kv 0 1 5) (k0_off2_eq c 5) rfl _ ?_
  refine k_step m ρ K c 14 (by decide) (sem_kv 0 1 6) (k0_off2_eq c 6) rfl _ ?_
  refine k_step m ρ K c 15 (by decide) (sem_kv 0 1 7) (k0_off2_eq c 7) rfl _ ?_
  exact hk

/-- Part 12: copies 16 to 18 of the pages. -/
theorem part12 (c : Dev nD) {α : Type} {Q : α → sProp 𝕄} {k : _ → Prog (TpuEff nD τ sig (Elt F) Λ₀ .tc) α} (Fr : sProp 𝕄)
    (hk : iprop(Ctx m ρ K ∗ KvSt m c 19 ∗ Fr) ⊢ W c (k ⟨⟩) Q) :
    iprop(Ctx m ρ K ∗ KvSt m c 16 ∗ Fr) ⊢ W c (k0_part12 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part12_eq_skeleton]
  unfold k0_part12_skel
  simp only [Prog.lift, Prog.bind_assoc, Prog.bind_op, Prog.bind_ret, Prog.pure_eq_ret]
  refine v_step m ρ K c 16 (by decide) (by decide) (sem_kv 1 0 0) (k0_off1_eq c 0) rfl _ ?_
  refine v_step m ρ K c 17 (by decide) (by decide) (sem_kv 1 0 1) (k0_off1_eq c 1) rfl _ ?_
  refine v_step m ρ K c 18 (by decide) (by decide) (sem_kv 1 0 2) (k0_off1_eq c 2) rfl _ ?_
  exact hk

/-- Part 13: copies 19 to 21 of the pages. -/
theorem part13 (c : Dev nD) {α : Type} {Q : α → sProp 𝕄} {k : _ → Prog (TpuEff nD τ sig (Elt F) Λ₀ .tc) α} (Fr : sProp 𝕄)
    (hk : iprop(Ctx m ρ K ∗ KvSt m c 22 ∗ Fr) ⊢ W c (k 8#32) Q) :
    iprop(Ctx m ρ K ∗ KvSt m c 19 ∗ Fr) ⊢ W c (k0_part13 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part13_eq_skeleton]
  unfold k0_part13_skel
  simp only [Prog.lift, Prog.bind_assoc, Prog.bind_op, Prog.bind_ret, Prog.pure_eq_ret]
  refine v_step m ρ K c 19 (by decide) (by decide) (sem_kv 1 0 3) (k0_off1_eq c 3) rfl _ ?_
  refine v_step m ρ K c 20 (by decide) (by decide) (sem_kv 1 0 4) (k0_off1_eq c 4) rfl _ ?_
  refine v_step m ρ K c 21 (by decide) (by decide) (sem_kv 1 0 5) (k0_off1_eq c 5) rfl _ ?_
  exact hk

/-- Part 14: copies 22 to 23 of the pages. -/
theorem part14 (c : Dev nD) {α : Type} {Q : α → sProp 𝕄} {k : _ → Prog (TpuEff nD τ sig (Elt F) Λ₀ .tc) α} (Fr : sProp 𝕄)
    (hk : iprop(Ctx m ρ K ∗ KvSt m c 24 ∗ Fr) ⊢ W c (k ⟨⟩) Q) :
    iprop(Ctx m ρ K ∗ KvSt m c 22 ∗ Fr) ⊢ W c (k0_part14 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 8#32 >>= k) Q := by
  rw [k0_part14_eq_skeleton]
  unfold k0_part14_skel
  simp only [Prog.lift, Prog.bind_assoc, Prog.bind_op, Prog.bind_ret, Prog.pure_eq_ret]
  refine v_step m ρ K c 22 (by decide) (by decide) (sem_kv 1 0 6) (k0_off1_eq c 6) rfl _ ?_
  refine v_step m ρ K c 23 (by decide) (by decide) (sem_kv 1 0 7) (k0_off1_eq c 7) rfl _ ?_
  exact hk

/-- Part 15: copies 24 to 26 of the pages. -/
theorem part15 (c : Dev nD) {α : Type} {Q : α → sProp 𝕄} {k : _ → Prog (TpuEff nD τ sig (Elt F) Λ₀ .tc) α} (Fr : sProp 𝕄)
    (hk : iprop(Ctx m ρ K ∗ KvSt m c 27 ∗ Fr) ⊢ W c (k ⟨⟩) Q) :
    iprop(Ctx m ρ K ∗ KvSt m c 24 ∗ Fr) ⊢ W c (k0_part15 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part15_eq_skeleton]
  unfold k0_part15_skel
  simp only [Prog.lift, Prog.bind_assoc, Prog.bind_op, Prog.bind_ret, Prog.pure_eq_ret]
  refine v_step m ρ K c 24 (by decide) (by decide) (sem_kv 1 1 0) (k0_off2_eq c 0) rfl _ ?_
  refine v_step m ρ K c 25 (by decide) (by decide) (sem_kv 1 1 1) (k0_off2_eq c 1) rfl _ ?_
  refine v_step m ρ K c 26 (by decide) (by decide) (sem_kv 1 1 2) (k0_off2_eq c 2) rfl _ ?_
  exact hk

/-- Part 16: copies 27 to 29 of the pages. -/
theorem part16 (c : Dev nD) {α : Type} {Q : α → sProp 𝕄} {k : _ → Prog (TpuEff nD τ sig (Elt F) Λ₀ .tc) α} (Fr : sProp 𝕄)
    (hk : iprop(Ctx m ρ K ∗ KvSt m c 30 ∗ Fr) ⊢ W c (k ⟨⟩) Q) :
    iprop(Ctx m ρ K ∗ KvSt m c 27 ∗ Fr) ⊢ W c (k0_part16 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part16_eq_skeleton]
  unfold k0_part16_skel
  simp only [Prog.lift, Prog.bind_assoc, Prog.bind_op, Prog.bind_ret, Prog.pure_eq_ret]
  refine v_step m ρ K c 27 (by decide) (by decide) (sem_kv 1 1 3) (k0_off2_eq c 3) rfl _ ?_
  refine v_step m ρ K c 28 (by decide) (by decide) (sem_kv 1 1 4) (k0_off2_eq c 4) rfl _ ?_
  refine v_step m ρ K c 29 (by decide) (by decide) (sem_kv 1 1 5) (k0_off2_eq c 5) rfl _ ?_
  exact hk

/-- Part 17: the last copies of the pages, and the loads of the inputs. -/
theorem part17 (c : Dev nD) {α : Type} {Q : α → sProp 𝕄} {k : _ → Prog (TpuEff nD τ sig (Elt F) Λ₀ .tc) α} (Fr : sProp 𝕄)
    (hk : iprop(Ctx m ρ K ∗ KvSt m c 32 ∗ XSt m ρ c ∗ Fr) ⊢ W c (k ⟨z387 (inp m ρ c), z392 (inp m ρ c), z395 (inp m ρ c), iota .tc S512x512 32 [0] iota_S512x512_d0_w32, k0_pay4⟩) Q) :
    iprop(Ctx m ρ K ∗ KvSt m c 30 ∗ XSt m ρ c ∗ Fr) ⊢ W c (k0_part17 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) >>= k) Q := by
  rw [k0_part17_eq_skeleton]
  unfold k0_part17_skel
  simp only [Prog.lift, Prog.bind_assoc, Prog.bind_op, Prog.bind_ret, Prog.pure_eq_ret]
  refine v_step m ρ K c 30 (by decide) (by decide) (sem_kv 1 1 6) (k0_off2_eq c 6) rfl _ ?_
  refine v_step m ρ K c 31 (by decide) (by decide) (sem_kv 1 1 7) (k0_off2_eq c 7) rfl _ ?_
  refine turn ?_
  refine load_x m ρ c _ ?_
  refine load_wq m ρ c _ ?_
  refine load_wo m ρ c _ ?_
  refine turn ?_
  exact hk

end Cert.K01
-- ==== Proof.PartsB.lean ====
module

public import proofs.«01_k».proof.Proof.Phases

/-! # Parts 18 to 32: the waits for the pages, the barrier, and the heads of the first sequence -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- Part 18: the waits for copies 0 to 2 of the pages. -/
theorem part18 (c : Dev nD) {α : Type} {Q : α → sProp 𝕄} {k : _ → Prog (TpuEff nD τ sig (Elt F) Λ₀ .tc) α} (Fr : sProp 𝕄)
    (hk : iprop(Ctx m ρ K ∗ KwSt m c 3 ∗ Fr) ⊢ W c (k (z407 (inp m ρ c))) Q) :
    iprop(Ctx m ρ K ∗ KwSt m c 0 ∗ Fr) ⊢ W c (k0_part18 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (iota .tc S512x512 32 [0] iota_S512x512_d0_w32) k0_pay4 >>= k) Q := by
  rw [k0_part18_eq_skeleton]
  unfold k0_part18_skel
  simp only [Prog.lift, Prog.bind_assoc, Prog.bind_op, Prog.bind_ret, Prog.pure_eq_ret]
  refine kw_step m ρ K c 0 (by decide) (sem_kv 0 0 0) (by exact rfl) _ ?_
  refine kw_step m ρ K c 1 (by decide) (sem_kv 0 0 1) (by exact rfl) _ ?_
  refine kw_step m ρ K c 2 (by decide) (sem_kv 0 0 2) (by exact rfl) _ ?_
  exact hk

/-- Part 19: the waits for copies 3 to 5 of the pages. -/
theorem part19 (c : Dev nD) {α : Type} {Q : α → sProp 𝕄} {k : _ → Prog (TpuEff nD τ sig (Elt F) Λ₀ .tc) α} (Fr : sProp 𝕄)
    (hk : iprop(Ctx m ρ K ∗ KwSt m c 6 ∗ Fr) ⊢ W c (k ⟨⟩) Q) :
    iprop(Ctx m ρ K ∗ KwSt m c 3 ∗ Fr) ⊢ W c (k0_part19 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part19_eq_skeleton]
  unfold k0_part19_skel
  simp only [Prog.lift, Prog.bind_assoc, Prog.bind_op, Prog.bind_ret, Prog.pure_eq_ret]
  refine kw_step m ρ K c 3 (by decide) (sem_kv 0 0 3) (by exact rfl) _ ?_
  refine kw_step m ρ K c 4 (by decide) (sem_kv 0 0 4) (by exact rfl) _ ?_
  refine kw_step m ρ K c 5 (by decide) (sem_kv 0 0 5) (by exact rfl) _ ?_
  exact hk

/-- Part 20: the waits for copies 6 to 9 of the pages. -/
theorem part20 (c : Dev nD) {α : Type} {Q : α → sProp 𝕄} {k : _ → Prog (TpuEff nD τ sig (Elt F) Λ₀ .tc) α} (Fr : sProp 𝕄)
    (hk : iprop(Ctx m ρ K ∗ KwSt m c 10 ∗ Fr) ⊢ W c (k ⟨⟩) Q) :
    iprop(Ctx m ρ K ∗ KwSt m c 6 ∗ Fr) ⊢ W c (k0_part20 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part20_eq_skeleton]
  unfold k0_part20_skel
  simp only [Prog.lift, Prog.bind_assoc, Prog.bind_op, Prog.bind_ret, Prog.pure_eq_ret]
  refine kw_step m ρ K c 6 (by decide) (sem_kv 0 0 6) (by exact rfl) _ ?_
  refine kw_step m ρ K c 7 (by decide) (sem_kv 0 0 7) (by exact rfl) _ ?_
  refine kw_step m ρ K c 8 (by decide) (sem_kv 0 1 0) (by exact rfl) _ ?_
  refine kw_step m ρ K c 9 (by decide) (sem_kv 0 1 1) (by exact rfl) _ ?_
  exact hk

/-- Part 21: the waits for copies 10 to 12 of the pages. -/
theorem part21 (c : Dev nD) {α : Type} {Q : α → sProp 𝕄} {k : _ → Prog (TpuEff nD τ sig (Elt F) Λ₀ .tc) α} (Fr : sProp 𝕄)
    (hk : iprop(Ctx m ρ K ∗ KwSt m c 13 ∗ Fr) ⊢ W c (k ⟨⟩) Q) :
    iprop(Ctx m ρ K ∗ KwSt m c 10 ∗ Fr) ⊢ W c (k0_part21 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part21_eq_skeleton]
  unfold k0_part21_skel
  simp only [Prog.lift, Prog.bind_assoc, Prog.bind_op, Prog.bind_ret, Prog.pure_eq_ret]
  refine kw_step m ρ K c 10 (by decide) (sem_kv 0 1 2) (by exact rfl) _ ?_
  refine kw_step m ρ K c 11 (by decide) (sem_kv 0 1 3) (by exact rfl) _ ?_
  refine kw_step m ρ K c 12 (by decide) (sem_kv 0 1 4) (by exact rfl) _ ?_
  exact hk

/-- Part 22: the waits for copies 13 to 16 of the pages. -/
theorem part22 (c : Dev nD) {α : Type} {Q : α → sProp 𝕄} {k : _ → Prog (TpuEff nD τ sig (Elt F) Λ₀ .tc) α} (Fr : sProp 𝕄)
    (hk : iprop(Ctx m ρ K ∗ KwSt m c 17 ∗ Fr) ⊢ W c (k ⟨⟩) Q) :
    iprop(Ctx m ρ K ∗ KwSt m c 13 ∗ Fr) ⊢ W c (k0_part22 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part22_eq_skeleton]
  unfold k0_part22_skel
  simp only [Prog.lift, Prog.bind_assoc, Prog.bind_op, Prog.bind_ret, Prog.pure_eq_ret]
  refine kw_step m ρ K c 13 (by decide) (sem_kv 0 1 5) (by exact rfl) _ ?_
  refine kw_step m ρ K c 14 (by decide) (sem_kv 0 1 6) (by exact rfl) _ ?_
  refine kw_step m ρ K c 15 (by decide) (sem_kv 0 1 7) (by exact rfl) _ ?_
  refine kw_step m ρ K c 16 (by decide) (sem_kv 1 0 0) (by exact rfl) _ ?_
  exact hk

/-- Part 23: the waits for copies 17 to 19 of the pages. -/
theorem part23 (c : Dev nD) {α : Type} {Q : α → sProp 𝕄} {k : _ → Prog (TpuEff nD τ sig (Elt F) Λ₀ .tc) α} (Fr : sProp 𝕄)
    (hk : iprop(Ctx m ρ K ∗ KwSt m c 20 ∗ Fr) ⊢ W c (k ⟨⟩) Q) :
    iprop(Ctx m ρ K ∗ KwSt m c 17 ∗ Fr) ⊢ W c (k0_part23 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part23_eq_skeleton]
  unfold k0_part23_skel
  simp only [Prog.lift, Prog.bind_assoc, Prog.bind_op, Prog.bind_ret, Prog.pure_eq_ret]
  refine kw_step m ρ K c 17 (by decide) (sem_kv 1 0 1) (by exact rfl) _ ?_
  refine kw_step m ρ K c 18 (by decide) (sem_kv 1 0 2) (by exact rfl) _ ?_
  refine kw_step m ρ K c 19 (by decide) (sem_kv 1 0 3) (by exact rfl) _ ?_
  exact hk

/-- Part 24: the waits for copies 20 to 23 of the pages. -/
theorem part24 (c : Dev nD) {α : Type} {Q : α → sProp 𝕄} {k : _ → Prog (TpuEff nD τ sig (Elt F) Λ₀ .tc) α} (Fr : sProp 𝕄)
    (hk : iprop(Ctx m ρ K ∗ KwSt m c 24 ∗ Fr) ⊢ W c (k ⟨⟩) Q) :
    iprop(Ctx m ρ K ∗ KwSt m c 20 ∗ Fr) ⊢ W c (k0_part24 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part24_eq_skeleton]
  unfold k0_part24_skel
  simp only [Prog.lift, Prog.bind_assoc, Prog.bind_op, Prog.bind_ret, Prog.pure_eq_ret]
  refine kw_step m ρ K c 20 (by decide) (sem_kv 1 0 4) (by exact rfl) _ ?_
  refine kw_step m ρ K c 21 (by decide) (sem_kv 1 0 5) (by exact rfl) _ ?_
  refine kw_step m ρ K c 22 (by decide) (sem_kv 1 0 6) (by exact rfl) _ ?_
  refine kw_step m ρ K c 23 (by decide) (sem_kv 1 0 7) (by exact rfl) _ ?_
  exact hk

/-- Part 25: the waits for copies 24 to 27 of the pages. -/
theorem part25 (c : Dev nD) {α : Type} {Q : α → sProp 𝕄} {k : _ → Prog (TpuEff nD τ sig (Elt F) Λ₀ .tc) α} (Fr : sProp 𝕄)
    (hk : iprop(Ctx m ρ K ∗ KwSt m c 28 ∗ Fr) ⊢ W c (k ⟨⟩) Q) :
    iprop(Ctx m ρ K ∗ KwSt m c 24 ∗ Fr) ⊢ W c (k0_part25 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part25_eq_skeleton]
  unfold k0_part25_skel
  simp only [Prog.lift, Prog.bind_assoc, Prog.bind_op, Prog.bind_ret, Prog.pure_eq_ret]
  refine kw_step m ρ K c 24 (by decide) (sem_kv 1 1 0) (by exact rfl) _ ?_
  refine kw_step m ρ K c 25 (by decide) (sem_kv 1 1 1) (by exact rfl) _ ?_
  refine kw_step m ρ K c 26 (by decide) (sem_kv 1 1 2) (by exact rfl) _ ?_
  refine kw_step m ρ K c 27 (by decide) (sem_kv 1 1 3) (by exact rfl) _ ?_
  exact hk

/-- Part 26: the waits for copies 28 to 30 of the pages. -/
theorem part26 (c : Dev nD) {α : Type} {Q : α → sProp 𝕄} {k : _ → Prog (TpuEff nD τ sig (Elt F) Λ₀ .tc) α} (Fr : sProp 𝕄)
    (hk : iprop(Ctx m ρ K ∗ KwSt m c 31 ∗ Fr) ⊢ W c (k ⟨⟩) Q) :
    iprop(Ctx m ρ K ∗ KwSt m c 28 ∗ Fr) ⊢ W c (k0_part26 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c >>= k) Q := by
  rw [k0_part26_eq_skeleton]
  unfold k0_part26_skel
  simp only [Prog.lift, Prog.bind_assoc, Prog.bind_op, Prog.bind_ret, Prog.pure_eq_ret]
  refine kw_step m ρ K c 28 (by decide) (sem_kv 1 1 4) (by exact rfl) _ ?_
  refine kw_step m ρ K c 29 (by decide) (sem_kv 1 1 5) (by exact rfl) _ ?_
  refine kw_step m ρ K c 30 (by decide) (sem_kv 1 1 6) (by exact rfl) _ ?_
  exact hk

/-- Part 27: the wait for the last copy, the wait for the barrier, and the first loads of a head. -/
theorem part27 (c : Dev nD) {α : Type} {Q : α → sProp 𝕄} {k : _ → Prog (TpuEff nD τ sig (Elt F) Λ₀ .tc) α} (Fr : sProp 𝕄)
    (hk : ∀ x, iprop(Ctx m ρ K ∗ KV m c ∗ (BarPost c ∗ KwPost m c) ∗ Fr) ⊢ W c (k ⟨x, z601 (inp m ρ c), z602 (inp m ρ c), z630 (inp m ρ c)⟩) Q) :
    iprop(Ctx m ρ K ∗ KwSt m c 31 ∗ Bar0 c ∗ Fr) ⊢ W c (k0_part27 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (SemArray.scalar barS) (z387 (inp m ρ c)) (z392 (inp m ρ c)) (z395 (inp m ρ c)) (z407 (inp m ρ c)) >>= k) Q := by
  rw [k0_part27_eq_skeleton]
  unfold k0_part27_skel
  simp only [semSignalWord, semWaitWord, Prog.lift, Prog.bind_assoc, Prog.bind_op, Prog.bind_ret, Prog.pure_eq_ret]
  refine kw_step m ρ K c 31 (by decide) (sem_kv 1 1 7) (by exact rfl) _ ?_
  refine bar_pre m c ?_
  refine bar_wait m ρ K c rfl (above_add (above_oA (by decide) c 0) (above_oR (by decide) c 0)) _ ?_
  refine bar_post m c ?_
  refine load_k m ρ c _ 0 0 rfl ?_
  refine load_v m ρ c _ 0 0 rfl ?_
  exact hk _

/-- Part 28: the computation from the pages keys (0, 1), values (0, 1), keys (0, 2). -/
theorem part28 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z660 (inp m ρ c), z667 (inp m ρ c), Scalar.ofBits .f32 0xCE6E6B28#32⟩) Q) :
    iprop(Ctx m ρ K ∗ KV m c ∗ Fr) ⊢ W c (k0_part28 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z601 (inp m ρ c)) (z602 (inp m ρ c)) (z630 (inp m ρ c)) >>= k) Q := by
  rw [k0_part28_eq_skeleton]
  unfold k0_part28_skel
  simp only [Prog.lift, Prog.bind_assoc, Prog.bind_op, Prog.bind_ret, Prog.pure_eq_ret]
  refine load_k m ρ c _ 0 1 rfl ?_
  refine load_v m ρ c _ 0 1 rfl ?_
  refine load_k m ρ c _ 0 2 rfl ?_
  exact hk

/-- Part 29: the computation from the pages values (0, 2), keys (0, 3). -/
theorem part29 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z689 (inp m ρ c), z707 (inp m ρ c), z708 (inp m ρ c)⟩) Q) :
    iprop(Ctx m ρ K ∗ KV m c ∗ Fr) ⊢ W c (k0_part29 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z601 (inp m ρ c)) (z660 (inp m ρ c)) (z667 (inp m ρ c)) (Scalar.ofBits .f32 0xCE6E6B28#32) >>= k) Q := by
  rw [k0_part29_eq_skeleton]
  unfold k0_part29_skel
  simp only [Prog.lift, Prog.bind_assoc, Prog.bind_op, Prog.bind_ret, Prog.pure_eq_ret]
  refine load_v m ρ c _ 0 2 rfl ?_
  refine load_k m ρ c _ 0 3 rfl ?_
  exact hk

/-- Part 30: the computation from the pages values (0, 3), keys (0, 4), values (0, 4). -/
theorem part30 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z718 (inp m ρ c), z746 (inp m ρ c)⟩) Q) :
    iprop(Ctx m ρ K ∗ KV m c ∗ Fr) ⊢ W c (k0_part30 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z601 (inp m ρ c)) (z689 (inp m ρ c)) (z707 (inp m ρ c)) (z708 (inp m ρ c)) >>= k) Q := by
  rw [k0_part30_eq_skeleton]
  unfold k0_part30_skel
  simp only [Prog.lift, Prog.bind_assoc, Prog.bind_op, Prog.bind_ret, Prog.pure_eq_ret]
  refine load_v m ρ c _ 0 3 rfl ?_
  refine load_k m ρ c _ 0 4 rfl ?_
  refine load_v m ρ c _ 0 4 rfl ?_
  exact hk

/-- Part 31: the computation from the pages keys (0, 5), values (0, 5), keys (0, 6). -/
theorem part31 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z776 (inp m ρ c), z783 (inp m ρ c), Scalar.ofBits .f32 0xCE6E6B28#32⟩) Q) :
    iprop(Ctx m ρ K ∗ KV m c ∗ Fr) ⊢ W c (k0_part31 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z601 (inp m ρ c)) (z718 (inp m ρ c)) (z746 (inp m ρ c)) >>= k) Q := by
  rw [k0_part31_eq_skeleton]
  unfold k0_part31_skel
  simp only [Prog.lift, Prog.bind_assoc, Prog.bind_op, Prog.bind_ret, Prog.pure_eq_ret]
  refine load_k m ρ c _ 0 5 rfl ?_
  refine load_v m ρ c _ 0 5 rfl ?_
  refine load_k m ρ c _ 0 6 rfl ?_
  exact hk

/-- Part 32: the computation from the pages values (0, 6), keys (0, 7). -/
theorem part32 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z805 (inp m ρ c), z823 (inp m ρ c), z824 (inp m ρ c)⟩) Q) :
    iprop(Ctx m ρ K ∗ KV m c ∗ Fr) ⊢ W c (k0_part32 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z601 (inp m ρ c)) (z776 (inp m ρ c)) (z783 (inp m ρ c)) (Scalar.ofBits .f32 0xCE6E6B28#32) >>= k) Q := by
  rw [k0_part32_eq_skeleton]
  unfold k0_part32_skel
  simp only [Prog.lift, Prog.bind_assoc, Prog.bind_op, Prog.bind_ret, Prog.pure_eq_ret]
  refine load_v m ρ c _ 0 6 rfl ?_
  refine load_k m ρ c _ 0 7 rfl ?_
  exact hk

end Cert.K01
-- ==== Proof.PartsC.lean ====
module

public import proofs.«01_k».proof.Proof.Phases

/-! # Parts 33, 34, 41 and 42: the sends of the partial rows -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

set_option maxHeartbeats 4000000 in
/-- Part 33: the last head of the first sequence, the store of its half of the partial rows, and the sends of the rows of devices 0 to 5. -/
theorem part33 (c : Dev nD) {α : Type} {Q : α → sProp 𝕄} {k : _ → Prog (TpuEff nD τ sig (Elt F) Λ₀ .tc) α} (Fr : sProp 𝕄)
    (hk : iprop(Ctx m ρ K ∗ KV m c ∗ RsSt m ρ low c 6 ∗ Fr) ⊢ W c (k 6#32) Q) :
    iprop(Ctx m ρ K ∗ KV m c ∗ HalfSt c 0 ∗ RsIn low c 0 ∗ Fr) ⊢ W c (k0_part33 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (z395 (inp m ρ c)) (z805 (inp m ρ c)) (z823 (inp m ρ c)) (z824 (inp m ρ c)) >>= k) Q := by
  rw [k0_part33_eq_skeleton]
  unfold k0_part33_skel
  simp only [Prog.lift, Prog.bind_assoc, Prog.bind_op, Prog.bind_ret, Prog.pure_eq_ret]
  refine load_v m ρ c _ 0 7 rfl ?_
  refine turn ?_
  refine half_load c _ 0 rfl fun _ => ?_
  refine half_store m ρ c _ 0 rfl (store_out0 m ρ c) ?_
  refine rs_pre m ρ c 0 low 0 (fun i _ => Nat.not_lt_zero _) rows_low ?_
  refine rs_step m ρ K low c 0 (by decide) (by decide) (cond_iff c 0 (by decide)) (fun _ => k0_dev32_eq) (fun _ => sem_rs_send 0 rfl) (fun _ => sem_rs_recv _ ((k0_off3_eq c).trans (congrArg (fun x => ![x]) (sub_val c ⟨0, by decide⟩).symm))) rfl (fun _ => ((k0_off4_eq c).trans (congrArg (fun x => ![x, 0, 0]) (sub_val c ⟨0, by decide⟩).symm))) _ ?_
  refine rs_step m ρ K low c 1 (by decide) (by decide) (cond_iff c 1 (by decide)) (fun _ => k0_dev33_eq) (fun _ => sem_rs_send 1 rfl) (fun _ => sem_rs_recv _ ((k0_off5_eq c).trans (congrArg (fun x => ![x]) (sub_val c ⟨1, by decide⟩).symm))) rfl (fun _ => ((k0_off6_eq c).trans (congrArg (fun x => ![x, 0, 0]) (sub_val c ⟨1, by decide⟩).symm))) _ ?_
  refine rs_step m ρ K low c 2 (by decide) (by decide) (cond_iff c 2 (by decide)) (fun _ => k0_dev34_eq) (fun _ => sem_rs_send 2 rfl) (fun _ => sem_rs_recv _ ((k0_off7_eq c).trans (congrArg (fun x => ![x]) (sub_val c ⟨2, by decide⟩).symm))) rfl (fun _ => ((k0_off8_eq c).trans (congrArg (fun x => ![x, 0, 0]) (sub_val c ⟨2, by decide⟩).symm))) _ ?_
  refine rs_step m ρ K low c 3 (by decide) (by decide) (cond_iff c 3 (by decide)) (fun _ => k0_dev35_eq) (fun _ => sem_rs_send 3 rfl) (fun _ => sem_rs_recv _ ((k0_off9_eq c).trans (congrArg (fun x => ![x]) (sub_val c ⟨3, by decide⟩).symm))) rfl (fun _ => ((k0_off10_eq c).trans (congrArg (fun x => ![x, 0, 0]) (sub_val c ⟨3, by decide⟩).symm))) _ ?_
  refine rs_step m ρ K low c 4 (by decide) (by decide) (cond_iff c 4 (by decide)) (fun _ => k0_dev36_eq) (fun _ => sem_rs_send 4 rfl) (fun _ => sem_rs_recv _ ((k0_off11_eq c).trans (congrArg (fun x => ![x]) (sub_val c ⟨4, by decide⟩).symm))) rfl (fun _ => ((k0_off12_eq c).trans (congrArg (fun x => ![x, 0, 0]) (sub_val c ⟨4, by decide⟩).symm))) _ ?_
  refine rs_step m ρ K low c 5 (by decide) (by decide) (cond_iff c 5 (by decide)) (fun _ => k0_dev37_eq) (fun _ => sem_rs_send 5 rfl) (fun _ => sem_rs_recv _ ((k0_off13_eq c).trans (congrArg (fun x => ![x]) (sub_val c ⟨5, by decide⟩).symm))) rfl (fun _ => ((k0_off14_eq c).trans (congrArg (fun x => ![x, 0, 0]) (sub_val c ⟨5, by decide⟩).symm))) _ ?_
  refine turn ?_
  rw [Prog.bind_ret]
  exact hk

set_option maxHeartbeats 4000000 in
/-- Part 34: the sends of the rows of devices 6 to 15. -/
theorem part34 (c : Dev nD) {α : Type} {Q : α → sProp 𝕄} {k : _ → Prog (TpuEff nD τ sig (Elt F) Λ₀ .tc) α} (Fr : sProp 𝕄)
    (hk : iprop(Ctx m ρ K ∗ RsSt m ρ low c 16 ∗ Fr) ⊢ W c (k (z887 (inp m ρ c))) Q) :
    iprop(Ctx m ρ K ∗ RsSt m ρ low c 6 ∗ Fr) ⊢ W c (k0_part34 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (z387 (inp m ρ c)) 6#32 >>= k) Q := by
  rw [k0_part34_eq_skeleton]
  unfold k0_part34_skel
  simp only [Prog.lift, Prog.bind_assoc, Prog.bind_op, Prog.bind_ret, Prog.pure_eq_ret]
  refine rs_step m ρ K low c 6 (by decide) (by decide) (cond_iff c 6 (by decide)) (fun _ => k0_dev38_eq) (fun _ => sem_rs_send 6 rfl) (fun _ => sem_rs_recv _ ((k0_off15_eq c).trans (congrArg (fun x => ![x]) (sub_val c ⟨6, by decide⟩).symm))) rfl (fun _ => ((k0_off16_eq c).trans (congrArg (fun x => ![x, 0, 0]) (sub_val c ⟨6, by decide⟩).symm))) _ ?_
  refine rs_step m ρ K low c 7 (by decide) (by decide) (cond_iff c 7 (by decide)) (fun _ => k0_dev39_eq) (fun _ => sem_rs_send 7 rfl) (fun _ => sem_rs_recv _ ((k0_off17_eq c).trans (congrArg (fun x => ![x]) (sub_val c ⟨7, by decide⟩).symm))) rfl (fun _ => ((k0_off18_eq c).trans (congrArg (fun x => ![x, 0, 0]) (sub_val c ⟨7, by decide⟩).symm))) _ ?_
  refine rs_step m ρ K low c 8 (by decide) (by decide) (cond_iff c 8 (by decide)) (fun _ => k0_dev40_eq) (fun _ => sem_rs_send 8 rfl) (fun _ => sem_rs_recv _ ((k0_off19_eq c).trans (congrArg (fun x => ![x]) (sub_val c ⟨8, by decide⟩).symm))) rfl (fun _ => ((k0_off20_eq c).trans (congrArg (fun x => ![x, 0, 0]) (sub_val c ⟨8, by decide⟩).symm))) _ ?_
  refine rs_step m ρ K low c 9 (by decide) (by decide) (cond_iff c 9 (by decide)) (fun _ => k0_dev41_eq) (fun _ => sem_rs_send 9 rfl) (fun _ => sem_rs_recv _ ((k0_off21_eq c).trans (congrArg (fun x => ![x]) (sub_val c ⟨9, by decide⟩).symm))) rfl (fun _ => ((k0_off22_eq c).trans (congrArg (fun x => ![x, 0, 0]) (sub_val c ⟨9, by decide⟩).symm))) _ ?_
  refine rs_step m ρ K low c 10 (by decide) (by decide) (cond_iff c 10 (by decide)) (fun _ => k0_dev42_eq) (fun _ => sem_rs_send 10 rfl) (fun _ => sem_rs_recv _ ((k0_off23_eq c).trans (congrArg (fun x => ![x]) (sub_val c ⟨10, by decide⟩).symm))) rfl (fun _ => ((k0_off24_eq c).trans (congrArg (fun x => ![x, 0, 0]) (sub_val c ⟨10, by decide⟩).symm))) _ ?_
  refine rs_step m ρ K low c 11 (by decide) (by decide) (cond_iff c 11 (by decide)) (fun _ => k0_dev43_eq) (fun _ => sem_rs_send 11 rfl) (fun _ => sem_rs_recv _ ((k0_off25_eq c).trans (congrArg (fun x => ![x]) (sub_val c ⟨11, by decide⟩).symm))) rfl (fun _ => ((k0_off26_eq c).trans (congrArg (fun x => ![x, 0, 0]) (sub_val c ⟨11, by decide⟩).symm))) _ ?_
  refine rs_step m ρ K low c 12 (by decide) (by decide) (cond_iff c 12 (by decide)) (fun _ => k0_dev44_eq) (fun _ => sem_rs_send 12 rfl) (fun _ => sem_rs_recv _ ((k0_off27_eq c).trans (congrArg (fun x => ![x]) (sub_val c ⟨12, by decide⟩).symm))) rfl (fun _ => ((k0_off28_eq c).trans (congrArg (fun x => ![x, 0, 0]) (sub_val c ⟨12, by decide⟩).symm))) _ ?_
  refine rs_step m ρ K low c 13 (by decide) (by decide) (cond_iff c 13 (by decide)) (fun _ => k0_dev45_eq) (fun _ => sem_rs_send 13 rfl) (fun _ => sem_rs_recv _ ((k0_off29_eq c).trans (congrArg (fun x => ![x]) (sub_val c ⟨13, by decide⟩).symm))) rfl (fun _ => ((k0_off30_eq c).trans (congrArg (fun x => ![x, 0, 0]) (sub_val c ⟨13, by decide⟩).symm))) _ ?_
  refine rs_step m ρ K low c 14 (by decide) (by decide) (cond_iff c 14 (by decide)) (fun _ => k0_dev46_eq) (fun _ => sem_rs_send 14 rfl) (fun _ => sem_rs_recv _ ((k0_off31_eq c).trans (congrArg (fun x => ![x]) (sub_val c ⟨14, by decide⟩).symm))) rfl (fun _ => ((k0_off32_eq c).trans (congrArg (fun x => ![x, 0, 0]) (sub_val c ⟨14, by decide⟩).symm))) _ ?_
  refine rs_step m ρ K low c 15 (by decide) (by decide) (cond_iff c 15 (by decide)) (fun _ => k0_dev47_eq) (fun _ => sem_rs_send 15 rfl) (fun _ => sem_rs_recv _ ((k0_off33_eq c).trans (congrArg (fun x => ![x]) (sub_val c ⟨15, by decide⟩).symm))) rfl (fun _ => ((k0_off34_eq c).trans (congrArg (fun x => ![x, 0, 0]) (sub_val c ⟨15, by decide⟩).symm))) _ ?_
  rw [Prog.bind_ret]
  exact hk

set_option maxHeartbeats 4000000 in
/-- Part 41: the store of the second half of the partial rows, and the sends of the rows of devices 16 to 23. -/
theorem part41 (c : Dev nD) {α : Type} {Q : α → sProp 𝕄} {k : _ → Prog (TpuEff nD τ sig (Elt F) Λ₀ .tc) α} (Fr : sProp 𝕄)
    (hk : ∀ x, iprop(Ctx m ρ K ∗ RsSt m ρ high c 24 ∗ Fr) ⊢ W c (k x) Q) :
    iprop(Ctx m ρ K ∗ HalfSt c 1 ∗ RsIn high c 16 ∗ Fr) ⊢ W c (k0_part41 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) (z1091 (inp m ρ c)) (z1117 (inp m ρ c)) (z1118 (inp m ρ c)) (constant S512x768 .f32 0x00000000#32) >>= k) Q := by
  rw [k0_part41_eq_skeleton]
  unfold k0_part41_skel
  simp only [Prog.lift, Prog.bind_assoc, Prog.bind_op, Prog.bind_ret, Prog.pure_eq_ret]
  refine half_load c _ 1 rfl fun _ => ?_
  refine half_store m ρ c _ 1 rfl (store_out1 m ρ c) ?_
  refine join (conv (half_rows m ρ c 1 high 16 (fun i hi => (Finset.mem_filter.mp hi).2) rows_high) ?_)
  refine rs_step m ρ K high c 16 (by decide) (by decide) (cond_iff c 16 (by decide)) (fun _ => k0_dev48_eq) (fun _ => sem_rs_send 16 rfl) (fun _ => sem_rs_recv _ ((k0_off35_eq c).trans (congrArg (fun x => ![x]) (sub_val c ⟨16, by decide⟩).symm))) rfl (fun _ => ((k0_off36_eq c).trans (congrArg (fun x => ![x, 0, 0]) (sub_val c ⟨16, by decide⟩).symm))) _ ?_
  refine rs_step m ρ K high c 17 (by decide) (by decide) (cond_iff c 17 (by decide)) (fun _ => k0_dev49_eq) (fun _ => sem_rs_send 17 rfl) (fun _ => sem_rs_recv _ ((k0_off37_eq c).trans (congrArg (fun x => ![x]) (sub_val c ⟨17, by decide⟩).symm))) rfl (fun _ => ((k0_off38_eq c).trans (congrArg (fun x => ![x, 0, 0]) (sub_val c ⟨17, by decide⟩).symm))) _ ?_
  refine rs_step m ρ K high c 18 (by decide) (by decide) (cond_iff c 18 (by decide)) (fun _ => k0_dev50_eq) (fun _ => sem_rs_send 18 rfl) (fun _ => sem_rs_recv _ ((k0_off39_eq c).trans (congrArg (fun x => ![x]) (sub_val c ⟨18, by decide⟩).symm))) rfl (fun _ => ((k0_off40_eq c).trans (congrArg (fun x => ![x, 0, 0]) (sub_val c ⟨18, by decide⟩).symm))) _ ?_
  refine rs_step m ρ K high c 19 (by decide) (by decide) (cond_iff c 19 (by decide)) (fun _ => k0_dev51_eq) (fun _ => sem_rs_send 19 rfl) (fun _ => sem_rs_recv _ ((k0_off41_eq c).trans (congrArg (fun x => ![x]) (sub_val c ⟨19, by decide⟩).symm))) rfl (fun _ => ((k0_off42_eq c).trans (congrArg (fun x => ![x, 0, 0]) (sub_val c ⟨19, by decide⟩).symm))) _ ?_
  refine rs_step m ρ K high c 20 (by decide) (by decide) (cond_iff c 20 (by decide)) (fun _ => k0_dev52_eq) (fun _ => sem_rs_send 20 rfl) (fun _ => sem_rs_recv _ ((k0_off43_eq c).trans (congrArg (fun x => ![x]) (sub_val c ⟨20, by decide⟩).symm))) rfl (fun _ => ((k0_off44_eq c).trans (congrArg (fun x => ![x, 0, 0]) (sub_val c ⟨20, by decide⟩).symm))) _ ?_
  refine rs_step m ρ K high c 21 (by decide) (by decide) (cond_iff c 21 (by decide)) (fun _ => k0_dev53_eq) (fun _ => sem_rs_send 21 rfl) (fun _ => sem_rs_recv _ ((k0_off45_eq c).trans (congrArg (fun x => ![x]) (sub_val c ⟨21, by decide⟩).symm))) rfl (fun _ => ((k0_off46_eq c).trans (congrArg (fun x => ![x, 0, 0]) (sub_val c ⟨21, by decide⟩).symm))) _ ?_
  refine rs_step m ρ K high c 22 (by decide) (by decide) (cond_iff c 22 (by decide)) (fun _ => k0_dev54_eq) (fun _ => sem_rs_send 22 rfl) (fun _ => sem_rs_recv _ ((k0_off47_eq c).trans (congrArg (fun x => ![x]) (sub_val c ⟨22, by decide⟩).symm))) rfl (fun _ => ((k0_off48_eq c).trans (congrArg (fun x => ![x, 0, 0]) (sub_val c ⟨22, by decide⟩).symm))) _ ?_
  refine rs_step m ρ K high c 23 (by decide) (by decide) (cond_iff c 23 (by decide)) (fun _ => k0_dev55_eq) (fun _ => sem_rs_send 23 rfl) (fun _ => sem_rs_recv _ ((k0_off49_eq c).trans (congrArg (fun x => ![x]) (sub_val c ⟨23, by decide⟩).symm))) rfl (fun _ => ((k0_off50_eq c).trans (congrArg (fun x => ![x, 0, 0]) (sub_val c ⟨23, by decide⟩).symm))) _ ?_
  rw [Prog.bind_ret]
  exact hk _

set_option maxHeartbeats 4000000 in
/-- Part 42: the sends of the rows of devices 24 to 31. -/
theorem part42 (c : Dev nD) {α : Type} {Q : α → sProp 𝕄} {k : _ → Prog (TpuEff nD τ sig (Elt F) Λ₀ .tc) α} (x) (Fr : sProp 𝕄)
    (hk : iprop(Ctx m ρ K ∗ RsSt m ρ high c 32 ∗ Fr) ⊢ W c (k ⟨⟩) Q) :
    iprop(Ctx m ρ K ∗ RsSt m ρ high c 24 ∗ Fr) ⊢ W c (k0_part42 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) x >>= k) Q := by
  rw [k0_part42_eq_skeleton]
  unfold k0_part42_skel
  simp only [Prog.lift, Prog.bind_assoc, Prog.bind_op, Prog.bind_ret, Prog.pure_eq_ret]
  refine rs_step m ρ K high c 24 (by decide) (by decide) (cond_iff c 24 (by decide)) (fun _ => k0_dev56_eq) (fun _ => sem_rs_send 24 rfl) (fun _ => sem_rs_recv _ ((k0_off51_eq c).trans (congrArg (fun x => ![x]) (sub_val c ⟨24, by decide⟩).symm))) rfl (fun _ => ((k0_off52_eq c).trans (congrArg (fun x => ![x, 0, 0]) (sub_val c ⟨24, by decide⟩).symm))) _ ?_
  refine rs_step m ρ K high c 25 (by decide) (by decide) (cond_iff c 25 (by decide)) (fun _ => k0_dev57_eq) (fun _ => sem_rs_send 25 rfl) (fun _ => sem_rs_recv _ ((k0_off53_eq c).trans (congrArg (fun x => ![x]) (sub_val c ⟨25, by decide⟩).symm))) rfl (fun _ => ((k0_off54_eq c).trans (congrArg (fun x => ![x, 0, 0]) (sub_val c ⟨25, by decide⟩).symm))) _ ?_
  refine rs_step m ρ K high c 26 (by decide) (by decide) (cond_iff c 26 (by decide)) (fun _ => k0_dev58_eq) (fun _ => sem_rs_send 26 rfl) (fun _ => sem_rs_recv _ ((k0_off55_eq c).trans (congrArg (fun x => ![x]) (sub_val c ⟨26, by decide⟩).symm))) rfl (fun _ => ((k0_off56_eq c).trans (congrArg (fun x => ![x, 0, 0]) (sub_val c ⟨26, by decide⟩).symm))) _ ?_
  refine rs_step m ρ K high c 27 (by decide) (by decide) (cond_iff c 27 (by decide)) (fun _ => k0_dev59_eq) (fun _ => sem_rs_send 27 rfl) (fun _ => sem_rs_recv _ ((k0_off57_eq c).trans (congrArg (fun x => ![x]) (sub_val c ⟨27, by decide⟩).symm))) rfl (fun _ => ((k0_off58_eq c).trans (congrArg (fun x => ![x, 0, 0]) (sub_val c ⟨27, by decide⟩).symm))) _ ?_
  refine rs_step m ρ K high c 28 (by decide) (by decide) (cond_iff c 28 (by decide)) (fun _ => k0_dev60_eq) (fun _ => sem_rs_send 28 rfl) (fun _ => sem_rs_recv _ ((k0_off59_eq c).trans (congrArg (fun x => ![x]) (sub_val c ⟨28, by decide⟩).symm))) rfl (fun _ => ((k0_off60_eq c).trans (congrArg (fun x => ![x, 0, 0]) (sub_val c ⟨28, by decide⟩).symm))) _ ?_
  refine rs_step m ρ K high c 29 (by decide) (by decide) (cond_iff c 29 (by decide)) (fun _ => k0_dev61_eq) (fun _ => sem_rs_send 29 rfl) (fun _ => sem_rs_recv _ ((k0_off61_eq c).trans (congrArg (fun x => ![x]) (sub_val c ⟨29, by decide⟩).symm))) rfl (fun _ => ((k0_off62_eq c).trans (congrArg (fun x => ![x, 0, 0]) (sub_val c ⟨29, by decide⟩).symm))) _ ?_
  refine rs_step m ρ K high c 30 (by decide) (by decide) (cond_iff c 30 (by decide)) (fun _ => k0_dev62_eq) (fun _ => sem_rs_send 30 rfl) (fun _ => sem_rs_recv _ ((k0_off63_eq c).trans (congrArg (fun x => ![x]) (sub_val c ⟨30, by decide⟩).symm))) rfl (fun _ => ((k0_off64_eq c).trans (congrArg (fun x => ![x, 0, 0]) (sub_val c ⟨30, by decide⟩).symm))) _ ?_
  refine rs_step m ρ K high c 31 (by decide) (by decide) (cond_iff c 31 (by decide)) (fun _ => k0_dev63_eq) (fun _ => sem_rs_send 31 rfl) (fun _ => sem_rs_recv _ ((k0_off65_eq c).trans (congrArg (fun x => ![x]) (sub_val c ⟨31, by decide⟩).symm))) rfl (fun _ => ((k0_off66_eq c).trans (congrArg (fun x => ![x, 0, 0]) (sub_val c ⟨31, by decide⟩).symm))) _ ?_
  rw [Prog.bind_ret]
  exact hk

end Cert.K01
-- ==== Proof.PartsD.lean ====
module

public import proofs.«01_k».proof.Proof.Phases

/-! # Parts 35 to 40: the heads of the second sequence; and parts 43 to 52: the receives of the partial rows -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- Part 35: the computation from the pages keys (1, 0), values (1, 0), keys (1, 1). -/
theorem part35 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z917 (inp m ρ c), z924 (inp m ρ c)⟩) Q) :
    iprop(Ctx m ρ K ∗ KV m c ∗ Fr) ⊢ W c (k0_part35 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) >>= k) Q := by
  rw [k0_part35_eq_skeleton]
  unfold k0_part35_skel
  simp only [Prog.lift, Prog.bind_assoc, Prog.bind_op, Prog.bind_ret, Prog.pure_eq_ret]
  refine load_k m ρ c _ 1 0 rfl ?_
  refine load_v m ρ c _ 1 0 rfl ?_
  refine load_k m ρ c _ 1 1 rfl ?_
  exact hk

/-- Part 36: the computation from the pages values (1, 1), keys (1, 2). -/
theorem part36 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z946 (inp m ρ c), z960 (inp m ρ c), z964 (inp m ρ c)⟩) Q) :
    iprop(Ctx m ρ K ∗ KV m c ∗ Fr) ⊢ W c (k0_part36 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) (z917 (inp m ρ c)) (z924 (inp m ρ c)) >>= k) Q := by
  rw [k0_part36_eq_skeleton]
  unfold k0_part36_skel
  simp only [Prog.lift, Prog.bind_assoc, Prog.bind_op, Prog.bind_ret, Prog.pure_eq_ret]
  refine load_v m ρ c _ 1 1 rfl ?_
  refine load_k m ρ c _ 1 2 rfl ?_
  exact hk

/-- Part 37: the computation from the pages values (1, 2), keys (1, 3), values (1, 3). -/
theorem part37 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z975 (inp m ρ c), z1001 (inp m ρ c), z1002 (inp m ρ c), constant S512x768 .f32 0x00000000#32⟩) Q) :
    iprop(Ctx m ρ K ∗ KV m c ∗ Fr) ⊢ W c (k0_part37 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) (z946 (inp m ρ c)) (z960 (inp m ρ c)) (z964 (inp m ρ c)) >>= k) Q := by
  rw [k0_part37_eq_skeleton]
  unfold k0_part37_skel
  simp only [Prog.lift, Prog.bind_assoc, Prog.bind_op, Prog.bind_ret, Prog.pure_eq_ret]
  refine load_v m ρ c _ 1 2 rfl ?_
  refine load_k m ρ c _ 1 3 rfl ?_
  refine load_v m ρ c _ 1 3 rfl ?_
  exact hk

/-- Part 38: the computation from the pages keys (1, 4), values (1, 4), keys (1, 5). -/
theorem part38 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z1033 (inp m ρ c), z1040 (inp m ρ c)⟩) Q) :
    iprop(Ctx m ρ K ∗ KV m c ∗ Fr) ⊢ W c (k0_part38 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) (z975 (inp m ρ c)) (z1001 (inp m ρ c)) (z1002 (inp m ρ c)) (constant S512x768 .f32 0x00000000#32) >>= k) Q := by
  rw [k0_part38_eq_skeleton]
  unfold k0_part38_skel
  simp only [Prog.lift, Prog.bind_assoc, Prog.bind_op, Prog.bind_ret, Prog.pure_eq_ret]
  refine load_k m ρ c _ 1 4 rfl ?_
  refine load_v m ρ c _ 1 4 rfl ?_
  refine load_k m ρ c _ 1 5 rfl ?_
  exact hk

/-- Part 39: the computation from the pages values (1, 5), keys (1, 6). -/
theorem part39 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z1062 (inp m ρ c), z1076 (inp m ρ c), z1080 (inp m ρ c)⟩) Q) :
    iprop(Ctx m ρ K ∗ KV m c ∗ Fr) ⊢ W c (k0_part39 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) (z1033 (inp m ρ c)) (z1040 (inp m ρ c)) >>= k) Q := by
  rw [k0_part39_eq_skeleton]
  unfold k0_part39_skel
  simp only [Prog.lift, Prog.bind_assoc, Prog.bind_op, Prog.bind_ret, Prog.pure_eq_ret]
  refine load_v m ρ c _ 1 5 rfl ?_
  refine load_k m ρ c _ 1 6 rfl ?_
  exact hk

/-- Part 40: the computation from the pages values (1, 6), keys (1, 7), values (1, 7). -/
theorem part40 (c : Dev nD) {α : Type} {Q : α → sProp 𝕄} {k : _ → Prog (TpuEff nD τ sig (Elt F) Λ₀ .tc) α} (Fr : sProp 𝕄)
    (hk : iprop(Ctx m ρ K ∗ KV m c ∗ Fr) ⊢ W c (k ⟨z1091 (inp m ρ c), z1117 (inp m ρ c), z1118 (inp m ρ c), constant S512x768 .f32 0x00000000#32⟩) Q) :
    iprop(Ctx m ρ K ∗ KV m c ∗ Fr) ⊢ W c (k0_part40 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (z392 (inp m ρ c)) (z395 (inp m ρ c)) (z407 (inp m ρ c)) (z887 (inp m ρ c)) (z1062 (inp m ρ c)) (z1076 (inp m ρ c)) (z1080 (inp m ρ c)) >>= k) Q := by
  rw [k0_part40_eq_skeleton]
  unfold k0_part40_skel
  simp only [Prog.lift, Prog.bind_assoc, Prog.bind_op, Prog.bind_ret, Prog.pure_eq_ret]
  refine load_v m ρ c _ 1 6 rfl ?_
  refine load_k m ρ c _ 1 7 rfl ?_
  refine load_v m ρ c _ 1 7 rfl ?_
  exact hk

/-- Part 43: the waits for slots 1 to 3. -/
theorem part43 (c : Dev nD) {α : Type} {Q : α → sProp 𝕄} {k : _ → Prog (TpuEff nD τ sig (Elt F) Λ₀ .tc) α} (Fr : sProp 𝕄)
    (hk : iprop(Ctx m ρ K ∗ RwSt m ρ c 4 ∗ Fr) ⊢ W c (k ⟨⟩) Q) :
    iprop(Ctx m ρ K ∗ RwSt m ρ c 1 ∗ Fr) ⊢ W c (k0_part43 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part43_eq_skeleton]
  unfold k0_part43_skel
  simp only [Prog.lift, Prog.bind_assoc, Prog.bind_op, Prog.bind_ret, Prog.pure_eq_ret]
  refine rw_step m ρ K c 1 (by decide) (by decide) (sem_rs_recv 1 rfl) (by exact rfl) _ ?_
  refine rw_step m ρ K c 2 (by decide) (by decide) (sem_rs_recv 2 rfl) (by exact rfl) _ ?_
  refine rw_step m ρ K c 3 (by decide) (by decide) (sem_rs_recv 3 rfl) (by exact rfl) _ ?_
  exact hk

/-- Part 44: the waits for slots 4 to 7. -/
theorem part44 (c : Dev nD) {α : Type} {Q : α → sProp 𝕄} {k : _ → Prog (TpuEff nD τ sig (Elt F) Λ₀ .tc) α} (Fr : sProp 𝕄)
    (hk : iprop(Ctx m ρ K ∗ RwSt m ρ c 8 ∗ Fr) ⊢ W c (k ⟨⟩) Q) :
    iprop(Ctx m ρ K ∗ RwSt m ρ c 4 ∗ Fr) ⊢ W c (k0_part44 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part44_eq_skeleton]
  unfold k0_part44_skel
  simp only [Prog.lift, Prog.bind_assoc, Prog.bind_op, Prog.bind_ret, Prog.pure_eq_ret]
  refine rw_step m ρ K c 4 (by decide) (by decide) (sem_rs_recv 4 rfl) (by exact rfl) _ ?_
  refine rw_step m ρ K c 5 (by decide) (by decide) (sem_rs_recv 5 rfl) (by exact rfl) _ ?_
  refine rw_step m ρ K c 6 (by decide) (by decide) (sem_rs_recv 6 rfl) (by exact rfl) _ ?_
  refine rw_step m ρ K c 7 (by decide) (by decide) (sem_rs_recv 7 rfl) (by exact rfl) _ ?_
  exact hk

/-- Part 45: the waits for slots 8 to 10. -/
theorem part45 (c : Dev nD) {α : Type} {Q : α → sProp 𝕄} {k : _ → Prog (TpuEff nD τ sig (Elt F) Λ₀ .tc) α} (Fr : sProp 𝕄)
    (hk : iprop(Ctx m ρ K ∗ RwSt m ρ c 11 ∗ Fr) ⊢ W c (k 1#32) Q) :
    iprop(Ctx m ρ K ∗ RwSt m ρ c 8 ∗ Fr) ⊢ W c (k0_part45 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part45_eq_skeleton]
  unfold k0_part45_skel
  simp only [Prog.lift, Prog.bind_assoc, Prog.bind_op, Prog.bind_ret, Prog.pure_eq_ret]
  refine rw_step m ρ K c 8 (by decide) (by decide) (sem_rs_recv 8 rfl) (by exact rfl) _ ?_
  refine rw_step m ρ K c 9 (by decide) (by decide) (sem_rs_recv 9 rfl) (by exact rfl) _ ?_
  refine rw_step m ρ K c 10 (by decide) (by decide) (sem_rs_recv 10 rfl) (by exact rfl) _ ?_
  exact hk

/-- Part 46: the waits for slots 11 to 13. -/
theorem part46 (c : Dev nD) {α : Type} {Q : α → sProp 𝕄} {k : _ → Prog (TpuEff nD τ sig (Elt F) Λ₀ .tc) α} (Fr : sProp 𝕄)
    (hk : iprop(Ctx m ρ K ∗ RwSt m ρ c 14 ∗ Fr) ⊢ W c (k ⟨⟩) Q) :
    iprop(Ctx m ρ K ∗ RwSt m ρ c 11 ∗ Fr) ⊢ W c (k0_part46 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) 1#32 >>= k) Q := by
  rw [k0_part46_eq_skeleton]
  unfold k0_part46_skel
  simp only [Prog.lift, Prog.bind_assoc, Prog.bind_op, Prog.bind_ret, Prog.pure_eq_ret]
  refine rw_step m ρ K c 11 (by decide) (by decide) (sem_rs_recv 11 rfl) (by exact rfl) _ ?_
  refine rw_step m ρ K c 12 (by decide) (by decide) (sem_rs_recv 12 rfl) (by exact rfl) _ ?_
  refine rw_step m ρ K c 13 (by decide) (by decide) (sem_rs_recv 13 rfl) (by exact rfl) _ ?_
  exact hk

/-- Part 47: the waits for slots 14 to 16. -/
theorem part47 (c : Dev nD) {α : Type} {Q : α → sProp 𝕄} {k : _ → Prog (TpuEff nD τ sig (Elt F) Λ₀ .tc) α} (Fr : sProp 𝕄)
    (hk : iprop(Ctx m ρ K ∗ RwSt m ρ c 17 ∗ Fr) ⊢ W c (k ⟨⟩) Q) :
    iprop(Ctx m ρ K ∗ RwSt m ρ c 14 ∗ Fr) ⊢ W c (k0_part47 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part47_eq_skeleton]
  unfold k0_part47_skel
  simp only [Prog.lift, Prog.bind_assoc, Prog.bind_op, Prog.bind_ret, Prog.pure_eq_ret]
  refine rw_step m ρ K c 14 (by decide) (by decide) (sem_rs_recv 14 rfl) (by exact rfl) _ ?_
  refine rw_step m ρ K c 15 (by decide) (by decide) (sem_rs_recv 15 rfl) (by exact rfl) _ ?_
  refine rw_step m ρ K c 16 (by decide) (by decide) (sem_rs_recv 16 rfl) (by exact rfl) _ ?_
  exact hk

/-- Part 48: the waits for slots 17 to 19. -/
theorem part48 (c : Dev nD) {α : Type} {Q : α → sProp 𝕄} {k : _ → Prog (TpuEff nD τ sig (Elt F) Λ₀ .tc) α} (Fr : sProp 𝕄)
    (hk : iprop(Ctx m ρ K ∗ RwSt m ρ c 20 ∗ Fr) ⊢ W c (k ⟨⟩) Q) :
    iprop(Ctx m ρ K ∗ RwSt m ρ c 17 ∗ Fr) ⊢ W c (k0_part48 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part48_eq_skeleton]
  unfold k0_part48_skel
  simp only [Prog.lift, Prog.bind_assoc, Prog.bind_op, Prog.bind_ret, Prog.pure_eq_ret]
  refine rw_step m ρ K c 17 (by decide) (by decide) (sem_rs_recv 17 rfl) (by exact rfl) _ ?_
  refine rw_step m ρ K c 18 (by decide) (by decide) (sem_rs_recv 18 rfl) (by exact rfl) _ ?_
  refine rw_step m ρ K c 19 (by decide) (by decide) (sem_rs_recv 19 rfl) (by exact rfl) _ ?_
  exact hk

/-- Part 49: the waits for slots 20 to 22. -/
theorem part49 (c : Dev nD) {α : Type} {Q : α → sProp 𝕄} {k : _ → Prog (TpuEff nD τ sig (Elt F) Λ₀ .tc) α} (Fr : sProp 𝕄)
    (hk : iprop(Ctx m ρ K ∗ RwSt m ρ c 23 ∗ Fr) ⊢ W c (k ⟨⟩) Q) :
    iprop(Ctx m ρ K ∗ RwSt m ρ c 20 ∗ Fr) ⊢ W c (k0_part49 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part49_eq_skeleton]
  unfold k0_part49_skel
  simp only [Prog.lift, Prog.bind_assoc, Prog.bind_op, Prog.bind_ret, Prog.pure_eq_ret]
  refine rw_step m ρ K c 20 (by decide) (by decide) (sem_rs_recv 20 rfl) (by exact rfl) _ ?_
  refine rw_step m ρ K c 21 (by decide) (by decide) (sem_rs_recv 21 rfl) (by exact rfl) _ ?_
  refine rw_step m ρ K c 22 (by decide) (by decide) (sem_rs_recv 22 rfl) (by exact rfl) _ ?_
  exact hk

/-- Part 50: the waits for slots 23 to 26. -/
theorem part50 (c : Dev nD) {α : Type} {Q : α → sProp 𝕄} {k : _ → Prog (TpuEff nD τ sig (Elt F) Λ₀ .tc) α} (Fr : sProp 𝕄)
    (hk : iprop(Ctx m ρ K ∗ RwSt m ρ c 27 ∗ Fr) ⊢ W c (k ⟨⟩) Q) :
    iprop(Ctx m ρ K ∗ RwSt m ρ c 23 ∗ Fr) ⊢ W c (k0_part50 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part50_eq_skeleton]
  unfold k0_part50_skel
  simp only [Prog.lift, Prog.bind_assoc, Prog.bind_op, Prog.bind_ret, Prog.pure_eq_ret]
  refine rw_step m ρ K c 23 (by decide) (by decide) (sem_rs_recv 23 rfl) (by exact rfl) _ ?_
  refine rw_step m ρ K c 24 (by decide) (by decide) (sem_rs_recv 24 rfl) (by exact rfl) _ ?_
  refine rw_step m ρ K c 25 (by decide) (by decide) (sem_rs_recv 25 rfl) (by exact rfl) _ ?_
  refine rw_step m ρ K c 26 (by decide) (by decide) (sem_rs_recv 26 rfl) (by exact rfl) _ ?_
  exact hk

/-- Part 51: the waits for slots 27 to 29. -/
theorem part51 (c : Dev nD) {α : Type} {Q : α → sProp 𝕄} {k : _ → Prog (TpuEff nD τ sig (Elt F) Λ₀ .tc) α} (Fr : sProp 𝕄)
    (hk : iprop(Ctx m ρ K ∗ RwSt m ρ c 30 ∗ Fr) ⊢ W c (k ⟨⟩) Q) :
    iprop(Ctx m ρ K ∗ RwSt m ρ c 27 ∗ Fr) ⊢ W c (k0_part51 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) >>= k) Q := by
  rw [k0_part51_eq_skeleton]
  unfold k0_part51_skel
  simp only [Prog.lift, Prog.bind_assoc, Prog.bind_op, Prog.bind_ret, Prog.pure_eq_ret]
  refine rw_step m ρ K c 27 (by decide) (by decide) (sem_rs_recv 27 rfl) (by exact rfl) _ ?_
  refine rw_step m ρ K c 28 (by decide) (by decide) (sem_rs_recv 28 rfl) (by exact rfl) _ ?_
  refine rw_step m ρ K c 29 (by decide) (by decide) (sem_rs_recv 29 rfl) (by exact rfl) _ ?_
  exact hk

/-- Part 52: the waits for the last slots, the device's total, and the send of it to device 0. -/
theorem part52 (c : Dev nD) {α : Type} {Q : α → sProp 𝕄} {k : _ → Prog (TpuEff nD τ sig (Elt F) Λ₀ .tc) α} (x) (Fr : sProp 𝕄)
    (hk : iprop(Ctx m ρ K ∗ AsSt m ρ c 1 ∗ TotPost m ρ c ∗ Fr) ⊢ W c (k 1#32) Q) :
    iprop(Ctx m ρ K ∗ RwSt m ρ c 30 ∗ TotIn m ρ c ∗ Fr) ⊢ W c (k0_part52 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) x >>= k) Q := by
  rw [k0_part52_eq_skeleton]
  unfold k0_part52_skel
  simp only [Prog.lift, Prog.bind_assoc, Prog.bind_op, Prog.bind_ret, Prog.pure_eq_ret]
  refine rw_step m ρ K c 30 (by decide) (by decide) (sem_rs_recv 30 rfl) (by exact rfl) _ ?_
  refine rw_step m ρ K c 31 (by decide) (by decide) (sem_rs_recv 31 rfl) (by exact rfl) _ ?_
  refine tot_pre m ρ c ?_
  refine load_row m ρ c _ (k0_off67_eq c) ?_
  refine turn ?_
  refine load_recv m ρ c _ ?_
  refine turn ?_
  refine load_row m ρ c _ (k0_off67_eq c) ?_
  refine tot_store m ρ c _ (k0_off67_eq c) ?_
  refine tot_post m ρ c ?_
  refine as_step m ρ K c 0 (by decide) (cond_iff c 0 (by decide)) (fun _ => k0_dev64_eq) (fun _ => sem_ag_send 0 rfl) (fun _ => sem_ag_recv c (k0_off68_eq c)) (fun _ => k0_off69_eq c) _ ?_
  rw [Prog.bind_ret]
  exact hk

end Cert.K01
-- ==== Proof.PartsE.lean ====
module

public import proofs.«01_k».proof.Proof.Phases

/-! # Parts 53 to 61: the exchange of the totals -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

set_option maxHeartbeats 4000000 in
/-- Part 53: the sends of the total to devices 1 to 10. -/
theorem part53 (c : Dev nD) {α : Type} {Q : α → sProp 𝕄} {k : _ → Prog (TpuEff nD τ sig (Elt F) Λ₀ .tc) α} (Fr : sProp 𝕄)
    (hk : iprop(Ctx m ρ K ∗ AsSt m ρ c 11 ∗ Fr) ⊢ W c (k 11#32) Q) :
    iprop(Ctx m ρ K ∗ AsSt m ρ c 1 ∗ Fr) ⊢ W c (k0_part53 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 1#32 >>= k) Q := by
  rw [k0_part53_eq_skeleton]
  unfold k0_part53_skel
  simp only [Prog.lift, Prog.bind_assoc, Prog.bind_op, Prog.bind_ret, Prog.pure_eq_ret]
  refine as_step m ρ K c 1 (by decide) (cond_iff c 1 (by decide)) (fun _ => k0_dev65_eq) (fun _ => sem_ag_send 1 rfl) (fun _ => sem_ag_recv c (k0_off70_eq c)) (fun _ => k0_off71_eq c) _ ?_
  refine as_step m ρ K c 2 (by decide) (cond_iff c 2 (by decide)) (fun _ => k0_dev66_eq) (fun _ => sem_ag_send 2 rfl) (fun _ => sem_ag_recv c (k0_off72_eq c)) (fun _ => k0_off73_eq c) _ ?_
  refine as_step m ρ K c 3 (by decide) (cond_iff c 3 (by decide)) (fun _ => k0_dev67_eq) (fun _ => sem_ag_send 3 rfl) (fun _ => sem_ag_recv c (k0_off74_eq c)) (fun _ => k0_off75_eq c) _ ?_
  refine as_step m ρ K c 4 (by decide) (cond_iff c 4 (by decide)) (fun _ => k0_dev68_eq) (fun _ => sem_ag_send 4 rfl) (fun _ => sem_ag_recv c (k0_off76_eq c)) (fun _ => k0_off77_eq c) _ ?_
  refine as_step m ρ K c 5 (by decide) (cond_iff c 5 (by decide)) (fun _ => k0_dev69_eq) (fun _ => sem_ag_send 5 rfl) (fun _ => sem_ag_recv c (k0_off78_eq c)) (fun _ => k0_off79_eq c) _ ?_
  refine as_step m ρ K c 6 (by decide) (cond_iff c 6 (by decide)) (fun _ => k0_dev70_eq) (fun _ => sem_ag_send 6 rfl) (fun _ => sem_ag_recv c (k0_off80_eq c)) (fun _ => k0_off81_eq c) _ ?_
  refine as_step m ρ K c 7 (by decide) (cond_iff c 7 (by decide)) (fun _ => k0_dev71_eq) (fun _ => sem_ag_send 7 rfl) (fun _ => sem_ag_recv c (k0_off82_eq c)) (fun _ => k0_off83_eq c) _ ?_
  refine as_step m ρ K c 8 (by decide) (cond_iff c 8 (by decide)) (fun _ => k0_dev72_eq) (fun _ => sem_ag_send 8 rfl) (fun _ => sem_ag_recv c (k0_off84_eq c)) (fun _ => k0_off85_eq c) _ ?_
  refine as_step m ρ K c 9 (by decide) (cond_iff c 9 (by decide)) (fun _ => k0_dev73_eq) (fun _ => sem_ag_send 9 rfl) (fun _ => sem_ag_recv c (k0_off86_eq c)) (fun _ => k0_off87_eq c) _ ?_
  refine as_step m ρ K c 10 (by decide) (cond_iff c 10 (by decide)) (fun _ => k0_dev74_eq) (fun _ => sem_ag_send 10 rfl) (fun _ => sem_ag_recv c (k0_off88_eq c)) (fun _ => k0_off89_eq c) _ ?_
  rw [Prog.bind_ret]
  exact hk

set_option maxHeartbeats 4000000 in
/-- Part 54: the sends of the total to devices 11 to 20. -/
theorem part54 (c : Dev nD) {α : Type} {Q : α → sProp 𝕄} {k : _ → Prog (TpuEff nD τ sig (Elt F) Λ₀ .tc) α} (Fr : sProp 𝕄)
    (hk : iprop(Ctx m ρ K ∗ AsSt m ρ c 21 ∗ Fr) ⊢ W c (k 21#32) Q) :
    iprop(Ctx m ρ K ∗ AsSt m ρ c 11 ∗ Fr) ⊢ W c (k0_part54 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 11#32 >>= k) Q := by
  rw [k0_part54_eq_skeleton]
  unfold k0_part54_skel
  simp only [Prog.lift, Prog.bind_assoc, Prog.bind_op, Prog.bind_ret, Prog.pure_eq_ret]
  refine as_step m ρ K c 11 (by decide) (cond_iff c 11 (by decide)) (fun _ => k0_dev75_eq) (fun _ => sem_ag_send 11 rfl) (fun _ => sem_ag_recv c (k0_off90_eq c)) (fun _ => k0_off91_eq c) _ ?_
  refine as_step m ρ K c 12 (by decide) (cond_iff c 12 (by decide)) (fun _ => k0_dev76_eq) (fun _ => sem_ag_send 12 rfl) (fun _ => sem_ag_recv c (k0_off92_eq c)) (fun _ => k0_off93_eq c) _ ?_
  refine as_step m ρ K c 13 (by decide) (cond_iff c 13 (by decide)) (fun _ => k0_dev77_eq) (fun _ => sem_ag_send 13 rfl) (fun _ => sem_ag_recv c (k0_off94_eq c)) (fun _ => k0_off95_eq c) _ ?_
  refine as_step m ρ K c 14 (by decide) (cond_iff c 14 (by decide)) (fun _ => k0_dev78_eq) (fun _ => sem_ag_send 14 rfl) (fun _ => sem_ag_recv c (k0_off96_eq c)) (fun _ => k0_off97_eq c) _ ?_
  refine as_step m ρ K c 15 (by decide) (cond_iff c 15 (by decide)) (fun _ => k0_dev79_eq) (fun _ => sem_ag_send 15 rfl) (fun _ => sem_ag_recv c (k0_off98_eq c)) (fun _ => k0_off99_eq c) _ ?_
  refine as_step m ρ K c 16 (by decide) (cond_iff c 16 (by decide)) (fun _ => k0_dev80_eq) (fun _ => sem_ag_send 16 rfl) (fun _ => sem_ag_recv c (k0_off100_eq c)) (fun _ => k0_off101_eq c) _ ?_
  refine as_step m ρ K c 17 (by decide) (cond_iff c 17 (by decide)) (fun _ => k0_dev81_eq) (fun _ => sem_ag_send 17 rfl) (fun _ => sem_ag_recv c (k0_off102_eq c)) (fun _ => k0_off103_eq c) _ ?_
  refine as_step m ρ K c 18 (by decide) (cond_iff c 18 (by decide)) (fun _ => k0_dev82_eq) (fun _ => sem_ag_send 18 rfl) (fun _ => sem_ag_recv c (k0_off104_eq c)) (fun _ => k0_off105_eq c) _ ?_
  refine as_step m ρ K c 19 (by decide) (cond_iff c 19 (by decide)) (fun _ => k0_dev83_eq) (fun _ => sem_ag_send 19 rfl) (fun _ => sem_ag_recv c (k0_off106_eq c)) (fun _ => k0_off107_eq c) _ ?_
  refine as_step m ρ K c 20 (by decide) (cond_iff c 20 (by decide)) (fun _ => k0_dev84_eq) (fun _ => sem_ag_send 20 rfl) (fun _ => sem_ag_recv c (k0_off108_eq c)) (fun _ => k0_off109_eq c) _ ?_
  rw [Prog.bind_ret]
  exact hk

set_option maxHeartbeats 4000000 in
/-- Part 55: the sends of the total to devices 21 to 30. -/
theorem part55 (c : Dev nD) {α : Type} {Q : α → sProp 𝕄} {k : _ → Prog (TpuEff nD τ sig (Elt F) Λ₀ .tc) α} (Fr : sProp 𝕄)
    (hk : iprop(Ctx m ρ K ∗ AsSt m ρ c 31 ∗ Fr) ⊢ W c (k 31#32) Q) :
    iprop(Ctx m ρ K ∗ AsSt m ρ c 21 ∗ Fr) ⊢ W c (k0_part55 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 21#32 >>= k) Q := by
  rw [k0_part55_eq_skeleton]
  unfold k0_part55_skel
  simp only [Prog.lift, Prog.bind_assoc, Prog.bind_op, Prog.bind_ret, Prog.pure_eq_ret]
  refine as_step m ρ K c 21 (by decide) (cond_iff c 21 (by decide)) (fun _ => k0_dev85_eq) (fun _ => sem_ag_send 21 rfl) (fun _ => sem_ag_recv c (k0_off110_eq c)) (fun _ => k0_off111_eq c) _ ?_
  refine as_step m ρ K c 22 (by decide) (cond_iff c 22 (by decide)) (fun _ => k0_dev86_eq) (fun _ => sem_ag_send 22 rfl) (fun _ => sem_ag_recv c (k0_off112_eq c)) (fun _ => k0_off113_eq c) _ ?_
  refine as_step m ρ K c 23 (by decide) (cond_iff c 23 (by decide)) (fun _ => k0_dev87_eq) (fun _ => sem_ag_send 23 rfl) (fun _ => sem_ag_recv c (k0_off114_eq c)) (fun _ => k0_off115_eq c) _ ?_
  refine as_step m ρ K c 24 (by decide) (cond_iff c 24 (by decide)) (fun _ => k0_dev88_eq) (fun _ => sem_ag_send 24 rfl) (fun _ => sem_ag_recv c (k0_off116_eq c)) (fun _ => k0_off117_eq c) _ ?_
  refine as_step m ρ K c 25 (by decide) (cond_iff c 25 (by decide)) (fun _ => k0_dev89_eq) (fun _ => sem_ag_send 25 rfl) (fun _ => sem_ag_recv c (k0_off118_eq c)) (fun _ => k0_off119_eq c) _ ?_
  refine as_step m ρ K c 26 (by decide) (cond_iff c 26 (by decide)) (fun _ => k0_dev90_eq) (fun _ => sem_ag_send 26 rfl) (fun _ => sem_ag_recv c (k0_off120_eq c)) (fun _ => k0_off121_eq c) _ ?_
  refine as_step m ρ K c 27 (by decide) (cond_iff c 27 (by decide)) (fun _ => k0_dev91_eq) (fun _ => sem_ag_send 27 rfl) (fun _ => sem_ag_recv c (k0_off122_eq c)) (fun _ => k0_off123_eq c) _ ?_
  refine as_step m ρ K c 28 (by decide) (cond_iff c 28 (by decide)) (fun _ => k0_dev92_eq) (fun _ => sem_ag_send 28 rfl) (fun _ => sem_ag_recv c (k0_off124_eq c)) (fun _ => k0_off125_eq c) _ ?_
  refine as_step m ρ K c 29 (by decide) (cond_iff c 29 (by decide)) (fun _ => k0_dev93_eq) (fun _ => sem_ag_send 29 rfl) (fun _ => sem_ag_recv c (k0_off126_eq c)) (fun _ => k0_off127_eq c) _ ?_
  refine as_step m ρ K c 30 (by decide) (cond_iff c 30 (by decide)) (fun _ => k0_dev94_eq) (fun _ => sem_ag_send 30 rfl) (fun _ => sem_ag_recv c (k0_off128_eq c)) (fun _ => k0_off129_eq c) _ ?_
  rw [Prog.bind_ret]
  exact hk

set_option maxHeartbeats 4000000 in
/-- Part 56: the last send of the total, and the waits for the totals of devices 0 to 8. -/
theorem part56 (c : Dev nD) {α : Type} {Q : α → sProp 𝕄} {k : _ → Prog (TpuEff nD τ sig (Elt F) Λ₀ .tc) α} (Fr : sProp 𝕄)
    (hk : iprop(Ctx m ρ K ∗ AwSt m ρ c 9 ∗ SentA c ∗ Fr) ⊢ W c (k 9#32) Q) :
    iprop(Ctx m ρ K ∗ AsSt m ρ c 31 ∗ bigSep Finset.univ (awA (F := F) c) ∗ Fr) ⊢ W c (k0_part56 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 31#32 >>= k) Q := by
  rw [k0_part56_eq_skeleton]
  unfold k0_part56_skel
  simp only [Prog.lift, Prog.bind_assoc, Prog.bind_op, Prog.bind_ret, Prog.pure_eq_ret]
  refine as_step m ρ K c 31 (by decide) (cond_iff c 31 (by decide)) (fun _ => k0_dev95_eq) (fun _ => sem_ag_send 31 rfl) (fun _ => sem_ag_recv c (k0_off130_eq c)) (fun _ => k0_off131_eq c) _ ?_
  refine aw_pre m ρ c ?_
  refine aw_step m ρ K c 0 (by decide) (cond_iff c 0 (by decide)) (fun _ => sem_ag_recv 0 rfl) (fun _ => by exact rfl) _ ?_
  refine aw_step m ρ K c 1 (by decide) (cond_iff c 1 (by decide)) (fun _ => sem_ag_recv 1 rfl) (fun _ => by exact rfl) _ ?_
  refine aw_step m ρ K c 2 (by decide) (cond_iff c 2 (by decide)) (fun _ => sem_ag_recv 2 rfl) (fun _ => by exact rfl) _ ?_
  refine aw_step m ρ K c 3 (by decide) (cond_iff c 3 (by decide)) (fun _ => sem_ag_recv 3 rfl) (fun _ => by exact rfl) _ ?_
  refine aw_step m ρ K c 4 (by decide) (cond_iff c 4 (by decide)) (fun _ => sem_ag_recv 4 rfl) (fun _ => by exact rfl) _ ?_
  refine aw_step m ρ K c 5 (by decide) (cond_iff c 5 (by decide)) (fun _ => sem_ag_recv 5 rfl) (fun _ => by exact rfl) _ ?_
  refine aw_step m ρ K c 6 (by decide) (cond_iff c 6 (by decide)) (fun _ => sem_ag_recv 6 rfl) (fun _ => by exact rfl) _ ?_
  refine aw_step m ρ K c 7 (by decide) (cond_iff c 7 (by decide)) (fun _ => sem_ag_recv 7 rfl) (fun _ => by exact rfl) _ ?_
  refine aw_step m ρ K c 8 (by decide) (cond_iff c 8 (by decide)) (fun _ => sem_ag_recv 8 rfl) (fun _ => by exact rfl) _ ?_
  rw [Prog.bind_ret]
  exact hk

set_option maxHeartbeats 4000000 in
/-- Part 57: the waits for the totals of devices 9 to 18. -/
theorem part57 (c : Dev nD) {α : Type} {Q : α → sProp 𝕄} {k : _ → Prog (TpuEff nD τ sig (Elt F) Λ₀ .tc) α} (Fr : sProp 𝕄)
    (hk : iprop(Ctx m ρ K ∗ AwSt m ρ c 19 ∗ Fr) ⊢ W c (k 19#32) Q) :
    iprop(Ctx m ρ K ∗ AwSt m ρ c 9 ∗ Fr) ⊢ W c (k0_part57 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) 9#32 >>= k) Q := by
  rw [k0_part57_eq_skeleton]
  unfold k0_part57_skel
  simp only [Prog.lift, Prog.bind_assoc, Prog.bind_op, Prog.bind_ret, Prog.pure_eq_ret]
  refine aw_step m ρ K c 9 (by decide) (cond_iff c 9 (by decide)) (fun _ => sem_ag_recv 9 rfl) (fun _ => by exact rfl) _ ?_
  refine aw_step m ρ K c 10 (by decide) (cond_iff c 10 (by decide)) (fun _ => sem_ag_recv 10 rfl) (fun _ => by exact rfl) _ ?_
  refine aw_step m ρ K c 11 (by decide) (cond_iff c 11 (by decide)) (fun _ => sem_ag_recv 11 rfl) (fun _ => by exact rfl) _ ?_
  refine aw_step m ρ K c 12 (by decide) (cond_iff c 12 (by decide)) (fun _ => sem_ag_recv 12 rfl) (fun _ => by exact rfl) _ ?_
  refine aw_step m ρ K c 13 (by decide) (cond_iff c 13 (by decide)) (fun _ => sem_ag_recv 13 rfl) (fun _ => by exact rfl) _ ?_
  refine aw_step m ρ K c 14 (by decide) (cond_iff c 14 (by decide)) (fun _ => sem_ag_recv 14 rfl) (fun _ => by exact rfl) _ ?_
  refine aw_step m ρ K c 15 (by decide) (cond_iff c 15 (by decide)) (fun _ => sem_ag_recv 15 rfl) (fun _ => by exact rfl) _ ?_
  refine aw_step m ρ K c 16 (by decide) (cond_iff c 16 (by decide)) (fun _ => sem_ag_recv 16 rfl) (fun _ => by exact rfl) _ ?_
  refine aw_step m ρ K c 17 (by decide) (cond_iff c 17 (by decide)) (fun _ => sem_ag_recv 17 rfl) (fun _ => by exact rfl) _ ?_
  refine aw_step m ρ K c 18 (by decide) (cond_iff c 18 (by decide)) (fun _ => sem_ag_recv 18 rfl) (fun _ => by exact rfl) _ ?_
  rw [Prog.bind_ret]
  exact hk

set_option maxHeartbeats 4000000 in
/-- Part 58: the waits for the totals of devices 19 to 28. -/
theorem part58 (c : Dev nD) {α : Type} {Q : α → sProp 𝕄} {k : _ → Prog (TpuEff nD τ sig (Elt F) Λ₀ .tc) α} (Fr : sProp 𝕄)
    (hk : iprop(Ctx m ρ K ∗ AwSt m ρ c 29 ∗ Fr) ⊢ W c (k 29#32) Q) :
    iprop(Ctx m ρ K ∗ AwSt m ρ c 19 ∗ Fr) ⊢ W c (k0_part58 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 (own c) 19#32 >>= k) Q := by
  rw [k0_part58_eq_skeleton]
  unfold k0_part58_skel
  simp only [Prog.lift, Prog.bind_assoc, Prog.bind_op, Prog.bind_ret, Prog.pure_eq_ret]
  refine aw_step m ρ K c 19 (by decide) (cond_iff c 19 (by decide)) (fun _ => sem_ag_recv 19 rfl) (fun _ => by exact rfl) _ ?_
  refine aw_step m ρ K c 20 (by decide) (cond_iff c 20 (by decide)) (fun _ => sem_ag_recv 20 rfl) (fun _ => by exact rfl) _ ?_
  refine aw_step m ρ K c 21 (by decide) (cond_iff c 21 (by decide)) (fun _ => sem_ag_recv 21 rfl) (fun _ => by exact rfl) _ ?_
  refine aw_step m ρ K c 22 (by decide) (cond_iff c 22 (by decide)) (fun _ => sem_ag_recv 22 rfl) (fun _ => by exact rfl) _ ?_
  refine aw_step m ρ K c 23 (by decide) (cond_iff c 23 (by decide)) (fun _ => sem_ag_recv 23 rfl) (fun _ => by exact rfl) _ ?_
  refine aw_step m ρ K c 24 (by decide) (cond_iff c 24 (by decide)) (fun _ => sem_ag_recv 24 rfl) (fun _ => by exact rfl) _ ?_
  refine aw_step m ρ K c 25 (by decide) (cond_iff c 25 (by decide)) (fun _ => sem_ag_recv 25 rfl) (fun _ => by exact rfl) _ ?_
  refine aw_step m ρ K c 26 (by decide) (cond_iff c 26 (by decide)) (fun _ => sem_ag_recv 26 rfl) (fun _ => by exact rfl) _ ?_
  refine aw_step m ρ K c 27 (by decide) (cond_iff c 27 (by decide)) (fun _ => sem_ag_recv 27 rfl) (fun _ => by exact rfl) _ ?_
  refine aw_step m ρ K c 28 (by decide) (cond_iff c 28 (by decide)) (fun _ => sem_ag_recv 28 rfl) (fun _ => by exact rfl) _ ?_
  rw [Prog.bind_ret]
  exact hk

set_option maxHeartbeats 4000000 in
/-- Part 59: the last waits for totals, the store of the result, and the first of the last waits. -/
theorem part59 (c : Dev nD) {α : Type} {Q : α → sProp 𝕄} {k : _ → Prog (TpuEff nD τ sig (Elt F) Λ₀ .tc) α} (Fr : sProp 𝕄)
    (hk : ∀ x, iprop(Ctx m ρ K ∗ FwSt m ρ c 5 ∗ (OFin m ρ c ∗ AwPost m ρ c) ∗ Fr) ⊢ W c (k x) Q) :
    iprop(Ctx m ρ K ∗ AwSt m ρ c 29 ∗ (rowPts c c fullShare.right (T m ρ) ∗ OSt (F := F) c ∗ FwIn (F := F) c) ∗ Fr) ⊢ W c (k0_part59 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) 29#32 >>= k) Q := by
  rw [k0_part59_eq_skeleton]
  unfold k0_part59_skel
  simp only [Prog.lift, Prog.bind_assoc, Prog.bind_op, Prog.bind_ret, Prog.pure_eq_ret]
  refine aw_step m ρ K c 29 (by decide) (cond_iff c 29 (by decide)) (fun _ => sem_ag_recv 29 rfl) (fun _ => by exact rfl) _ ?_
  refine aw_step m ρ K c 30 (by decide) (cond_iff c 30 (by decide)) (fun _ => sem_ag_recv 30 rfl) (fun _ => by exact rfl) _ ?_
  refine aw_step m ρ K c 31 (by decide) (cond_iff c 31 (by decide)) (fun _ => sem_ag_recv 31 rfl) (fun _ => by exact rfl) _ ?_
  simp only [Prog.bind_op, Prog.bind_ret]
  refine aw_post m ρ c ?_
  refine load_all m ρ c _ ?_
  refine turn ?_
  refine load_o c _ fun _ => ?_
  refine store_o m ρ c _ ?_
  refine fw_pre m ρ c ?_
  refine fw_step m ρ K c 0 (by decide) (cond_iff c 0 (by decide)) (fun _ => sem_rs_send 0 rfl) (fun _ => sem_ag_send 0 rfl) (fun _ => by exact rfl) (fun _ => by exact rfl) _ ?_
  refine fw_step m ρ K c 1 (by decide) (cond_iff c 1 (by decide)) (fun _ => sem_rs_send 1 rfl) (fun _ => sem_ag_send 1 rfl) (fun _ => by exact rfl) (fun _ => by exact rfl) _ ?_
  refine fw_step m ρ K c 2 (by decide) (cond_iff c 2 (by decide)) (fun _ => sem_rs_send 2 rfl) (fun _ => sem_ag_send 2 rfl) (fun _ => by exact rfl) (fun _ => by exact rfl) _ ?_
  refine fw_step m ρ K c 3 (by decide) (cond_iff c 3 (by decide)) (fun _ => sem_rs_send 3 rfl) (fun _ => sem_ag_send 3 rfl) (fun _ => by exact rfl) (fun _ => by exact rfl) _ ?_
  refine fw_step m ρ K c 4 (by decide) (cond_iff c 4 (by decide)) (fun _ => sem_rs_send 4 rfl) (fun _ => sem_ag_send 4 rfl) (fun _ => by exact rfl) (fun _ => by exact rfl) _ ?_
  rw [Prog.bind_ret]
  exact hk _

set_option maxHeartbeats 4000000 in
/-- Part 60: the waits for the sends to devices 5 to 14. -/
theorem part60 (c : Dev nD) {α : Type} {Q : α → sProp 𝕄} {k : _ → Prog (TpuEff nD τ sig (Elt F) Λ₀ .tc) α} (x) (Fr : sProp 𝕄)
    (hk : ∀ x, iprop(Ctx m ρ K ∗ FwSt m ρ c 15 ∗ Fr) ⊢ W c (k x) Q) :
    iprop(Ctx m ρ K ∗ FwSt m ρ c 5 ∗ Fr) ⊢ W c (k0_part60 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) x >>= k) Q := by
  rw [k0_part60_eq_skeleton]
  unfold k0_part60_skel
  simp only [Prog.lift, Prog.bind_assoc, Prog.bind_op, Prog.bind_ret, Prog.pure_eq_ret]
  refine fw_step m ρ K c 5 (by decide) (cond_iff c 5 (by decide)) (fun _ => sem_rs_send 5 rfl) (fun _ => sem_ag_send 5 rfl) (fun _ => by exact rfl) (fun _ => by exact rfl) _ ?_
  refine fw_step m ρ K c 6 (by decide) (cond_iff c 6 (by decide)) (fun _ => sem_rs_send 6 rfl) (fun _ => sem_ag_send 6 rfl) (fun _ => by exact rfl) (fun _ => by exact rfl) _ ?_
  refine fw_step m ρ K c 7 (by decide) (cond_iff c 7 (by decide)) (fun _ => sem_rs_send 7 rfl) (fun _ => sem_ag_send 7 rfl) (fun _ => by exact rfl) (fun _ => by exact rfl) _ ?_
  refine fw_step m ρ K c 8 (by decide) (cond_iff c 8 (by decide)) (fun _ => sem_rs_send 8 rfl) (fun _ => sem_ag_send 8 rfl) (fun _ => by exact rfl) (fun _ => by exact rfl) _ ?_
  refine fw_step m ρ K c 9 (by decide) (cond_iff c 9 (by decide)) (fun _ => sem_rs_send 9 rfl) (fun _ => sem_ag_send 9 rfl) (fun _ => by exact rfl) (fun _ => by exact rfl) _ ?_
  refine fw_step m ρ K c 10 (by decide) (cond_iff c 10 (by decide)) (fun _ => sem_rs_send 10 rfl) (fun _ => sem_ag_send 10 rfl) (fun _ => by exact rfl) (fun _ => by exact rfl) _ ?_
  refine fw_step m ρ K c 11 (by decide) (cond_iff c 11 (by decide)) (fun _ => sem_rs_send 11 rfl) (fun _ => sem_ag_send 11 rfl) (fun _ => by exact rfl) (fun _ => by exact rfl) _ ?_
  refine fw_step m ρ K c 12 (by decide) (cond_iff c 12 (by decide)) (fun _ => sem_rs_send 12 rfl) (fun _ => sem_ag_send 12 rfl) (fun _ => by exact rfl) (fun _ => by exact rfl) _ ?_
  refine fw_step m ρ K c 13 (by decide) (cond_iff c 13 (by decide)) (fun _ => sem_rs_send 13 rfl) (fun _ => sem_ag_send 13 rfl) (fun _ => by exact rfl) (fun _ => by exact rfl) _ ?_
  refine fw_step m ρ K c 14 (by decide) (cond_iff c 14 (by decide)) (fun _ => sem_rs_send 14 rfl) (fun _ => sem_ag_send 14 rfl) (fun _ => by exact rfl) (fun _ => by exact rfl) _ ?_
  rw [Prog.bind_ret]
  exact hk _

set_option maxHeartbeats 4000000 in
/-- Part 61: the waits for the sends to devices 15 to 24. -/
theorem part61 (c : Dev nD) {α : Type} {Q : α → sProp 𝕄} {k : _ → Prog (TpuEff nD τ sig (Elt F) Λ₀ .tc) α} (x) (Fr : sProp 𝕄)
    (hk : ∀ x, iprop(Ctx m ρ K ∗ FwSt m ρ c 25 ∗ Fr) ⊢ W c (k x) Q) :
    iprop(Ctx m ρ K ∗ FwSt m ρ c 15 ∗ Fr) ⊢ W c (k0_part61 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 c (own c) x >>= k) Q := by
  rw [k0_part61_eq_skeleton]
  unfold k0_part61_skel
  simp only [Prog.lift, Prog.bind_assoc, Prog.bind_op, Prog.bind_ret, Prog.pure_eq_ret]
  refine fw_step m ρ K c 15 (by decide) (cond_iff c 15 (by decide)) (fun _ => sem_rs_send 15 rfl) (fun _ => sem_ag_send 15 rfl) (fun _ => by exact rfl) (fun _ => by exact rfl) _ ?_
  refine fw_step m ρ K c 16 (by decide) (cond_iff c 16 (by decide)) (fun _ => sem_rs_send 16 rfl) (fun _ => sem_ag_send 16 rfl) (fun _ => by exact rfl) (fun _ => by exact rfl) _ ?_
  refine fw_step m ρ K c 17 (by decide) (cond_iff c 17 (by decide)) (fun _ => sem_rs_send 17 rfl) (fun _ => sem_ag_send 17 rfl) (fun _ => by exact rfl) (fun _ => by exact rfl) _ ?_
  refine fw_step m ρ K c 18 (by decide) (cond_iff c 18 (by decide)) (fun _ => sem_rs_send 18 rfl) (fun _ => sem_ag_send 18 rfl) (fun _ => by exact rfl) (fun _ => by exact rfl) _ ?_
  refine fw_step m ρ K c 19 (by decide) (cond_iff c 19 (by decide)) (fun _ => sem_rs_send 19 rfl) (fun _ => sem_ag_send 19 rfl) (fun _ => by exact rfl) (fun _ => by exact rfl) _ ?_
  refine fw_step m ρ K c 20 (by decide) (cond_iff c 20 (by decide)) (fun _ => sem_rs_send 20 rfl) (fun _ => sem_ag_send 20 rfl) (fun _ => by exact rfl) (fun _ => by exact rfl) _ ?_
  refine fw_step m ρ K c 21 (by decide) (cond_iff c 21 (by decide)) (fun _ => sem_rs_send 21 rfl) (fun _ => sem_ag_send 21 rfl) (fun _ => by exact rfl) (fun _ => by exact rfl) _ ?_
  refine fw_step m ρ K c 22 (by decide) (cond_iff c 22 (by decide)) (fun _ => sem_rs_send 22 rfl) (fun _ => sem_ag_send 22 rfl) (fun _ => by exact rfl) (fun _ => by exact rfl) _ ?_
  refine fw_step m ρ K c 23 (by decide) (cond_iff c 23 (by decide)) (fun _ => sem_rs_send 23 rfl) (fun _ => sem_ag_send 23 rfl) (fun _ => by exact rfl) (fun _ => by exact rfl) _ ?_
  refine fw_step m ρ K c 24 (by decide) (cond_iff c 24 (by decide)) (fun _ => sem_rs_send 24 rfl) (fun _ => sem_ag_send 24 rfl) (fun _ => by exact rfl) (fun _ => by exact rfl) _ ?_
  rw [Prog.bind_ret]
  exact hk _

end Cert.K01
-- ==== Proof.Body.lean ====
module

public import proofs.«01_k».proof.Proof.PartsA
public import proofs.«01_k».proof.Proof.PartsB
public import proofs.«01_k».proof.Proof.PartsC
public import proofs.«01_k».proof.Proof.PartsD
public import proofs.«01_k».proof.Proof.PartsE

/-! # The kernel on one device, from its first statement to its last -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- Entailment through a middle assertion. -/
theorem through {a c : sProp 𝕄} (b : sProp 𝕄) (h1 : a ⊢ b) (h2 : b ⊢ c) : a ⊢ c := h1.trans h2

/-- The tokens of the first exchange's sends. -/
def rsTok (c : Dev nD) : sProp 𝕄 := bigSep (others c) (fun d => iprop(Tok c (some (1, d)) 0 ∗ Tok d (some (2, c - d)) 0))

/-- The slots that the barrier hands over, with the tokens, are what the two groups of sends need. -/
theorem rs_ready (c : Dev nD) :
    iprop(bigSep (Finset.univ.erase c) (fun d : Fin 32 => iprop(∃ f, slotPts d (c - d) f)) ∗ rsTok (F := F) c)
      ⊢ iprop(bigSep low (rsPre (F := F) c) ∗ bigSep high (rsPre (F := F) c)) := by
  refine BI.Entails.trans ?_ (Entails.of_eq (BI.bigSep_filter_split Finset.univ fun i : Fin 32 => i.val < 16))
  unfold rsTok rsPre
  rw [at_none, fam_sep (others c) (fun d => iprop(∃ f, slotPts (F := F) d (c - d) f))]
  exact fun _ h => h

/-- What a device holds for the last phases while the earlier ones run. -/
def Later3 (c : Dev nD) : sProp 𝕄 := iprop(bigSep Finset.univ (awA (F := F) c) ∗ OSt c ∗ fwAt c 0)
def Later2 (c : Dev nD) : sProp 𝕄 := iprop(bigSep Finset.univ (rwA (F := F) c) ∗ asTok c ∗ Later3 c)
def Later (c : Dev nD) : sProp 𝕄 := iprop(HalfSt c 0 ∗ HalfSt c 1 ∗ rsTok c ∗ Later2 c)
/-- What is kept of the first exchange to the end. -/
def Kept (c : Dev nD) : sProp 𝕄 :=
  iprop(bigSep (others 0) (fun j => At c (some (2, j)) 1) ∗ (((c : Thread nD τ).loc cc0_scratch3) ↦[recvSet]{fullShare} R m ρ c)
    ∗ rowPts c c (leaf 5 fullShare.left c) (T m ρ))

set_option maxHeartbeats 4000000 in
/-- The kernel up to part 60. -/
theorem part62 (c : Dev nD) {α : Type} {Q : α → sProp 𝕄} {k : _ → Prog (TpuEff nD τ sig (Elt F) Λ₀ .tc) α} (Fr : sProp 𝕄)
    (hk : ∀ x, iprop(Ctx m ρ K ∗ FwSt m ρ c 15 ∗ (OFin m ρ c ∗ AwPost m ρ c) ∗ Kept m ρ c ∗ KV m c ∗ KwPost m c ∗ At c none 1 ∗ XSt m ρ c ∗ Fr) ⊢ W c (k ⟨c, own c, x⟩) Q) :
    iprop(Ctx m ρ K ∗ SigSt c 1 ∗ KvSt m c 0 ∗ XSt m ρ c ∗ bigSep Finset.univ (fun i : Fin 32 => At c (some (0, i)) 0) ∗ Bar0 c ∗ Later c ∗ Fr) ⊢ W c (k0_part62 xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8 >>= k) Q := by
  rw [k0_part62_eq_skeleton]
  unfold k0_part62_skel
  simp only [Prog.bind_assoc]
  refine part1 m ρ K c _ (fun _ _ => ?_)
  try simp only [Prog.bind_assoc]
  refine part2 m ρ K c _ _ _ (fun _ _ => ?_)
  try simp only [Prog.bind_assoc]
  refine part3 m ρ K c _ _ _ (fun _ _ => ?_)
  try simp only [Prog.bind_assoc]
  refine part4 m ρ K c _ _ _ (fun _ _ => ?_)
  try simp only [Prog.bind_assoc]
  refine part5 m ρ K c _ _ _ (fun _ _ => ?_)
  try simp only [Prog.bind_assoc]
  refine part6 m ρ K c _ _ _ ?_
  try simp only [Prog.bind_assoc]
  refine turn ?_
  refine part7 m ρ K c _ ?_
  try simp only [Prog.bind_assoc]
  refine part8 m ρ K c _ ?_
  try simp only [Prog.bind_assoc]
  refine part9 m ρ K c _ ?_
  try simp only [Prog.bind_assoc]
  refine part10 m ρ K c _ ?_
  try simp only [Prog.bind_assoc]
  refine part11 m ρ K c _ ?_
  try simp only [Prog.bind_assoc]
  refine part12 m ρ K c _ ?_
  try simp only [Prog.bind_assoc]
  refine part13 m ρ K c _ ?_
  try simp only [Prog.bind_assoc]
  refine part14 m ρ K c _ ?_
  try simp only [Prog.bind_assoc]
  refine part15 m ρ K c _ ?_
  try simp only [Prog.bind_assoc]
  refine part16 m ρ K c _ ?_
  try simp only [Prog.bind_assoc]
  refine through (iprop(Ctx m ρ K ∗ KvSt m c 30 ∗ XSt m ρ c ∗ SigSt c 32 ∗ bigSep Finset.univ (fun i : Fin 32 => At c (some (0, i)) 0) ∗ Bar0 c ∗ Later c ∗ Fr)) ?_ ?_
  · iintro ⟨HC, Hk, Hs, Hx, Ha, Hb, Hl, HF⟩
    iframe HC Hk Hs Hx Ha Hb Hl HF
  refine part17 m ρ K c _ ?_
  try simp only [Prog.bind_assoc]
  refine through (iprop(Ctx m ρ K ∗ KwSt m c 0 ∗ Bar0 c ∗ XSt m ρ c ∗ Later c ∗ Fr)) ?_ ?_
  · iintro ⟨HC, Hk, Hx, Hs, Ha, Hb, Hl, HF⟩
    ihave Hw := (kw_start m c) $$ [Hs Hk Ha]
    · iframe Hs Hk Ha
    iframe HC Hw Hb Hx Hl HF
  refine part18 m ρ K c _ ?_
  try simp only [Prog.bind_assoc]
  refine part19 m ρ K c _ ?_
  try simp only [Prog.bind_assoc]
  refine part20 m ρ K c _ ?_
  try simp only [Prog.bind_assoc]
  refine part21 m ρ K c _ ?_
  try simp only [Prog.bind_assoc]
  refine part22 m ρ K c _ ?_
  try simp only [Prog.bind_assoc]
  refine part23 m ρ K c _ ?_
  try simp only [Prog.bind_assoc]
  refine part24 m ρ K c _ ?_
  try simp only [Prog.bind_assoc]
  refine part25 m ρ K c _ ?_
  try simp only [Prog.bind_assoc]
  refine part26 m ρ K c _ ?_
  try simp only [Prog.bind_assoc]
  refine part27 m ρ K c _ (fun _ => ?_)
  try simp only [Prog.bind_assoc]
  refine part28 m ρ K c _ ?_
  try simp only [Prog.bind_assoc]
  refine part29 m ρ K c _ ?_
  try simp only [Prog.bind_assoc]
  refine part30 m ρ K c _ ?_
  try simp only [Prog.bind_assoc]
  refine part31 m ρ K c _ ?_
  try simp only [Prog.bind_assoc]
  refine part32 m ρ K c _ ?_
  try simp only [Prog.bind_assoc]
  refine through (iprop(Ctx m ρ K ∗ KV m c ∗ HalfSt c 0 ∗ RsIn low c 0 ∗ HalfSt c 1 ∗ bigSep high (rsPre (F := F) c) ∗ KwPost m c ∗ At c none 1 ∗ XSt m ρ c ∗ Later2 c ∗ Fr)) ?_ ?_
  · unfold BarPost Later RsIn
    iintro ⟨HC, Hkv, ⟨⟨HO, Ha, Hd⟩, Hkw⟩, Hx, ⟨Hh0, Hh1, Ht, Hl⟩, HF⟩
    ihave Hs := (rs_ready (F := F) c) $$ [Hd Ht]
    · iframe Hd Ht
    icases Hs with ⟨H0, H1⟩
    iframe HC Hkv Hh0 HO H0 Hh1 H1 Hkw Ha Hx Hl HF
  refine part33 m ρ K c _ ?_
  try simp only [Prog.bind_assoc]
  refine turn ?_
  refine part34 m ρ K c _ ?_
  try simp only [Prog.bind_assoc]
  refine turn ?_
  refine part35 m ρ K c _ ?_
  try simp only [Prog.bind_assoc]
  refine part36 m ρ K c _ ?_
  try simp only [Prog.bind_assoc]
  refine part37 m ρ K c _ ?_
  try simp only [Prog.bind_assoc]
  refine part38 m ρ K c _ ?_
  try simp only [Prog.bind_assoc]
  refine part39 m ρ K c _ ?_
  try simp only [Prog.bind_assoc]
  refine part40 m ρ K c _ ?_
  try simp only [Prog.bind_assoc]
  refine through (iprop(Ctx m ρ K ∗ HalfSt c 1 ∗ RsIn high c 16 ∗ fam low (rsA m ρ c) (rsB m ρ c) 16 ∗ KV m c ∗ KwPost m c ∗ At c none 1 ∗ XSt m ρ c ∗ Later2 c ∗ Fr)) ?_ ?_
  · unfold RsSt RsIn
    iintro ⟨HC, Hkv, ⟨HO, Hf⟩, Hh1, H1, Hkw, Ha, Hx, Hl, HF⟩
    iframe HC Hh1 HO H1 Hf Hkv Hkw Ha Hx Hl HF
  refine part41 m ρ K c _ (fun _ => ?_)
  try simp only [Prog.bind_assoc]
  refine part42 m ρ K c _ _ ?_
  try simp only [Prog.bind_assoc]
  refine through (iprop(Ctx m ρ K ∗ RwSt m ρ c 1 ∗ TotIn m ρ c ∗ SentR c ∗ KV m c ∗ KwPost m c ∗ At c none 1 ∗ XSt m ρ c ∗ Later3 c ∗ Fr)) ?_ ?_
  · unfold RsSt Later2 TotIn SentR
    rw [oR_end, add_zero]
    iintro ⟨HC, ⟨HO, Hf1⟩, Hf, Hkv, Hkw, Ha, Hx, ⟨Hr, Ht, Hl⟩, HF⟩
    ihave Hp := (rs_end m ρ c) $$ [Hf Hf1]
    · iframe Hf Hf1
    unfold rsPost
    icases Hp with ⟨Hp, Hs⟩
    ihave Hw := (rw_start m ρ c) $$ [HO Hr]
    · iframe HO Hr
    iframe HC Hw Hp Ht Hs Hkv Hkw Ha Hx Hl HF
  refine part43 m ρ K c _ ?_
  try simp only [Prog.bind_assoc]
  refine part44 m ρ K c _ ?_
  try simp only [Prog.bind_assoc]
  refine part45 m ρ K c _ ?_
  try simp only [Prog.bind_assoc]
  refine part46 m ρ K c _ ?_
  try simp only [Prog.bind_assoc]
  refine part47 m ρ K c _ ?_
  try simp only [Prog.bind_assoc]
  refine part48 m ρ K c _ ?_
  try simp only [Prog.bind_assoc]
  refine part49 m ρ K c _ ?_
  try simp only [Prog.bind_assoc]
  refine part50 m ρ K c _ ?_
  try simp only [Prog.bind_assoc]
  refine part51 m ρ K c _ ?_
  try simp only [Prog.bind_assoc]
  refine part52 m ρ K c _ _ ?_
  try simp only [Prog.bind_assoc]
  refine part53 m ρ K c _ ?_
  try simp only [Prog.bind_assoc]
  refine part54 m ρ K c _ ?_
  try simp only [Prog.bind_assoc]
  refine part55 m ρ K c _ ?_
  try simp only [Prog.bind_assoc]
  refine through (iprop(Ctx m ρ K ∗ AsSt m ρ c 31 ∗ bigSep Finset.univ (awA (F := F) c) ∗ TotPost m ρ c ∗ SentR c ∗ KV m c ∗ KwPost m c ∗ At c none 1 ∗ XSt m ρ c ∗ OSt c ∗ fwAt c 0 ∗ Fr)) ?_ ?_
  · unfold Later3
    iintro ⟨HC, Hs, Hp, Hsr, Hkv, Hkw, Ha, Hx, ⟨Hw, Ho, Hf⟩, HF⟩
    iframe HC Hs Hw Hp Hsr Hkv Hkw Ha Hx Ho Hf HF
  refine part56 m ρ K c _ ?_
  try simp only [Prog.bind_assoc]
  refine part57 m ρ K c _ ?_
  try simp only [Prog.bind_assoc]
  refine part58 m ρ K c _ ?_
  try simp only [Prog.bind_assoc]
  refine through (iprop(Ctx m ρ K ∗ AwSt m ρ c 29 ∗ (rowPts c c fullShare.right (T m ρ) ∗ OSt (F := F) c ∗ FwIn (F := F) c) ∗ Kept m ρ c ∗ KV m c ∗ KwPost m c ∗ At c none 1 ∗ XSt m ρ c ∗ Fr)) ?_ ?_
  · unfold TotPost Kept FwIn
    iintro ⟨HC, Hw, Hsa, ⟨H2, Hr, Hrt, Hlf⟩, Hsr, Hkv, Hkw, Ha, Hx, Ho, Hf, HF⟩
    iframe HC Hw Hrt Ho Hsr Hsa Hf H2 Hr Hlf Hkv Hkw Ha Hx HF
  refine part59 m ρ K c _ (fun _ => ?_)
  try simp only [Prog.bind_assoc]
  refine part60 m ρ K c _ _ (fun _ => ?_)
  try simp only [Prog.bind_assoc]
  rw [Prog.pure_eq_ret, Prog.bind_ret]
  exact hk _

/-- What a device holds at the end, besides its debts. -/
def Done (c : Dev nD) : sProp 𝕄 :=
  iprop(fwAt c 1 ∗ (((c : Thread nD τ).loc cc0_scratch0) ↦[Finset.univ]{fullShare} T m ρ) ∗ OFin m ρ c ∗ bigSep (others c) (fun j => At c (some (4, j)) 1)
    ∗ bigSep (others 0) (fun j => At c (some (2, j)) 1) ∗ (((c : Thread nD τ).loc cc0_scratch3) ↦[recvSet]{fullShare} R m ρ c)
    ∗ KV m c ∗ KwPost m c ∗ At c none 1 ∗ XSt m ρ c)

set_option maxHeartbeats 4000000 in
/-- The whole kernel. -/
theorem whole (c : Dev nD) {Q : PUnit → sProp 𝕄} (Fr : sProp 𝕄) (hk : iprop(Ctx m ρ K ∗ (Ow c 0 ∗ Done m ρ c) ∗ Fr) ⊢ W c (.ret ⟨⟩) Q) :
    iprop(Ctx m ρ K ∗ SigSt c 1 ∗ KvSt m c 0 ∗ XSt m ρ c ∗ bigSep Finset.univ (fun i : Fin 32 => At c (some (0, i)) 0) ∗ Bar0 c ∗ Later c ∗ Fr) ⊢ W c (cc0__body xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8) Q := by
  rw [cc0__body_eq_skeleton]
  unfold cc0__body_skel
  refine part62 m ρ K c _ (fun _ => ?_)
  refine part61 m ρ K c _ _ (fun _ => ?_)
  simp only [Prog.lift, Prog.bind_assoc, Prog.bind_op, Prog.bind_ret, Prog.pure_eq_ret]
  rw [show ∀ p : Prog (TpuEff nD τ sig (Elt F) Λ₀ .tc) PUnit, W c p Q = W c (p >>= Prog.ret) Q from fun p => congrArg (fun p => W c p Q) (Prog.bind_pure p).symm]
  refine fw_step m ρ K c 25 (by decide) (cond_iff c 25 (by decide)) (fun _ => sem_rs_send 25 rfl) (fun _ => sem_ag_send 25 rfl) (fun _ => by exact rfl) (fun _ => by exact rfl) _ ?_
  refine fw_step m ρ K c 26 (by decide) (cond_iff c 26 (by decide)) (fun _ => sem_rs_send 26 rfl) (fun _ => sem_ag_send 26 rfl) (fun _ => by exact rfl) (fun _ => by exact rfl) _ ?_
  refine fw_step m ρ K c 27 (by decide) (cond_iff c 27 (by decide)) (fun _ => sem_rs_send 27 rfl) (fun _ => sem_ag_send 27 rfl) (fun _ => by exact rfl) (fun _ => by exact rfl) _ ?_
  refine fw_step m ρ K c 28 (by decide) (cond_iff c 28 (by decide)) (fun _ => sem_rs_send 28 rfl) (fun _ => sem_ag_send 28 rfl) (fun _ => by exact rfl) (fun _ => by exact rfl) _ ?_
  refine fw_step m ρ K c 29 (by decide) (cond_iff c 29 (by decide)) (fun _ => sem_rs_send 29 rfl) (fun _ => sem_ag_send 29 rfl) (fun _ => by exact rfl) (fun _ => by exact rfl) _ ?_
  refine fw_step m ρ K c 30 (by decide) (cond_iff c 30 (by decide)) (fun _ => sem_rs_send 30 rfl) (fun _ => sem_ag_send 30 rfl) (fun _ => by exact rfl) (fun _ => by exact rfl) _ ?_
  refine fw_step m ρ K c 31 (by decide) (cond_iff c 31 (by decide)) (fun _ => sem_rs_send 31 rfl) (fun _ => sem_ag_send 31 rfl) (fun _ => by exact rfl) (fun _ => by exact rfl) _ ?_
  rw [Prog.bind_ret]
  refine through _ ?_ hk
  unfold AwPost Kept Done
  iintro ⟨HC, Hf, ⟨Ho, H4, Hs, Hl⟩, ⟨H2, Hr, Hlf⟩, Hkv, Hkw, Ha, Hx, HF⟩
  ihave Hf := (fw_end m ρ c) $$ [Hf Hlf Hs Hl]
  · iframe Hf Hlf Hs Hl
  icases Hf with ⟨HO, Hf, Hp⟩
  iframe HC HO Hf Hp Ho H4 H2 Hr Hkv Hkw Ha Hx HF

end Cert.K01
-- ==== Proof.Setup.lean ====
module

public import proofs.«01_k».proof.Proof.Body

/-! # From the launch to the kernel and back

What the launch gives a device, split as the phases of the kernel want it; what the kernel leaves, joined again. -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-! ## Whole buffers as the phases want them -/

omit [FloatOps F] in
/-- A family at unknown contents, from the family at known ones. -/
theorem fam_any {B : Type} (S : Finset (Fin 32)) (X : Fin 32 → B → sProp 𝕄) (f : B) : bigSep S (fun i => X i f) ⊢ bigSep S (fun i => iprop(∃ f, X i f)) := by
  have h : ∀ i, X i f ⊢ iprop(∃ f, X i f) := fun i => by
    iintro H; iexists f; iexact H
  exact bigSep_mono fun i _ => h i

omit [FloatOps F] in
/-- A family over the low and over the high indices. -/
theorem low_high (A : Fin 32 → sProp 𝕄) : bigSep Finset.univ A = iprop(bigSep low A ∗ bigSep high A) :=
  BI.bigSep_filter_split Finset.univ fun i : Fin 32 => i.val < 16

/-- The receive buffer, slot by slot. -/
theorem slots_split (c : Dev nD) (f : Buf (Elt F) ((c : Thread nD τ).loc cc0_scratch3)) :
    (((c : Thread nD τ).loc cc0_scratch3) ↦[Finset.univ]{fullShare} f)
      ⊢ iprop((∃ f, slotPts c 0 f) ∗ bigSep (others 0) (fun i => iprop(∃ f, slotPts c i f))) := by
  rw [← slotPts_union c Finset.univ slots_all f, ← fam_erase (0 : Fin 32) (fun i => iprop(∃ f, slotPts (F := F) c i f))]
  exact fam_any _ _ f

/-- The receive buffer, whole again. -/
theorem slots_join (c : Dev nD) (f g : Buf (Elt F) ((c : Thread nD τ).loc cc0_scratch3)) :
    iprop(slotPts c 0 f ∗ (((c : Thread nD τ).loc cc0_scratch3) ↦[recvSet]{fullShare} g)) ⊢ iprop(∃ h, ((c : Thread nD τ).loc cc0_scratch3) ↦[Finset.univ]{fullShare} h) := by
  have hd : Disjoint (slotSet 0) recvSet := Finset.disjoint_left.mpr fun i hi hi' => by
    obtain ⟨t, ht, h⟩ := Finset.mem_biUnion.mp hi'
    exact Finset.ne_of_mem_erase ht (Fin.ext ((Finset.mem_filter.mp h).2.symm.trans (Finset.mem_filter.mp hi).2))
  have hu : slotSet 0 ∪ recvSet = Finset.univ := by
    rw [← slots_all, recvSet, ← Finset.biUnion_insert, Finset.insert_erase (Finset.mem_univ _)]
  unfold slotPts
  iintro H
  ihave H := (pointsTo_join (ℓ := (c : Thread nD τ).loc cc0_scratch3) (q := fullShare) (f := f) (g := g) hd) $$ H
  rw [← hu]
  iexists _
  iexact H

/-- The buffer of partial results, as two halves. -/
theorem halves_split (c : Dev nD) (f : Buf (Elt F) ((c : Thread nD τ).loc cc0_scratch0)) :
    (((c : Thread nD τ).loc cc0_scratch0) ↦[Finset.univ]{fullShare} f) ⊢ iprop(HalfSt c 0 ∗ HalfSt (F := F) c 1) := by
  rw [← rowPts_union c Finset.univ rows_all fullShare f, low_high,
    rowPts_union c low rows_low fullShare f, rowPts_union c high rows_high fullShare f]
  unfold HalfSt
  iintro ⟨H0, H1⟩
  isplitl [H0]
  · iexists f; iexact H0
  · iexists f; iexact H1

/-- The buffers of keys and values, head by head. -/
theorem kv_split (c : Dev nD) (f : Buf (Elt F) ((c : Thread nD τ).loc cc0_scratch1)) (g : Buf (Elt F) ((c : Thread nD τ).loc cc0_scratch2)) :
    iprop((((c : Thread nD τ).loc cc0_scratch1) ↦[Finset.univ]{fullShare} f) ∗ (((c : Thread nD τ).loc cc0_scratch2) ↦[Finset.univ]{fullShare} g))
      ⊢ bigSep Finset.univ (kvAny (F := F) c) := by
  rw [low_high]
  have h1 : (((c : Thread nD τ).loc cc0_scratch1) ↦[Finset.univ]{fullShare} f) ⊢ bigSep low (kvAny (F := F) c) := by
    rw [← scr_low, pointsTo_biUnion low _ fun t _ t' _ hne => scr_ne fun e => hne (Fin.ext e),
      show bigSep low (kvAny (F := F) c) = bigSep low (fun i => iprop(∃ f, kPts (F := F) c i.val f)) from bigSep_congr fun i hi => if_pos (Finset.mem_filter.mp hi).2]
    exact fam_any low (fun i f => kPts c i.val f) f
  have h2 : (((c : Thread nD τ).loc cc0_scratch2) ↦[Finset.univ]{fullShare} g) ⊢ bigSep high (kvAny (F := F) c) := by
    rw [← scr_high, pointsTo_biUnion high _ fun t ht t' ht' hne => scr_ne fun e => hne (Fin.ext (by
        have := (Finset.mem_filter.mp ht).2; have := (Finset.mem_filter.mp ht').2; omega)),
      show bigSep high (kvAny (F := F) c) = bigSep high (fun i => iprop(∃ f, vPts (F := F) c (i.val - 16) f)) from bigSep_congr fun i hi => if_neg (Finset.mem_filter.mp hi).2]
    exact fam_any high (fun i f => vPts c (i.val - 16) f) g
  iintro ⟨H1, H2⟩
  ihave H1 := h1 $$ H1
  ihave H2 := h2 $$ H2
  isplitl [H1] <;> iassumption

theorem hbm_ne (c : Dev nD) {e e' : ℕ} (h : e ≠ e') : Disjoint (hbmSet c e) (hbmSet c e') :=
  Finset.disjoint_left.mpr fun i hi hi' => by
    have h1 := (Finset.mem_filter.mp hi).2
    have h2 := (Finset.mem_filter.mp hi').2
    exact h (by omega)

/-- The parts of the arrays of keys and values that device `c` reads, and the rest. -/
def kUse (c : Dev nD) : Finset S2x512x256x64.Idx := low.biUnion fun i => hbmSet c i.val
def vUse (c : Dev nD) : Finset S2x512x256x64.Idx := high.biUnion fun i => hbmSet c (i.val - 16)
def Arrays (c : Dev nD) : sProp 𝕄 :=
  iprop((((c : Thread nD τ).loc main_arg2) ↦[Finset.univ]{fullShare} karr m c) ∗ (((c : Thread nD τ).loc main_arg3) ↦[Finset.univ]{fullShare} varr m c))
def ArrRest (c : Dev nD) : sProp 𝕄 :=
  iprop((((c : Thread nD τ).loc main_arg2) ↦[Finset.univ \ kUse c]{fullShare} karr m c) ∗ (((c : Thread nD τ).loc main_arg3) ↦[Finset.univ \ vUse c]{fullShare} varr m c))

omit [FloatOps F] in
/-- An entailment, in the other of its two spellings. -/
theorem of_turnstile {a b : sProp 𝕄} (h : a ⊢ b) : Idealize.SL.BI.Entails a b := h

theorem arrays_eq (c : Dev nD) : Arrays m c = iprop(bigSep Finset.univ (kvSrc m c) ∗ ArrRest m c) := by
  rw [low_high]
  have h1 : bigSep low (kvSrc m c) = (((c : Thread nD τ).loc main_arg2) ↦[kUse c]{fullShare} karr m c) := by
    unfold kUse
    rw [pointsTo_biUnion low _ fun t _ t' _ hne => hbm_ne c fun e => hne (Fin.ext e)]
    exact bigSep_congr fun i hi => if_pos (Finset.mem_filter.mp hi).2
  have h2 : bigSep high (kvSrc m c) = (((c : Thread nD τ).loc main_arg3) ↦[vUse c]{fullShare} varr m c) := by
    unfold vUse
    rw [pointsTo_biUnion high _ fun t ht t' ht' hne => hbm_ne c fun e => hne (Fin.ext (by
      have := (Finset.mem_filter.mp ht).2; have := (Finset.mem_filter.mp ht').2; omega))]
    exact bigSep_congr fun i hi => if_neg (Finset.mem_filter.mp hi).2
  rw [h1, h2]
  have e1 : (((c : Thread nD τ).loc main_arg2) ↦[Finset.univ]{fullShare} karr m c : sProp 𝕄) ⊣⊢ iprop((((c : Thread nD τ).loc main_arg2) ↦[kUse c]{fullShare} karr m c) ∗ (((c : Thread nD τ).loc main_arg2) ↦[Finset.univ \ kUse c]{fullShare} karr m c)) :=
    pointsTo_split_subset (Finset.subset_univ (kUse c))
  have e2 : (((c : Thread nD τ).loc main_arg3) ↦[Finset.univ]{fullShare} varr m c : sProp 𝕄) ⊣⊢ iprop((((c : Thread nD τ).loc main_arg3) ↦[vUse c]{fullShare} varr m c) ∗ (((c : Thread nD τ).loc main_arg3) ↦[Finset.univ \ vUse c]{fullShare} varr m c)) :=
    pointsTo_split_subset (Finset.subset_univ (vUse c))
  refine BI.Entails.antisymm (of_turnstile ?_) (of_turnstile ?_)
  · unfold Arrays ArrRest
    have e1 := e1.1
    have e2 := e2.1
    iintro ⟨H1, H2⟩
    ihave H1 := e1 $$ H1
    ihave H2 := e2 $$ H2
    icases H1 with ⟨H1, H1'⟩
    icases H2 with ⟨H2, H2'⟩
    iframe H1 H2 H1' H2'
  · unfold Arrays ArrRest
    have e1 := e1.2
    have e2 := e2.2
    iintro ⟨⟨H1, H2⟩, H1', H2'⟩
    isplitl [H1 H1']
    · iapply e1; iframe H1 H1'
    · iapply e2; iframe H2 H2'

/-! ## What a device starts from -/

/-- The tokens a device pays with. -/
def payToks (c : Dev nD) : sProp 𝕄 :=
  iprop(bigSep Finset.univ (fun i : Fin 32 => Tok (c + i) none c) ∗ bigSep Finset.univ (fun i : Fin 32 => Tok c (some (0, i)) 0)
    ∗ bigSep Finset.univ (fun d : Fin 32 => Tok c (some (1, d)) 0) ∗ bigSep Finset.univ (fun d : Fin 32 => Tok d (some (2, c - d)) 0)
    ∗ bigSep Finset.univ (fun d : Fin 32 => Tok c (some (3, d)) 0) ∗ bigSep Finset.univ (fun d : Fin 32 => Tok d (some (4, c)) 0))
/-- Its positions. -/
def atAll (c : Dev nD) : sProp 𝕄 :=
  iprop(At c none 0 ∗ bigSep Finset.univ (fun i : Fin 32 => At c (some (0, i)) 0) ∗ bigSep Finset.univ (fun i : Fin 32 => At c (some (1, i)) 0)
    ∗ bigSep Finset.univ (fun i : Fin 32 => At c (some (2, i)) 0) ∗ bigSep Finset.univ (fun i : Fin 32 => At c (some (3, i)) 0) ∗ bigSep Finset.univ (fun i : Fin 32 => At c (some (4, i)) 0))
/-- Its credits. -/
def crAll (c : Dev nD) : sProp 𝕄 :=
  iprop(Cr c none 31 ∗ bigSep (others 0) (fun j => Cr c (some (2, j)) Nx) ∗ bigSep (others c) (fun j => Cr c (some (4, j)) Nx))
/-- Its scratch buffers. -/
def scrAll (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What the kernel does not touch. -/
def Extra (c : Dev nD) : sProp 𝕄 :=
  iprop(At c (some (1, c)) 0 ∗ At c (some (2, 0)) 0 ∗ At c (some (3, c)) 0 ∗ At c (some (4, c)) 0 ∗ (∃ f, slotPts c 0 f) ∗ ArrRest m c)

/-- What a device starts with is what the kernel asks for, and the rest. -/
theorem setup (c : Dev nD) :
    iprop(Ow c (O₀ c) ∗ payToks (F := F) c ∗ atAll c ∗ crAll c ∗ scrAll c ∗ Arrays m c ∗ XSt m ρ c ∗ OSt c)
      ⊢ iprop((SigSt c 1 ∗ KvSt m c 0 ∗ XSt m ρ c ∗ bigSep Finset.univ (fun i : Fin 32 => At c (some (0, i)) 0) ∗ Bar0 c ∗ Later c) ∗ Extra m c) := by
  have hs : iprop(Ow c (O₀ c) ∗ bigSep (others 0) (fun i : Fin 32 => Tok (c + i) none c) ∗ bigSep (others 0) (fun i : Fin 32 => iprop(∃ f, slotPts c i f))) ⊢ SigSt (F := F) c 1 := by
    unfold SigSt
    rw [← fam_start (sigA (F := F) c) (fun _ => iprop(emp)) (n := 1) fun i _ hn => by
      have : i = 0 := Fin.ext (by show i.val = 0; omega)
      subst this; exact if_pos rfl]
    unfold sigA
    rw [at_none, fam_sep (others 0) (fun i => Tok (F := F) (c + i) none c)]
    exact fun _ h => h
  have hk : iprop(bigSep Finset.univ (fun i : Fin 32 => Tok c (some (0, i)) 0) ∗ bigSep Finset.univ (kvSrc m c) ∗ bigSep Finset.univ (kvAny (F := F) c)) ⊢ KvSt m c 0 := by
    unfold KvSt
    rw [← fam_start (kvA m c) (kvB (F := F) c) fun i _ h => absurd h (Nat.not_lt_zero _)]
    unfold kvA
    rw [fam_sep Finset.univ (fun i => Tok (F := F) c (some (0, i)) 0), fam_sep Finset.univ (kvSrc m c)]
  have hr : iprop(bigSep (others 0) (fun j => Cr c (some (2, j)) Nx) ∗ bigSep (others 0) (fun j => At c (some (2, j)) 0)) ⊢ bigSep Finset.univ (rwA (F := F) c) := by
    unfold rwA
    rw [at_none, fam_sep]
  have ha : iprop(bigSep (others c) (fun j => Cr c (some (4, j)) Nx) ∗ bigSep (others c) (fun j => At c (some (4, j)) 0)) ⊢ bigSep Finset.univ (awA (F := F) c) := by
    unfold awA
    rw [at_none, fam_sep]
  unfold payToks atAll crAll scrAll Bar0 Later Later2 Later3 Extra rsTok asTok fwAt
  rw [arrays_eq, fam_sep (others c) (fun d => Tok (F := F) c (some (1, d)) 0), fam_sep (others c) (fun d => Tok (F := F) c (some (3, d)) 0), fam_sep (others c) (fun d => At (F := F) c (some (1, d)) 0),
    fam_erase 0 (fun i => Tok (F := F) (c + i) none c), fam_erase c (fun d => Tok (F := F) c (some (1, d)) 0), fam_erase c (fun d => Tok (F := F) d (some (2, c - d)) 0),
    fam_erase c (fun d => Tok (F := F) c (some (3, d)) 0), fam_erase c (fun d => Tok (F := F) d (some (4, c)) 0), fam_erase c (fun i => At (F := F) c (some (1, i)) 0),
    fam_erase 0 (fun i => At (F := F) c (some (2, i)) 0), fam_erase c (fun i => At (F := F) c (some (3, i)) 0), fam_erase c (fun i => At (F := F) c (some (4, i)) 0)]
  iintro ⟨HO, ⟨⟨-, HtB⟩, Ht0, ⟨-, Ht1⟩, ⟨-, Ht2⟩, ⟨-, Ht3⟩, ⟨-, Ht4⟩⟩, ⟨HaB, Ha0, ⟨Ha1', Ha1⟩, ⟨Ha2', Ha2⟩, ⟨Ha3', Ha3⟩, ⟨Ha4', Ha4⟩⟩, ⟨HcB, Hc2, Hc4⟩, ⟨⟨%f0, H0⟩, ⟨%f1, H1⟩, ⟨%f2, H2⟩, ⟨%f3, H3⟩⟩, ⟨Hsrc, Hrest⟩, Hx, Ho⟩
  ihave H3 := (slots_split c f3) $$ H3
  icases H3 with ⟨Hs0, Hs⟩
  ihave H0 := (halves_split c f0) $$ H0
  icases H0 with ⟨Hh0, Hh1⟩
  ihave Hkv := (kv_split c f1 f2) $$ [H1 H2]
  · isplitl [H1] <;> iassumption
  ihave Hsig := hs $$ [HO HtB Hs]
  · iframe HO HtB Hs
  ihave Hk := hk $$ [Ht0 Hsrc Hkv]
  · iframe Ht0 Hsrc Hkv
  ihave Hr := hr $$ [Hc2 Ha2]
  · iframe Hc2 Ha2
  ihave Ha := ha $$ [Hc4 Ha4]
  · iframe Hc4 Ha4
  iframe Hsig Hk Hx Ha0 HcB HaB Hh0 Hh1 Ht1 Ht2 Hr Ht3 Ht4 Ha Ho Ha1 Ha3 Ha1' Ha2' Ha3' Ha4' Hs0 Hrest

/-! ## The end: every cell closed -/

/-- The counter of a cell, at zero. -/
abbrev Zero (c : Dev nD) (k : Ck) : sProp 𝕄 := semVal (cell c k) 0

/-- A cell whose round is done closes. -/
theorem close_done (c : Dev nD) (k : Ck) : iprop(Ctx m ρ K ∗ At c k 1) ⊢ |={Set.univ}=> Zero (F := F) c k := by
  iintro ⟨HC, Ha⟩
  ihave HI := (inv_at m ρ K c k) $$ HC
  iapply (Rounds.cell_close ER (ringRd m ρ) (Set.mem_univ (K (c, k))) (fun h => h) (R := 0 + 1) (duties_later m ρ (cell c k)))
  isplitl [HI] <;> iassumption
/-- A cell never signalled closes. -/
theorem close_unused (c : Dev nD) (k : Ck) (h : dutiesK c k = ∅) : iprop(Ctx m ρ K ∗ At c k 0) ⊢ |={Set.univ}=> Zero (F := F) c k := by
  iintro ⟨HC, Ha⟩
  ihave HI := (inv_at m ρ K c k) $$ HC
  iapply (Rounds.cell_close ER (ringRd m ρ) (Set.mem_univ (K (c, k))) (fun h => h) (R := 0) (duties_unused m ρ c k h))
  isplitl [HI] <;> iassumption
theorem no_duty (c : Dev nD) (a : Fin 5) (i : Fin 32) (h : ¬ Used c a i) : dutiesK c (some (a, i)) = ∅ := if_neg h
/-- A family of cells closes. -/
theorem close_fam (c : Dev nD) (S : Finset (Fin 32)) (a : Fin 5) :
    iprop(Ctx m ρ K ∗ bigSep S (fun i => At c (some (a, i)) 1)) ⊢ |={Set.univ}=> bigSep S (fun i => Zero (F := F) c (some (a, i))) :=
  (bigSep_with_persistent fun i _ => close_done m ρ K c (some (a, i))).trans (bigSep_fupd _ _)
/-- An array of cells closes, all but one used. -/
theorem close_array (c : Dev nD) (a : Fin 5) (e : Fin 32) (h : dutiesK c (some (a, e)) = ∅) :
    iprop(Ctx m ρ K ∗ At c (some (a, e)) 0 ∗ bigSep (others e) (fun i => At c (some (a, i)) 1)) ⊢ |={Set.univ}=> bigSep Finset.univ (fun i => Zero (F := F) c (some (a, i))) := by
  iintro ⟨#HC, Ha, Hb⟩
  imod (close_unused m ρ K c (some (a, e)) h) $$ [Ha] with H1
  · isplitr; · iexact HC
    iexact Ha
  imod (close_fam m ρ K c (others e) a) $$ [Hb] with H2
  · isplitr; · iexact HC
    iexact Hb
  imodintro
  rw [fam_erase e]
  isplitl [H1] <;> iassumption

/-- The counters of a device's own cells. -/
def zeroAll (c : Dev nD) : sProp 𝕄 :=
  iprop(bigSep Finset.univ (fun i : Fin 32 => Zero c (some (0, i))) ∗ bigSep Finset.univ (fun i : Fin 32 => Zero c (some (1, i)))
    ∗ bigSep Finset.univ (fun i : Fin 32 => Zero c (some (2, i))) ∗ bigSep Finset.univ (fun i : Fin 32 => Zero c (some (3, i))) ∗ bigSep Finset.univ (fun i : Fin 32 => Zero c (some (4, i))))

/-- What a device ends with: counters at zero, its scratch buffers, the arrays as they were, and the windows' buffers. -/
theorem finish (c : Dev nD) :
    iprop(Ctx m ρ K ∗ Done m ρ c ∗ Extra m c)
      ⊢ |={Set.univ}=> iprop(Zero c none ∗ zeroAll c ∗ scrAll c ∗ Arrays m c ∗ XSt m ρ c ∗ OFin m ρ c) := by
  have z1 := close_array m ρ K c 1 c (no_duty c 1 c fun h => h rfl)
  have z2 := close_array m ρ K c 2 0 (no_duty c 2 0 fun h => h rfl)
  have z3 := close_array m ρ K c 3 c (no_duty c 3 c fun h => h rfl)
  have z4 := close_array m ρ K c 4 c (no_duty c 4 c fun h => h rfl)
  unfold Done Extra KwPost fwAt KV
  rw [fam_sep (others c) (fun d => At (F := F) c (some (1, d)) 1), arrays_eq]
  iintro ⟨#HC, ⟨⟨H1, H3⟩, Hp, Ho, H4, H2, Hr, ⟨Hk, Hv⟩, ⟨H0, Hsrc⟩, HB, Hx⟩, H1', H2', H3', H4', ⟨%f, Hs⟩, Hrest⟩
  imod (close_done m ρ K c none) $$ [HB] with HB
  · isplitr; · iexact HC
    iexact HB
  imod (close_fam m ρ K c Finset.univ 0) $$ [H0] with H0
  · isplitr; · iexact HC
    iexact H0
  imod z1 $$ [H1 H1'] with H1
  · isplitr; · iexact HC
    isplitl [H1'] <;> iassumption
  imod z2 $$ [H2 H2'] with H2
  · isplitr; · iexact HC
    isplitl [H2'] <;> iassumption
  imod z3 $$ [H3 H3'] with H3
  · isplitr; · iexact HC
    isplitl [H3'] <;> iassumption
  imod z4 $$ [H4 H4'] with H4
  · isplitr; · iexact HC
    isplitl [H4'] <;> iassumption
  ihave Hs := (slots_join c f (R m ρ c)) $$ [Hs Hr]
  · isplitl [Hs] <;> iassumption
  imodintro
  unfold zeroAll scrAll
  isplitl [HB]; · iexact HB
  isplitl [H0 H1 H2 H3 H4]; · iframe H0 H1 H2 H3 H4
  isplitl [Hp Hk Hv Hs]
  · isplitl [Hp]; · iexists _; iexact Hp
    isplitl [Hk]; · iexists _; iexact Hk
    isplitl [Hv]; · iexists _; iexact Hv
    iexact Hs
  iframe Hsrc Hrest Hx Ho

end Cert.K01
-- ==== Proof.Ghost.lean ====
module

public import proofs.«01_k».proof.Proof.Setup

/-! # The ghost state at launch

The cells, the tokens and the credits that the launch deals out, and how they reach the devices that use them. -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

abbrev kcell (p : Dev nD × Ck) : GSem nD τ sig := cell p.1 p.2
theorem kcell_injective : Function.Injective kcell := fun p q h => by
  obtain ⟨h1, h2⟩ := cell_inj h
  exact Prod.ext h1 h2
def allCells : Finset (GSem nD τ sig) := Finset.univ.map ⟨kcell, kcell_injective⟩

/-- The duties of a device's cells: one of the barrier for each device, one of each other cell. -/
abbrev Dk := Fin 32 ⊕ (Fin 5 × Fin 32)
abbrev tokOf (p : Dev nD × Dk) : GSem nD τ sig × ℕ × Fin 32 := match p.2 with
  | .inl d => (cell p.1 none, 0, d)
  | .inr k => (cell p.1 (some k), 0, 0)
theorem tokOf_injective : Function.Injective tokOf := by
  rintro ⟨c, d | k⟩ ⟨c', d' | k'⟩ h
  · obtain ⟨h1, -⟩ := cell_inj (congrArg (fun x : GSem nD τ sig × ℕ × Fin 32 => x.1) h)
    have h2 : d = d' := congrArg (fun x : GSem nD τ sig × ℕ × Fin 32 => x.2.2) h
    subst h1 h2; rfl
  · obtain ⟨-, h2⟩ := cell_inj (congrArg (fun x : GSem nD τ sig × ℕ × Fin 32 => x.1) h)
    cases h2
  · obtain ⟨-, h2⟩ := cell_inj (congrArg (fun x : GSem nD τ sig × ℕ × Fin 32 => x.1) h)
    cases h2
  · obtain ⟨h1, h2⟩ := cell_inj (congrArg (fun x : GSem nD τ sig × ℕ × Fin 32 => x.1) h)
    subst h1
    rw [Option.some.inj h2]
def allToks : Finset (GSem nD τ sig × ℕ × Fin 32) := Finset.univ.map ⟨tokOf, tokOf_injective⟩

/-- The element the ghost state starts from. -/
def u₀ : UU := (initOf (Pipeline.cells cfgs cellOf_inj) (Pipeline.launchToks cfgs cellOf_inj), initOf allCells allToks)

/-- The tokens of device `c`'s own cells. -/
def toks (c : Dev nD) : sProp 𝕄 :=
  iprop(bigSep Finset.univ (fun d : Fin 32 => Tok c none d) ∗ bigSep Finset.univ (fun k : Fin 5 × Fin 32 => Tok c (some k) 0))

/-- What the launch deals device `c`. -/
def G (c : Dev nD) : sProp 𝕄 :=
  iprop((bigSep Finset.univ fun k : Ck => roundState ER (ringRd m ρ) (cell c k) 0)
    ∗ (bigSep Finset.univ fun k : Ck => iprop(At c k 0 ∗ reached ER (cell c k) 0)) ∗ toks c)

theorem fund_ring : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ck => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (ringRd m ρ) allCells allToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores of the launch -/

/-- The kernel's own semaphores. -/
abbrev osem (k : Fin 5 × Fin 32) : SemLoc sig := csem (some k)

theorem ownSemFacts : Pipeline.OwnSemFacts cfg0.spec osem := by
  refine ⟨by decide, fun k k' h => Option.some.inj (csem_injective h), fun k w s h => ?_⟩
  have h1 : ∀ w s, ((cfg0.spec w).sem s).val < 4 := by decide
  have h2 : dS k.1 k.2 = (cfg0.spec w).sem s := by injection h
  have h3 : 4 ≤ (dS k.1 k.2).val := by show 4 ≤ 4 + 32 * k.1.val + k.2.val; omega
  rw [h2] at h3
  exact absurd (h1 w s) (by omega)

omit [FloatOps F] in
/-- A family over the cell names. -/
theorem over_cells (A : Ck → sProp 𝕄) : bigSep Finset.univ A = iprop(A none ∗ bigSep Finset.univ (fun k : Fin 5 × Fin 32 => A (some k))) := by
  have h : (Finset.univ.erase none : Finset Ck) = Finset.univ.map ⟨some, Option.some_injective _⟩ := by
    ext k
    rcases k with _ | k
    · simp
    · simp
  rw [bigSep_univ_at _ none, h, bigSep_map]; rfl
omit [FloatOps F] in
/-- A family over the five arrays. -/
theorem over_arrays (A : Fin 5 × Fin 32 → sProp 𝕄) : bigSep Finset.univ A
    = iprop(bigSep Finset.univ (fun i : Fin 32 => A (0, i)) ∗ bigSep Finset.univ (fun i : Fin 32 => A (1, i)) ∗ bigSep Finset.univ (fun i : Fin 32 => A (2, i))
      ∗ bigSep Finset.univ (fun i : Fin 32 => A (3, i)) ∗ bigSep Finset.univ (fun i : Fin 32 => A (4, i))) := by
  rw [bigSep_univ_prod, bigSep_univ_eq_bigSepL [0, 1, 2, 3, 4] (by decide) (by decide)]; rfl

theorem ownSems0_eq (c : Dev nD) : (Pipeline.ownSems0 (Ix := Unit) (Name := ℕ) (U := UU) (Lvl := ℕ) (Val := Elt F) (τ := τ) osem c : sProp 𝕄) = zeroAll c := by
  unfold Pipeline.ownSems0 zeroAll
  rw [over_arrays]
theorem unscopedSems0_eq (c : Dev nD) : (unscopedSems0 c : sProp 𝕄) = Zero c none := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (cell c k) 0 : sProp 𝕄) := by
  rw [unscopedSems0_eq, over_cells]
  unfold Pipeline.ownSems0
  iintro ⟨H1, H2⟩
  isplitl [H2] <;> iassumption

/-! ## Invariants for all cells -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Ck => iprop(∃ κ : ℕ, cellInv ER (ringRd m ρ) κ (cell c k)))
          ∗ (bigSep Finset.univ fun k : Ck => iprop(At c k 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (cell c k) 0) ∗ bigSep Finset.univ fun k : Ck => roundState ER (ringRd m ρ) (cell c k) 0)
      ⊢ (|={Set.univ}=> bigSep Finset.univ fun k => iprop(∃ κ : ℕ, cellInv ER (ringRd m ρ) κ (cell c k)) : sProp 𝕄) from by
        rw [← bigSep_sep']
        exact (bigSep_mono fun k _ => (Rounds.body_intro ER (ringRd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over pairs of devices, by its first or by its second. -/
theorem deal (A : Fin 32 → Fin 32 → sProp 𝕄) :
    (bigSep Finset.univ fun c : Fin 32 => bigSep Finset.univ fun d : Fin 32 => A c d) = bigSep Finset.univ fun d : Fin 32 => bigSep Finset.univ fun c : Fin 32 => A c d :=
  bigSep_univ_comm A

/-- The tokens go from the devices of the cells to the devices that pay. -/
theorem toks_around : (bigSep Finset.univ fun c : Fin 32 => (toks (F := F) c : sProp 𝕄)) ⊢ bigSep Finset.univ fun c : Fin 32 => payToks c := by
  have eB : (bigSep Finset.univ fun c : Fin 32 => bigSep Finset.univ fun d : Fin 32 => Tok (F := F) c none d)
      = bigSep Finset.univ fun c : Fin 32 => bigSep Finset.univ fun i : Fin 32 => Tok (F := F) (c + i) none c := by
    rw [deal]
    exact bigSep_congr fun c _ =>
      bigSep_univ_equiv (⟨fun j => c + j, fun d => d - c, fun j => sub_add_dev c j, fun d => add_sub_dev d c⟩ : Fin 32 ≃ Fin 32) fun d => Tok (F := F) d none c
  have e2 : (bigSep Finset.univ fun c : Fin 32 => bigSep Finset.univ fun i : Fin 32 => Tok (F := F) c (some (2, i)) 0)
      = bigSep Finset.univ fun c : Fin 32 => bigSep Finset.univ fun d : Fin 32 => Tok (F := F) d (some (2, c - d)) 0 := by
    rw [deal fun c d : Fin 32 => Tok (F := F) d (some (2, c - d)) 0]
    exact bigSep_congr fun d _ =>
      bigSep_univ_equiv (⟨fun c => c - d, fun j => d + j, fun c => add_sub_dev c d, fun j => sub_add_dev d j⟩ : Fin 32 ≃ Fin 32) fun i => Tok (F := F) d (some (2, i)) 0
  have e4 : (bigSep Finset.univ fun c : Fin 32 => bigSep Finset.univ fun i : Fin 32 => Tok (F := F) c (some (4, i)) 0)
      = bigSep Finset.univ fun c : Fin 32 => bigSep Finset.univ fun d : Fin 32 => Tok (F := F) d (some (4, c)) 0 := deal fun c i : Fin 32 => Tok (F := F) c (some (4, i)) 0
  unfold toks payToks
  rw [bigSep_congr (s := Finset.univ) (fun (c : Fin 32) _ => congrArg (fun X => iprop(bigSep Finset.univ (fun d : Fin 32 => Tok (F := F) c none d) ∗ X)) (over_arrays fun k => Tok (F := F) c (some k) 0))]
  simp only [bigSep_sep']
  rw [eB, e2, e4]

/-- What stays with device `c`. -/
def linear (c : Dev nD) : sProp 𝕄 := iprop(atAll c ∗ payToks c)
/-- The invariants' names chosen. -/
def G' (c : Dev nD) : sProp 𝕄 := iprop(∃ K, records m ρ K ∗ linear c)

theorem atAll_eq (c : Dev nD) : bigSep Finset.univ (fun k : Ck => At (F := F) c k 0) = atAll c := by
  rw [over_cells, over_arrays]; rfl

theorem regroup :
    (bigSep Finset.univ fun c : Dev nD => iprop((bigSep Finset.univ fun k : Ck => iprop(∃ κ : ℕ, cellInv ER (ringRd m ρ) κ (cell c k)))
          ∗ (bigSep Finset.univ fun k : Ck => iprop(At c k 0 ∗ reached ER (cell c k) 0)) ∗ toks c) : sProp 𝕄)
      ⊢ bigSep Finset.univ (G' m ρ) := by
  have hg : ∀ (K : Dev nD × Ck → ℕ) (c : Dev nD), iprop(records m ρ K ∗ linear c) ⊢ G' m ρ c := fun K c => by
    unfold G'
    iintro H
    iexists K
    iexact H
  rw [bigSep_sep', bigSep_sep', ← bigSep_univ_prod (fun ck : Dev nD × Ck => iprop(∃ κ : ℕ, cellInv ER (ringRd m ρ) κ (kcell ck))),
    bigSep_congr (s := Finset.univ) (fun (c : Dev nD) _ => bigSep_sep' Finset.univ (fun k : Ck => (At (F := F) c k 0 : sProp 𝕄)) (fun k => reached ER (cell c k) 0)),
    bigSep_sep', ← bigSep_univ_prod (fun ck : Dev nD × Ck => (reached ER (kcell ck) 0 : sProp 𝕄)),
    bigSep_congr (s := Finset.univ) (fun (c : Dev nD) _ => atAll_eq (F := F) c)]
  iintro ⟨HI, ⟨Hat, #HR⟩, Htok⟩
  ihave HK := (BI.bigSep_exists_pi Finset.univ (fun (ck : Dev nD × Ck) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => hg K c)
  isplitr
  · unfold records
    rw [bigSep_sep']
    isplitl; · iexact HI
    iexact HR
  · unfold linear
    rw [bigSep_sep']
    isplitl [Hat] <;> iassumption

/-- Own and shared semaphores of every device at once become invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem tally_cell (d c : Dev nD) (k k' : Ck) (n : ℕ) : (tallyAt (cell d k) () n : CellTallies nD τ sig Unit) (cell c k') () = if c = d ∧ k' = k then n else 0 := by
  rw [tallyAt_apply]
  refine if_congr ⟨fun h => cell_inj h.1, fun h => ⟨by rw [h.1, h.2], rfl⟩⟩ rfl rfl

theorem sum_apply (S : Finset (Fin 32)) (f : Fin 32 → CellTallies nD τ sig Unit) (g : GSem nD τ sig) : (∑ i ∈ S, f i) g () = ∑ i ∈ S, f i g () := by
  rw [Finset.sum_apply, Finsupp.finset_sum_apply]

/-- All that the devices owe a cell. -/
def due (c : Dev nD) (k : Ck) : ℕ := ∑ d : Fin 32, O₀ d (cell c k) ()

theorem owes_cell (d c : Dev nD) (k : Ck) : O₀ d (cell c k) () = (∑ e ∈ from_ 0, if e = d then 0 else if c = e ∧ k = some (4, d) then Nx else 0)
    + (∑ e ∈ from_ 0, if e = d then 0 else if c = e ∧ k = some (2, d - e) then Nx else 0) + ∑ i ∈ from_ 1, if c = d + i ∧ k = none then 1 else 0 := by
  unfold O₀ oA oR oB
  rw [Pi.add_apply, Finsupp.add_apply, Pi.add_apply, Finsupp.add_apply, sum_apply, sum_apply, sum_apply]
  refine congrArg₂ (· + ·) (congrArg₂ (· + ·) (Finset.sum_congr rfl fun e _ => ?_) (Finset.sum_congr rfl fun e _ => ?_)) (Finset.sum_congr rfl fun i _ => tally_cell _ _ _ _ _)
  · split
    · rfl
    · exact tally_cell _ _ _ _ _
  · split
    · rfl
    · exact tally_cell _ _ _ _ _

theorem back_dev (c d i : Fin 32) : c = d + i ↔ d = c - i := by omega
theorem from_zero : from_ 0 = Finset.univ := Finset.filter_true_of_mem fun _ _ => Nat.zero_le _

/-- The barrier of a device is owed a signal by each other; -/
theorem due_bar (c : Dev nD) : due c none = 31 := by
  unfold due
  rw [Finset.sum_congr rfl fun d _ => (owes_cell d c none).trans (show _ = ∑ i ∈ from_ 1, if d = c - i then 1 else 0 from by
    rw [Finset.sum_eq_zero fun e _ => by split <;> [rfl; exact if_neg fun h => by cases h.2], Finset.sum_eq_zero fun e _ => by split <;> [rfl; exact if_neg fun h => by cases h.2], zero_add, zero_add]
    refine Finset.sum_congr rfl fun i _ => if_congr ⟨fun h => ?_, fun h => ⟨?_, rfl⟩⟩ rfl rfl
    · exact (back_dev c d i).mp h.1
    · exact (back_dev c d i).mpr h)]
  rw [Finset.sum_comm, Finset.sum_congr rfl fun i _ => Finset.sum_ite_eq' Finset.univ (c - i) fun _ => 1]
  simp only [Finset.mem_univ, if_true, Finset.sum_const, smul_eq_mul, mul_one]
  decide
/-- slot `j` by the device it comes from; -/
theorem due_rs (c : Dev nD) (j : Fin 32) (hj : j ≠ 0) : due c (some (2, j)) = Nx := by
  unfold due
  rw [Finset.sum_congr rfl fun d _ => (owes_cell d c (some (2, j))).trans (show _ = if d = c + j then Nx else 0 from by
    rw [Finset.sum_eq_zero (s := from_ 0) (f := fun e => if e = d then 0 else if c = e ∧ some ((2 : Fin 5), j) = some (4, d) then Nx else 0) fun e _ => by split <;> [rfl; exact if_neg fun h => by cases h.2],
      Finset.sum_eq_zero (s := from_ 1) fun e _ => if_neg fun h => (by cases h.2), zero_add, add_zero, from_zero,
      Finset.sum_eq_single c (fun e _ he => by split <;> [rfl; exact if_neg fun h => he h.1.symm]) (fun h => absurd (Finset.mem_univ _) h)]
    by_cases h : d = c + j
    · subst h
      rw [if_neg fun e => hj ((add_eq_dev c j).mp e.symm), if_pos ⟨rfl, by rw [sub_add_dev]⟩, if_pos rfl]
    · rw [if_neg h]
      split
      · rfl
      · refine if_neg fun e => h ?_
        have := e.2
        injection this with this
        injection this with _ this
        rw [this, add_sub_dev])]
  rw [Finset.sum_ite_eq' Finset.univ (c + j) fun _ => Nx, if_pos (Finset.mem_univ _)]
/-- chunk `j` by device `j`. -/
theorem due_ag (c : Dev nD) (j : Fin 32) (hj : j ≠ c) : due c (some (4, j)) = Nx := by
  unfold due
  rw [Finset.sum_congr rfl fun d _ => (owes_cell d c (some (4, j))).trans (show _ = if d = j then Nx else 0 from by
    rw [Finset.sum_eq_zero (s := from_ 0) (f := fun e => if e = d then 0 else if c = e ∧ some ((4 : Fin 5), j) = some (2, d - e) then Nx else 0) fun e _ => by split <;> [rfl; exact if_neg fun h => by cases h.2],
      Finset.sum_eq_zero (s := from_ 1) fun e _ => if_neg fun h => (by cases h.2), add_zero, add_zero, from_zero,
      Finset.sum_eq_single c (fun e _ he => by split <;> [rfl; exact if_neg fun h => he h.1.symm]) (fun h => absurd (Finset.mem_univ _) h)]
    by_cases h : d = j
    · subst h
      rw [if_neg fun e => hj e.symm, if_pos ⟨rfl, rfl⟩, if_pos rfl]
    · rw [if_neg h]
      split
      · rfl
      · refine if_neg fun e => h ?_
        have := e.2
        injection this with this
        injection this with _ this
        exact this.symm)]
  rw [Finset.sum_ite_eq' Finset.univ j fun _ => Nx, if_pos (Finset.mem_univ _)]

theorem credit_cell (c : Dev nD) (k : Ck) :
    tallyOn (cell c k) (launchCredit (Pipeline.owing O₀) 0 (cell c k)) = (tallyAt (cell c k) () (due c k) : CellTallies nD τ sig Unit) := by
  unfold tallyAt; refine congrArg _ (Finsupp.ext fun u => ?_); cases u
  rw [Pipeline.launchCredit_owing, Finsupp.single_eq_same]; rfl

/-- The launch's credit of device `c`: what it waits for. -/
theorem creds (c : Dev nD) : (Pipeline.launchCred O₀ c : sProp 𝕄) ⊢ crAll c := by
  have h0 : (Pipeline.launchCred O₀ c : sProp 𝕄) ⊢ bigSep Finset.univ (fun k : Ck => Cr (F := F) c k (due c k)) := by
    unfold Pipeline.launchCred
    refine (bigSep_subset (Finset.subset_univ (Finset.univ.map ⟨csem, csem_injective⟩))).trans ?_
    rw [bigSep_map]
    exact Entails.of_eq (bigSep_congr fun k _ => congrArg cred (credit_cell c k))
  refine h0.trans ?_
  unfold crAll
  rw [over_cells, over_arrays, due_bar, fam_erase 0 (fun i => Cr (F := F) c (some (2, i)) (due c (some (2, i)))), fam_erase c (fun i => Cr (F := F) c (some (4, i)) (due c (some (4, i)))),
    show bigSep (others 0) (fun i => Cr (F := F) c (some (2, i)) (due c (some (2, i)))) = bigSep (others 0) (fun j => Cr c (some (2, j)) Nx) from
      bigSep_congr fun j hj => by rw [due_rs c j (Finset.ne_of_mem_erase hj)],
    show bigSep (others c) (fun i => Cr (F := F) c (some (4, i)) (due c (some (4, i)))) = bigSep (others c) (fun j => Cr c (some (4, j)) Nx) from
      bigSep_congr fun j hj => by rw [due_ag c j (Finset.ne_of_mem_erase hj)]]
  iintro ⟨HB, -, -, ⟨-, H2⟩, -, -, H4⟩
  iframe HB H2 H4

end Cert.K01
-- ==== Proof.Region.lean ====
module

public import proofs.«01_k».proof.Proof.Body
public import proofs.«01_k».proof.Proof.Ghost
public import Idealize.ShloMosaic.Lib.Pipeline.CollectiveSegs

/-! # The launch

The kernel's body as the launch calls it, and the run of the program on 32 devices. -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

def start (c : Dev nD) : sProp 𝕄 := iprop(G' m ρ c ∗ crAll c ∗ levAts L lv ∗ Arrays m c)
def Φ₀ (c : Dev nD) : sProp 𝕄 := iprop(start m ρ c ∗ scrAll c)
def Φ₁ (c : Dev nD) : sProp 𝕄 := iprop(scrAll c ∗ zeroAll c ∗ Zero c none ∗ Arrays m c)

/-- What the window's buffer holds after the kernel. -/
def outAt : (cc0_stg3_0 : Ref sig .tc).ty.Contents (Elt F) := k0_pay43 (T m ρ)

/-- What each window has and becomes on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => outAt m ρ
  Φ t := match t with | ⟨0, _⟩ => Φ₀ m ρ c | ⟨_ + 1, _⟩ => Φ₁ m c
  q _ := fullShare
  owed t := match t with | ⟨0, _⟩ => O₀ c | ⟨_ + 1, _⟩ => 0

theorem fetch_0 (w : Fin cfg0.W) (h : w ≠ 3) : (cfg0.win w).fetch t0_0 = true := by
  revert h; revert w; decide

omit [FloatOps F] in
theorem owns_whole_eq {c : Dev nD} (b : Ref sig .tc) (X : b.ty.Contents (Elt F)) :
    (owns ((c : Dev nD) : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xstg m ρ c) ∗ stg c cc0_stg1_0 (wqstg m ρ c) ∗ stg c cc0_stg2_0 (wostg m ρ c)
    ∗ stg c cc0_stg3_0 (outAt m ρ))

/-- The end of the kernel, into the window's postcondition. -/
theorem body_end (K : Dev nD × Ck → ℕ) (c : Dev nD) : iprop(Ctx m ρ K ∗ (Ow c 0 ∗ Done m ρ c) ∗ Extra m c) ⊢ W (α := PUnit) c (.ret ⟨⟩) (fun _ => bodyPost m ρ c) := by
  unfold W
  rw [wp_ret]
  iintro ⟨#HC, ⟨HO, HD⟩, HE⟩
  imod (finish m ρ K c) $$ [HD HE] with ⟨Hz, HZ, Hs, HA, HX, HF⟩
  · isplitr; · iexact HC
    isplitl [HD] <;> iassumption
  imodintro
  unfold bodyPost Φ₁ Dat.owesAt Pipeline.owesWithin Ow XSt OFin
  rw [show (dats m ρ 0 c).owed t0_0.succ = 0 from rfl]
  icases HX with ⟨H0, H1, H2⟩
  icases HO with ⟨%Wt, HO⟩
  isplitl [Hz HZ Hs HA]
  · iframe Hs HZ Hz HA
  isplitl [HO]
  · iexists Wt
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact HF

set_option maxHeartbeats 4000000 in
/-- The kernel's body from what a device starts with. -/
theorem sound_body (c : Dev nD) : bodyPre m ρ c ⊢ W c (cc0__body xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8) (fun _ => bodyPost m ρ c) := by
  unfold bodyPre Φ₀ start G' linear
  iintro ⟨⟨⟨⟨%K, #HR, Hat, Htk⟩, Hcr, #Hlev, HA⟩, Hs⟩, Ho, ⟨%d0, %g0, %hg0, H0⟩, ⟨%d1, %g1, %hg1, H1⟩, ⟨%d2, %g2, %hg2, H2⟩, ⟨%d3, %g3, %hg3, H3⟩⟩
  have h0 : g0 = xstg m ρ c := by rw [hg0]; unfold Dat.before; rw [if_pos (fetch_0 0 (by decide))]; rfl
  have h1 : g1 = wqstg m ρ c := by rw [hg1]; unfold Dat.before; rw [if_pos (fetch_0 1 (by decide))]; rfl
  have h2 : g2 = wostg m ρ c := by rw [hg2]; unfold Dat.before; rw [if_pos (fetch_0 2 (by decide))]; rfl
  subst h0 h1 h2
  unfold Dat.owesAt Pipeline.owesWithin
  icases Ho with ⟨%Wt, %hW, HO⟩
  rw [show (dats m ρ 0 c).owed t0_0.castSucc = O₀ c from rfl]
  ihave HS := (setup m ρ c) $$ [HO Htk Hat Hcr Hs HA H0 H1 H2 H3]
  · isplitl [HO]; · unfold Ow; iexists Wt; iexact HO
    isplitl [Htk]; · iexact Htk
    isplitl [Hat]; · iexact Hat
    isplitl [Hcr]; · iexact Hcr
    isplitl [Hs]; · iexact Hs
    isplitl [HA]; · iexact HA
    isplitl [H0 H1 H2]
    · unfold XSt
      isplitl [H0]; · iexact H0
      isplitl [H1]; · iexact H1
      iexact H2
    unfold OSt
    iexists g3; iexact H3
  icases HS with ⟨⟨S1, S2, S3, S4, S5, S6⟩, HE⟩
  iapply (whole m ρ K c (Extra m c) (body_end m ρ K c))
  isplitr
  · unfold Ctx
    isplitl; · iexact HR
    iexact Hlev
  iframe S1 S2 S3 S4 S5 S6 HE

set_option maxRecDepth 20000 in
/-- The launch's obligation for the body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ W c (cc0__body xM (Memref.isWhole_whole _) wqM (Memref.isWhole_whole _) woM (Memref.isWhole_whole _) (Memref.whole main_arg2) (Memref.isWhole_whole _) (Memref.whole main_arg3) (Memref.isWhole_whole _) oM (Memref.isWhole_whole _) pM (Memref.isWhole_whole _) kM (Memref.isWhole_whole _) vM (Memref.isWhole_whole _) rM (Memref.isWhole_whole _) cc0_scratch4 cc0_scratch5 cc0_scratch6 cc0_scratch7 cc0_scratch8) (fun _ => bodyPost m ρ c)
  exact sound_body m ρ c

/-! ## The launch's conditions -/

theorem share_eq (c : Dev nD) (w : Fin cfg0.W) : (dats m ρ 0 c).share w = fullShare := (dats m ρ 0 c).share_full (fun _ => rfl) w

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show cfg0.spec = spec0 from rfl, unscopedRest0_eq]
  iintro ⟨HA, Hlev, Hcr, -, HG⟩
  ihave Hc := (creds (F := F) c) $$ Hcr
  imodintro
  unfold start Arrays
  isplitl
  · isplitl [HG]; · iexact HG
    isplitl [Hc]; · iexact Hc
    isplitl [Hlev]; · iexact Hlev
    iexact HA
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ scrAll
  iintro ⟨Hs, -, Hr⟩
  isplitl [Hs] <;> iassumption

theorem phi1_exit (c : Dev nD) :
    (dats m ρ 0 c).Φ (Fin.last cfg0.N) ⊢ iprop((unscopedSems0 c ∗ Arrays m c) ∗ Pipeline.ownSems0 osem c ∗ Pipeline.scopedRest cfg0.spec c) := by
  rw [show (dats m ρ 0 c).Φ (Fin.last cfg0.N) = Φ₁ m c from rfl, show cfg0.spec = spec0 from rfl, scopedRest0_eq, ownSems0_eq, unscopedSems0_eq]
  unfold Φ₁ scrAll
  iintro ⟨Hs, HZ, Hz, HA⟩
  isplitl [Hz HA]
  · isplitl [Hz] <;> iassumption
  isplitl [HZ] <;> iassumption

theorem above_O₀ (c : Dev nD) : Above 0 (O₀ c) := above_add (above_add (above_oA (by decide) c 0) (above_oR (by decide) c 0)) (above_oB c 1)

theorem kd_stage : ∀ w s, kd (.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t =>
    mayWait_above (b := 0) c _ (by unfold lv; rw [kd_stage w s]) (by
      rcases t with ⟨_ | _, ht⟩
      · exact above_O₀ c
      · exact above_zero 0)

/-! ## The run -/

/-- What a window's array holds after the run. -/
def finalA (c : Dev nD) (w : Fin cfg0.W) : Buf (Elt F) ((cfg0.win w).arr.view.loc (c : Thread nD τ)) := (dats m ρ 0 c).arrAt w cfg0.N

/-- The windows' arrays at their final contents, the keys and the values unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

set_option maxRecDepth 8000 in
/-- On 32 devices, for any float values, from any memory with zero counters: every weakly fair run of the program
    ends, and at the end each device's result holds the computed contents, its arguments are
    unchanged and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ Arrays m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      unfold Arrays karr varr
      iintro ⟨⟨Hu, HA2, HA3⟩, -, HSI⟩
      icombine HSI HA2 gives %h2
      icombine HSI HA3 gives %h3
      imod (Pipeline.unscopedSems0_read (X := unscopedSems0 c) (c := c) fupd_intro s') $$ [Hu HSI] with ⟨%h, HSI⟩
      · isplitl [Hu] <;> iassumption
      imodintro
      isplitr; · ipureintro; exact ⟨h, Buf.eq_of_forall_mem_univ h2, Buf.eq_of_forall_mem_univ h3⟩
      iexact HSI)
    (hQ := fun _ h hs => ⟨fun c => ⟨(h c).1, (h c).2.2.2⟩, sem_eq_zero hs fun c => (h c).2.2.1⟩)

/-- The windowed arguments hold what they held. -/
theorem finalA_in (c : Dev nD) (w : Fin 4) (h : w ≠ 3) : finalA m ρ c w = (s₀ m ρ).mem ((cfg0.win w).arr.view.loc (c : Thread nD τ)) :=
  (dats (F := F) m ρ 0 c).arrAt_in w (by revert h; revert w; decide) _

end Cert.K01
-- ==== Proof.Frames.lean ====
module

public import proofs.«01_k».proof.Defs
public import proofs.«01_k».proof.Proof.Gen.Kernel
public import proofs.«01_k».proof.Proof.Gen.ReferenceIdeal.Run
public import proofs.«01_k».proof.Proof.Region

/-! # The frames -/

@[expose] public section

noncomputable section

namespace Cert.K01

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

variable (m : (ℓ : Loc nD τ sig) → Buf (Elt F) ℓ) (ρ : Dev nD → PrngReg)

/-- At the end of a run each device's arguments hold what they held. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (finalA_in m ρ c 0 (by decide)), ((h c).1 1).trans (finalA_in m ρ c 1 (by decide)), (h c).2.1, (h c).2.2,
    ((h c).1 2).trans (finalA_in m ρ c 2 (by decide))⟩

/-- `Cert.quiescent_KernelIdeal`: the run over the extended reals. -/
theorem frame_ideal : Cert.quiescent_KernelIdeal := fun m ρ _ =>
  (θ_run Cert.KernelIdeal.defs _ _).mono (fun _ h => ⟨args_kept m ρ h.1, h.2⟩) (run_main (F := Ideal) m ρ)
/-- The kernel over float words has the same body table, -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  obtain ⟨_ | l, hl⟩ := l
  · rfl
  · exact absurd hl (Nat.not_lt.2 (Nat.le_add_left _ _))
/-- with its pipeline. -/
theorem defs_eq : @Cert.Kernel.defs Bits _ Cert.Kernel.Gen.facts = @Cert.KernelIdeal.defs Bits _ Cert.KernelIdeal.Gen.facts :=
  congrArg (Pipeline.defs Cert.KernelIdeal.pcfgs) defs₀_eq
/-- `Cert.quiescent_Kernel`: the same run over float words. -/
theorem frame_kernel : Cert.quiescent_Kernel := fun m ρ _ => by
  rw [defs_eq]
  exact (θ_run Cert.KernelIdeal.defs _ _).mono (fun _ h => ⟨args_kept m ρ h.1, h.2⟩) (run_main (F := Bits) m ρ)
/-- `Cert.quiescent_ReferenceIdeal`: the reference has no semaphores. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.K01
-- ==== Proof.Value.lean ====
module

public import proofs.«01_k».proof.Proof.HeadValue
public import proofs.«01_k».proof.Proof.Frames

/-! # The value claim

On finite `x`, `Wq` and `K_ext` the kernel's result, the same on all 32 devices, is the reference's. -/

@[expose] public section

noncomputable section

namespace Cert.K01

open Cert.KernelIdeal Cert.KernelIdeal.Gen
open Idealize.ShloMosaic Idealize.ShloMosaic.TcCoe Idealize.SL.Sem

/-! ## The windows cover their arrays -/

section Windows

variable {F : FTy → Type} [FloatOps F] (m : (ℓ : Loc nD τ sig) → Buf (Elt F) ℓ) (ρ : Dev nD → PrngReg)

theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem wqstg_eq (c : Dev nD) : wqstg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem wostg_eq (c : Dev nD) : wostg m ρ c = m ((c.tc : Thread nD τ).loc main_arg4) := by
  have hz : (fun a => (win0_2.index (0 : Fin 1)) a * main_arg4.ty.shape.size a) = fun _ => 0 :=
    funext fun a => by fin_cases a <;> decide
  exact Memref.read_access_unit_zero (Elt F) main_arg4 hz (fun a => by fin_cases a <;> decide) _

/-- The result array ends as the body leaves its staging buffer. -/
theorem finalA_out (c : Dev nD) : finalA m ρ c (3 : Fin 4) = outAt m ρ := by
  have hz : (fun a => (win0_3.index (0 : Fin 1)) a * main_v1.ty.shape.size a) = fun _ => 0 :=
    funext fun a => by fin_cases a <;> decide
  refine (Memref.read_access_unit_zero (Elt F) main_v1 hz (fun a => by fin_cases a <;> decide) _).symm.trans ?_
  show (win0_3.blk (0 : Fin 1)).view.read (Elt F) (finalA m ρ c (3 : Fin 4)) = outAt m ρ
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Windows

/-! ## The exchange adds the devices' shares -/

variable (m : (ℓ : Loc nD τ sig) → Buf (Elt Ideal) ℓ) (ρ : Dev nD → PrngReg)

/-- A sum over the devices, from device `j` on. -/
theorem sum_from_dev (j : Fin 32) (f : Fin 32 → EReal) : f j + ∑ i : Fin 31, f (j + i.succ) = ∑ c, f c := by
  have h := Fintype.sum_equiv (⟨fun i => j + i, fun c => c - j, fun i => sub_add_dev j i, fun c => add_sub_dev c j⟩ : Fin 32 ≃ Fin 32)
    (fun i => f (j + i)) f fun _ => rfl
  rw [← h, Fin.sum_univ_succ]
  congr 2
  exact ((add_eq_dev j 0).2 rfl).symm

/-- Row `i` of batch `b` among the 1024 rows. -/
def flat (b : Fin 2) (i : Fin 512) : Fin 1024 := ⟨b.val * 512 + i.val, by omega⟩

theorem pay42_apply (own : Vec Ideal S32x768 .bf16) (rcv : Vec Ideal S31x32x768 .bf16) (r : Fin 32) (n : Fin 768) :
    k0_pay42 own rcv (ix2 r n) = own (ix2 r n) + ∑ i : Fin 31, rcv (ix3 i r n) := by
  pointwise [k0_pay42]

theorem pay43_apply (t : Vec Ideal S1024x768 .bf16) (b : Fin 2) (i : Fin 512) (n : Fin 768) :
    k0_pay43 t (ix3 b i n) = t (ix2 (flat b i) n) := by
  pointwise [k0_pay43]
  rfl

theorem P_apply {A : Whole} (hx : ∀ j, IsReal (A.x j)) (hw : ∀ j, IsReal (A.wq j)) (hk : ∀ j, IsReal (A.k j))
    {c : Dev nD} (hI : Part A c (inp m ρ c)) (b : Fin 2) (i : Fin 512) (n : Fin 768) :
    P m ρ c (ix2 (flat b i) n) = A.part c b i n := by
  unfold P
  by_cases hb : b = 0
  · subst hb
    have hlt : (flat 0 i).val < 512 := by show 0 * 512 + i.val < 512; omega
    refine (dif_pos hlt).trans ?_
    refine Eq.trans ?_ (out0_apply hx hw hk hI i n)
    refine congrArg (out0 (inp m ρ c)) (Eq.trans ?_ (ix2_eq_valueIdx i n).symm)
    refine congrArg (fun r => ValueIdx.ix2 r n) (Fin.ext ?_)
    show 0 * 512 + i.val = i.val
    omega
  · have hb : b = 1 := by omega
    subst hb
    have hlt : ¬ (flat 1 i).val < 512 := by show ¬ 1 * 512 + i.val < 512; omega
    refine (dif_neg hlt).trans ?_
    refine Eq.trans ?_ (out1_apply hx hw hk hI i n)
    refine congrArg (out1 (inp m ρ c)) (Eq.trans ?_ (ix2_eq_valueIdx i n).symm)
    refine congrArg (fun r => ValueIdx.ix2 r n) (Fin.ext ?_)
    show 1 * 512 + i.val - 512 = i.val
    omega

/-- The gathered rows are the sums of the devices' shares. -/
theorem T_apply (i : Fin 1024) (n : Fin 768) : T m ρ (ix2 i n) = ∑ c : Fin 32, (show EReal from P m ρ c (ix2 i n)) := by
  rw [← sum_from_dev ⟨i.val / 32, by omega⟩ fun c => (show EReal from P m ρ c (ix2 i n))]
  have hrow : row ⟨i.val / 32, by omega⟩ ⟨i.val % 32, by omega⟩ = i := Fin.ext (Nat.div_add_mod i.val 32)
  have hT : T m ρ (ix2 i n) = tot m ρ (⟨i.val / 32, by omega⟩ : Fin 32) (ix2 ⟨i.val % 32, by omega⟩ n) := by
    refine Eq.trans ?_ (congrArg (tot m ρ _) (ix2_eq_valueIdx _ _).symm)
    rfl
  refine hT.trans ?_
  unfold tot
  rw [pay42_apply]
  have hP : ∀ d : Dev nD, chunk m ρ d ⟨i.val / 32, by omega⟩ (ix2 ⟨i.val % 32, by omega⟩ n) = P m ρ d (ix2 i n) := by
    intro d
    refine Eq.trans ?_ (congrArg (fun r => P m ρ d (ix2 r n)) hrow)
    unfold chunk
    rw [ix2_eq_valueIdx, ix2_eq_valueIdx]
  congr 1
  · exact hP _
  · refine Finset.sum_congr rfl fun e _ => ?_
    refine Eq.trans ?_ (hP _)
    unfold R
    rw [ix3_eq_valueIdx, ix2_eq_valueIdx]
    rfl

theorem outAt_apply {A : Whole} (hx : ∀ j, IsReal (A.x j)) (hw : ∀ j, IsReal (A.wq j)) (hk : ∀ j, IsReal (A.k j))
    (hI : ∀ c : Dev nD, Part A c (inp m ρ c)) (b : Fin 2) (i : Fin 512) (n : Fin 768) :
    outAt m ρ (ix3 b i n) = A.out b i n := by
  refine (pay43_apply (T m ρ) b i n).trans ?_
  rw [T_apply, ← sum_part]
  exact Finset.sum_congr rfl fun c _ => P_apply m ρ hx hw hk (hI c) b i n

/-! ## The precondition -/

theorem ofBits_inf : Ideal.ofBits .f32 0x7F800000#32 = ⊤ := by
  simp [Ideal.ofBits, Ideal.ieee]

theorem real_of_olt {a : EReal} (h : BitVec.ofBool (decide (max a (-a) < Ideal.ofBits .f32 0x7F800000#32)) = 1#1) : IsReal a := by
  rw [ofBits_inf] at h
  refine isReal_of_lt ?_
  by_contra hn
  rw [decide_eq_false hn] at h
  exact absurd h (by decide)

instance preFacts : Cert.Pre_finite_KernelIdeal.Facts where
  bcast_S_S2x512x768 := by decide
  bcast_S_S768x512 := by decide
  bcast_S_S2x512x256x64 := by decide

instance preFactsRef : Cert.Pre_finite_ReferenceIdeal.Facts where
  bcast_S_S2x512x768 := by decide
  bcast_S_S768x16384 := by decide
  bcast_S_S2x512x256x64 := by decide

theorem finite_x (h : Cert.Pre_KernelIdeal_finite_KernelIdeal m) (c : Dev nD) (b : Fin 2) (i : Fin 512) (e : Fin 768) :
    IsReal ((show FVec Ideal S2x512x768 .f32 from m ((c.tc : Thread nD τ).loc main_arg0)) (ix3 b i e)) := by
  have h1 := congrFun (h c).1 (ix3 b i e)
  revert h1
  unfold Cert.Pre_finite_KernelIdeal.fn
  generalize m ((c.tc : Thread nD τ).loc main_arg0) = x
  pointwise []
  exact real_of_olt

theorem finite_wq (h : Cert.Pre_KernelIdeal_finite_KernelIdeal m) (c : Dev nD) (e : Fin 768) (k : Fin 512) :
    IsReal ((show FVec Ideal S768x512 .f32 from m ((c.tc : Thread nD τ).loc main_arg1)) (ix2 e k)) := by
  have h1 := congrFun (h c).2.1 (ix2 e k)
  revert h1
  unfold Cert.Pre_finite_KernelIdeal.fn
  generalize m ((c.tc : Thread nD τ).loc main_arg1) = x
  pointwise []
  exact real_of_olt

theorem finite_k (h : Cert.Pre_KernelIdeal_finite_KernelIdeal m) (c : Dev nD) (b : Fin 2) (j : Fin 512) (H : Fin 256) (d : Fin 64) :
    IsReal ((show FVec Ideal S2x512x256x64 .f32 from m ((c.tc : Thread nD τ).loc main_arg2)) (ix4 b j H d)) := by
  have h1 := congrFun (h c).2.2 (ix4 b j H d)
  revert h1
  unfold Cert.Pre_finite_KernelIdeal.fn
  generalize m ((c.tc : Thread nD τ).loc main_arg2) = x
  pointwise []
  exact real_of_olt

/-! ## The claim -/

/-- The reference's argument arrays. -/
def refArgs (m' : (ℓ : Loc Cert.ReferenceIdeal.nD Cert.ReferenceIdeal.τ Cert.ReferenceIdeal.sig) → Buf (Elt Ideal) ℓ) : Whole where
  x := m' (((0 : Dev Cert.ReferenceIdeal.nD).tc : Thread _ Cert.ReferenceIdeal.τ).loc Cert.ReferenceIdeal.main_arg0)
  wq := m' (((0 : Dev Cert.ReferenceIdeal.nD).tc : Thread _ Cert.ReferenceIdeal.τ).loc Cert.ReferenceIdeal.main_arg1)
  k := m' (((0 : Dev Cert.ReferenceIdeal.nD).tc : Thread _ Cert.ReferenceIdeal.τ).loc Cert.ReferenceIdeal.main_arg2)
  v := m' (((0 : Dev Cert.ReferenceIdeal.nD).tc : Thread _ Cert.ReferenceIdeal.τ).loc Cert.ReferenceIdeal.main_arg3)
  wo := m' (((0 : Dev Cert.ReferenceIdeal.nD).tc : Thread _ Cert.ReferenceIdeal.τ).loc Cert.ReferenceIdeal.main_arg4)

/-- Each device's arrays are its parts of `A`: three of them whole, its 512 columns of `Wq`, its 512 rows of `Wo`. -/
structure Agrees (A : Whole) : Prop where
  x : ∀ c : Dev nD, m ((c.tc : Thread nD τ).loc main_arg0) = A.x
  wq : ∀ c : Dev nD, m ((c.tc : Thread nD τ).loc main_arg1) = Layout.block ⟨2, ![768, 512]⟩ ⟨2, ![768, 16384]⟩ 1 32 c A.wq
  k : ∀ c : Dev nD, m ((c.tc : Thread nD τ).loc main_arg2) = A.k
  v : ∀ c : Dev nD, m ((c.tc : Thread nD τ).loc main_arg3) = A.v
  wo : ∀ c : Dev nD, m ((c.tc : Thread nD τ).loc main_arg4) = Layout.block ⟨2, ![512, 768]⟩ ⟨2, ![16384, 768]⟩ 0 32 c A.wo

theorem block_wq (w : (⟨2, ![768, 16384]⟩ : Shape).Idx → EReal) (c : Fin 32) (e : Fin 768) (k : Fin 512) :
    Layout.block ⟨2, ![768, 512]⟩ ⟨2, ![768, 16384]⟩ 1 32 c w (by decide) (ix2 e k) = w (ix2 e ⟨512 * c.val + k.val, by omega⟩) := by
  refine congrArg w ?_
  funext a
  fin_cases a <;> apply Fin.ext
  · rfl
  · show c.val * 512 + k.val = 512 * c.val + k.val
    omega

theorem block_wo (w : (⟨2, ![16384, 768]⟩ : Shape).Idx → EReal) (c : Fin 32) (k : Fin 512) (n : Fin 768) :
    Layout.block ⟨2, ![512, 768]⟩ ⟨2, ![16384, 768]⟩ 0 32 c w (by decide) (ix2 k n) = w (ix2 ⟨512 * c.val + k.val, by omega⟩ n) := by
  refine congrArg w ?_
  funext a
  fin_cases a <;> apply Fin.ext
  · show c.val * 512 + k.val = 512 * c.val + k.val
    omega
  · rfl

variable {m}

theorem Agrees.part {A : Whole} (h : Agrees m A) (c : Dev nD) : Part A c (inp m ρ c) where
  x b i e := congrFun ((xstg_eq m ρ c).trans (h.x c)) _
  wq e k := (congrFun ((wqstg_eq m ρ c).trans (h.wq c)) _).trans (block_wq A.wq c e k)
  wo k n := (congrFun ((wostg_eq m ρ c).trans (h.wo c)) _).trans (block_wo A.wo c k n)
  k b hh j d := (congrFun (h.k c) _).trans (congrArg A.k (ix4_eq_valueIdx _ _ _ _).symm)
  v b hh j d := (congrFun (h.v c) _).trans (congrArg A.v (ix4_eq_valueIdx _ _ _ _).symm)

theorem Agrees.real_x {A : Whole} (h : Agrees m A) (hp : Cert.Pre_KernelIdeal_finite_KernelIdeal m) (j) : IsReal (A.x j) := by
  idx_vars j
  rw [← h.x 0]
  exact finite_x m hp 0 j0 j1 j2

theorem Agrees.real_k {A : Whole} (h : Agrees m A) (hp : Cert.Pre_KernelIdeal_finite_KernelIdeal m) (j) : IsReal (A.k j) := by
  idx_vars j
  rw [← h.k 0]
  exact finite_k m hp 0 j0 j1 j2 j3

/-- A column of `Wq` is one of the columns of the device it falls to. -/
theorem Agrees.real_wq {A : Whole} (h : Agrees m A) (hp : Cert.Pre_KernelIdeal_finite_KernelIdeal m) (j) : IsReal (A.wq j) := by
  idx_vars j
  have hc : j1.val / 512 < 32 := by omega
  have hk : j1.val % 512 < 512 := by omega
  have hf := finite_wq m hp (⟨j1.val / 512, hc⟩ : Fin 32) j0 ⟨j1.val % 512, hk⟩
  have he := (congrFun (h.wq (⟨j1.val / 512, hc⟩ : Fin 32)) (ix2 j0 ⟨j1.val % 512, hk⟩)).trans (block_wq A.wq _ j0 _)
  have hj : (⟨512 * (j1.val / 512) + j1.val % 512, by omega⟩ : Fin 16384) = j1 := Fin.ext (Nat.div_add_mod j1.val 512)
  exact (congrArg (fun X => IsReal (A.wq (ix2 j0 X))) hj).mp ((congrArg IsReal he).mp hf)

/-- The kernel's result is the reference's. -/
theorem outAt_eq (m' : (ℓ : Loc Cert.ReferenceIdeal.nD Cert.ReferenceIdeal.τ Cert.ReferenceIdeal.sig) → Buf (Elt Ideal) ℓ)
    (h : Agrees m (refArgs m')) (hp : Cert.Pre_KernelIdeal_finite_KernelIdeal m) :
    outAt m ρ = Cert.ReferenceIdeal.Value.res_main_v42 m' 0 := by
  rw [Ref.res_eq]
  funext j
  idx_vars j
  refine (outAt_apply m ρ (h.real_x hp) (h.real_wq hp) (h.real_k hp) (h.part ρ) j0 j1 j2).trans ?_
  exact (Ref.out_apply (refArgs m') j0 j1 j2).symm

/-- `Cert.algebraic_KernelIdeal_ReferenceIdeal_pre_finite_KernelIdeal`: the kernel's run ends with the reference's result on
    every device. -/
theorem algebraic : Cert.algebraic_KernelIdeal_ReferenceIdeal_pre_finite_KernelIdeal := by
  intro m g m' g' hp hag
  have h : Agrees m (refArgs m') := ⟨fun c => (hag c).1, fun c => (hag c).2.1, fun c => (hag c).2.2.1, fun c => (hag c).2.2.2.1, fun c => (hag c).2.2.2.2⟩
  refine ⟨Cert.ReferenceIdeal.Value.res_main_v42 m' 0, ?_, ?_⟩
  · exact (θ_run Cert.KernelIdeal.defs _ _).mono
      (fun _ hr c => ⟨((hr.1 c).1 (3 : Fin 4)).trans ((finalA_out m g c).trans (outAt_eq g m' h hp)), args_kept m g hr.1 c⟩)
      (run_main (F := Ideal) m g)
  · exact (θ_run Cert.ReferenceIdeal.defs _ _).mono (fun _ hr => hr 0) (Cert.ReferenceIdeal.Value.run (F := Ideal) m' g')

/-- The frames under the precondition are the frames. -/
theorem frame_ideal_finite : Cert.quiescent_KernelIdeal_pre_finite_KernelIdeal := fun m g _ => frame_ideal m g trivial
theorem frame_ref_finite : Cert.quiescent_ReferenceIdeal_pre_finite_ReferenceIdeal := fun m g _ => frame_ref m g trivial

end Cert.K01
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.K01.preFacts, Cert.K01.preFactsRef, Cert.K01.frame_kernel, Cert.K01.frame_ideal, Cert.K01.frame_ideal_finite,
  Cert.K01.frame_ref, Cert.K01.frame_ref_finite, trivial, Cert.K01.algebraic⟩

end Cert.Proof

end
